-- ==== Defs.lean ====
def Pre_Dispatch [hPre_dest_names_distinct_slots : Cert.Pre_dest_names_distinct_slots.Facts] (m : (ℓ : Loc Cert.Dispatch.nD Cert.Dispatch.τ Cert.Dispatch.sig) → Buf (Elt Bits) ℓ) : Prop :=
  ∀ c : Dev Cert.Dispatch.nD,
    (Cert.Pre_dest_names_distinct_slots.fn (F := Bits) (m ((c.tc : Thread Cert.Dispatch.nD Cert.Dispatch.τ).loc Cert.Dispatch.main_arg0)) (m ((c.tc : Thread Cert.Dispatch.nD Cert.Dispatch.τ).loc Cert.Dispatch.main_arg1))) = (fun _ => 1#1)

def Pre_DispatchIdeal [hPre_dest_names_distinct_slots : Cert.Pre_dest_names_distinct_slots.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_dest_names_distinct_slots.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))) = (fun _ => 1#1)

def Pre_DispatchRefIdeal (m : (ℓ : Loc Cert.DispatchRefIdeal.nD Cert.DispatchRefIdeal.τ Cert.DispatchRefIdeal.sig) → Buf (Elt Ideal) ℓ) : Prop :=
  True

def Pre_DispatchRefIdeal_dest_names_distinct_slots [hPre_dest_names_distinct_slots : Cert.Pre_dest_names_distinct_slots.Facts] (m : (ℓ : Loc Cert.DispatchRefIdeal.nD Cert.DispatchRefIdeal.τ Cert.DispatchRefIdeal.sig) → Buf (Elt Ideal) ℓ) : Prop :=
  ∀ c : Dev Cert.DispatchRefIdeal.nD,
    (Cert.Pre_dest_names_distinct_slots.fn (F := Ideal) (m ((c.tc : Thread Cert.DispatchRefIdeal.nD Cert.DispatchRefIdeal.τ).loc Cert.DispatchRefIdeal.main_arg0)) (m ((c.tc : Thread Cert.DispatchRefIdeal.nD Cert.DispatchRefIdeal.τ).loc Cert.DispatchRefIdeal.main_arg1))) = (fun _ => 1#1)

def Pre_DispatchRef [hPre_dest_names_distinct_slots : Cert.Pre_dest_names_distinct_slots.Facts] (m : (ℓ : Loc Cert.DispatchRef.nD Cert.DispatchRef.τ Cert.DispatchRef.sig) → Buf (Elt Bits) ℓ) : Prop :=
  ∀ c : Dev Cert.DispatchRef.nD,
    (Cert.Pre_dest_names_distinct_slots.fn (F := Bits) (m ((c.tc : Thread Cert.DispatchRef.nD Cert.DispatchRef.τ).loc Cert.DispatchRef.main_arg0)) (m ((c.tc : Thread Cert.DispatchRef.nD Cert.DispatchRef.τ).loc Cert.DispatchRef.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ProjectA (m : (ℓ : Loc Cert.ProjectA.nD Cert.ProjectA.τ Cert.ProjectA.sig) → Buf (Elt Bits) ℓ) : Prop :=
  True

def Pre_ProjectAIdeal (m : (ℓ : Loc Cert.ProjectAIdeal.nD Cert.ProjectAIdeal.τ Cert.ProjectAIdeal.sig) → Buf (Elt Ideal) ℓ) : Prop :=
  True

def Pre_ProjectARefIdeal (m : (ℓ : Loc Cert.ProjectARefIdeal.nD Cert.ProjectARefIdeal.τ Cert.ProjectARefIdeal.sig) → Buf (Elt Ideal) ℓ) : Prop :=
  True

def Pre_ProjectB (m : (ℓ : Loc Cert.ProjectB.nD Cert.ProjectB.τ Cert.ProjectB.sig) → Buf (Elt Bits) ℓ) : Prop :=
  True

def Pre_ProjectBIdeal (m : (ℓ : Loc Cert.ProjectBIdeal.nD Cert.ProjectBIdeal.τ Cert.ProjectBIdeal.sig) → Buf (Elt Ideal) ℓ) : Prop :=
  True

def Pre_ProjectBRefIdeal (m : (ℓ : Loc Cert.ProjectBRefIdeal.nD Cert.ProjectBRefIdeal.τ Cert.ProjectBRefIdeal.sig) → Buf (Elt Ideal) ℓ) : Prop :=
  True

def Pre_ProjectC (m : (ℓ : Loc Cert.ProjectC.nD Cert.ProjectC.τ Cert.ProjectC.sig) → Buf (Elt Bits) ℓ) : Prop :=
  True

def Pre_ProjectCIdeal (m : (ℓ : Loc Cert.ProjectCIdeal.nD Cert.ProjectCIdeal.τ Cert.ProjectCIdeal.sig) → Buf (Elt Ideal) ℓ) : Prop :=
  True

def Pre_ProjectCRefIdeal (m : (ℓ : Loc Cert.ProjectCRefIdeal.nD Cert.ProjectCRefIdeal.τ Cert.ProjectCRefIdeal.sig) → Buf (Elt Ideal) ℓ) : Prop :=
  True

def Pre_ProjectD (m : (ℓ : Loc Cert.ProjectD.nD Cert.ProjectD.τ Cert.ProjectD.sig) → Buf (Elt Bits) ℓ) : Prop :=
  True

def Pre_ProjectDIdeal (m : (ℓ : Loc Cert.ProjectDIdeal.nD Cert.ProjectDIdeal.τ Cert.ProjectDIdeal.sig) → Buf (Elt Ideal) ℓ) : Prop :=
  True

def Pre_ProjectDRefIdeal (m : (ℓ : Loc Cert.ProjectDRefIdeal.nD Cert.ProjectDRefIdeal.τ Cert.ProjectDRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Experts [hPre_blocks_name_experts : Cert.Pre_blocks_name_experts.Facts] (m : (ℓ : Loc Cert.Experts.nD Cert.Experts.τ Cert.Experts.sig) → Buf (Elt Bits) ℓ) : Prop :=
  ∀ c : Dev Cert.Experts.nD,
    (Cert.Pre_blocks_name_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_blocks_name_experts : Cert.Pre_blocks_name_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_name_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_blocks_name_experts [hPre_blocks_name_experts : Cert.Pre_blocks_name_experts.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_blocks_name_experts.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Dispatch [hDispatch : Cert.Dispatch.Facts] [hPre_dest_names_distinct_slots : Cert.Pre_dest_names_distinct_slots.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1))
      ∧ r.2.sem = fun _ => 0)

def quiescent_DispatchIdeal [hDispatchIdeal : Cert.DispatchIdeal.Facts] [hPre_dest_names_distinct_slots : Cert.Pre_dest_names_distinct_slots.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchRefIdeal [hDispatchRefIdeal : Cert.DispatchRefIdeal.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1))
      ∧ r.2.sem = fun _ => 0)

def quiescent_DispatchRefIdeal_pre_dest_names_distinct_slots [hDispatchRefIdeal : Cert.DispatchRefIdeal.Facts] [hPre_dest_names_distinct_slots : Cert.Pre_dest_names_distinct_slots.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal_dest_names_distinct_slots m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1))
      ∧ r.2.sem = fun _ => 0)

def quiescent_DispatchRef [hDispatchRef : Cert.DispatchRef.Facts] [hPre_dest_names_distinct_slots : Cert.Pre_dest_names_distinct_slots.Facts] : Prop :=
  ∀ (m : (ℓ : Loc Cert.DispatchRef.nD Cert.DispatchRef.τ Cert.DispatchRef.sig) → Buf (Elt Bits) ℓ) (g : Dev Cert.DispatchRef.nD → PrngReg), Pre_DispatchRef m →
    θ_run (Cert.DispatchRef.defs (F := Bits)) (onTc (τ := Cert.DispatchRef.τ) (Cert.DispatchRef.main (F := Bits))) ⟨m, fun _ => 0, g⟩ (fun r => (∀ c : Dev Cert.DispatchRef.nD,
      r.2.mem ((c.tc : Thread Cert.DispatchRef.nD Cert.DispatchRef.τ).loc Cert.DispatchRef.main_arg0) = m ((c.tc : Thread Cert.DispatchRef.nD Cert.DispatchRef.τ).loc Cert.DispatchRef.main_arg0)
      ∧ r.2.mem ((c.tc : Thread Cert.DispatchRef.nD Cert.DispatchRef.τ).loc Cert.DispatchRef.main_arg1) = m ((c.tc : Thread Cert.DispatchRef.nD Cert.DispatchRef.τ).loc Cert.DispatchRef.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_ProjectA [hProjectA : Cert.ProjectA.Facts] : Prop :=
  ∀ (m : (ℓ : Loc Cert.ProjectA.nD Cert.ProjectA.τ Cert.ProjectA.sig) → Buf (Elt Bits) ℓ) (g : Dev Cert.ProjectA.nD → PrngReg), Pre_ProjectA m →
    θ_run (Cert.ProjectA.defs (F := Bits)) (onTc (τ := Cert.ProjectA.τ) (Cert.ProjectA.main (F := Bits))) ⟨m, fun _ => 0, g⟩ (fun r => (∀ c : Dev Cert.ProjectA.nD,
      r.2.mem ((c.tc : Thread Cert.ProjectA.nD Cert.ProjectA.τ).loc Cert.ProjectA.main_arg0) = m ((c.tc : Thread Cert.ProjectA.nD Cert.ProjectA.τ).loc Cert.ProjectA.main_arg0)
      ∧ r.2.mem ((c.tc : Thread Cert.ProjectA.nD Cert.ProjectA.τ).loc Cert.ProjectA.main_arg1) = m ((c.tc : Thread Cert.ProjectA.nD Cert.ProjectA.τ).loc Cert.ProjectA.main_arg1))
      ∧ r.2.sem = fun _ => 0)

def quiescent_ProjectAIdeal [hProjectAIdeal : Cert.ProjectAIdeal.Facts] : Prop :=
  ∀ (m : (ℓ : Loc Cert.ProjectAIdeal.nD Cert.ProjectAIdeal.τ Cert.ProjectAIdeal.sig) → Buf (Elt Ideal) ℓ) (g : Dev Cert.ProjectAIdeal.nD → PrngReg), Pre_ProjectAIdeal m →
    θ_run (Cert.ProjectAIdeal.defs (F := Ideal)) (onTc (τ := Cert.ProjectAIdeal.τ) (Cert.ProjectAIdeal.main (F := Ideal))) ⟨m, fun _ => 0, g⟩ (fun r => (∀ c : Dev Cert.ProjectAIdeal.nD,
      r.2.mem ((c.tc : Thread Cert.ProjectAIdeal.nD Cert.ProjectAIdeal.τ).loc Cert.ProjectAIdeal.main_arg0) = m ((c.tc : Thread Cert.ProjectAIdeal.nD Cert.ProjectAIdeal.τ).loc Cert.ProjectAIdeal.main_arg0)
      ∧ r.2.mem ((c.tc : Thread Cert.ProjectAIdeal.nD Cert.ProjectAIdeal.τ).loc Cert.ProjectAIdeal.main_arg1) = m ((c.tc : Thread Cert.ProjectAIdeal.nD Cert.ProjectAIdeal.τ).loc Cert.ProjectAIdeal.main_arg1))
      ∧ r.2.sem = fun _ => 0)

def quiescent_ProjectARefIdeal [hProjectARefIdeal : Cert.ProjectARefIdeal.Facts] : Prop :=
  ∀ (m : (ℓ : Loc Cert.ProjectARefIdeal.nD Cert.ProjectARefIdeal.τ Cert.ProjectARefIdeal.sig) → Buf (Elt Ideal) ℓ) (g : Dev Cert.ProjectARefIdeal.nD → PrngReg), Pre_ProjectARefIdeal m →
    θ_run (Cert.ProjectARefIdeal.defs (F := Ideal)) (onTc (τ := Cert.ProjectARefIdeal.τ) (Cert.ProjectARefIdeal.main (F := Ideal))) ⟨m, fun _ => 0, g⟩ (fun r => (∀ c : Dev Cert.ProjectARefIdeal.nD,
      r.2.mem ((c.tc : Thread Cert.ProjectARefIdeal.nD Cert.ProjectARefIdeal.τ).loc Cert.ProjectARefIdeal.main_arg0) = m ((c.tc : Thread Cert.ProjectARefIdeal.nD Cert.ProjectARefIdeal.τ).loc Cert.ProjectARefIdeal.main_arg0)
      ∧ r.2.mem ((c.tc : Thread Cert.ProjectARefIdeal.nD Cert.ProjectARefIdeal.τ).loc Cert.ProjectARefIdeal.main_arg1) = m ((c.tc : Thread Cert.ProjectARefIdeal.nD Cert.ProjectARefIdeal.τ).loc Cert.ProjectARefIdeal.main_arg1))
      ∧ r.2.sem = fun _ => 0)

def quiescent_ProjectB [hProjectB : Cert.ProjectB.Facts] : Prop :=
  ∀ (m : (ℓ : Loc Cert.ProjectB.nD Cert.ProjectB.τ Cert.ProjectB.sig) → Buf (Elt Bits) ℓ) (g : Dev Cert.ProjectB.nD → PrngReg), Pre_ProjectB m →
    θ_run (Cert.ProjectB.defs (F := Bits)) (onTc (τ := Cert.ProjectB.τ) (Cert.ProjectB.main (F := Bits))) ⟨m, fun _ => 0, g⟩ (fun r => (∀ c : Dev Cert.ProjectB.nD,
      r.2.mem ((c.tc : Thread Cert.ProjectB.nD Cert.ProjectB.τ).loc Cert.ProjectB.main_arg0) = m ((c.tc : Thread Cert.ProjectB.nD Cert.ProjectB.τ).loc Cert.ProjectB.main_arg0)
      ∧ r.2.mem ((c.tc : Thread Cert.ProjectB.nD Cert.ProjectB.τ).loc Cert.ProjectB.main_arg1) = m ((c.tc : Thread Cert.ProjectB.nD Cert.ProjectB.τ).loc Cert.ProjectB.main_arg1))
      ∧ r.2.sem = fun _ => 0)

def quiescent_ProjectBIdeal [hProjectBIdeal : Cert.ProjectBIdeal.Facts] : Prop :=
  ∀ (m : (ℓ : Loc Cert.ProjectBIdeal.nD Cert.ProjectBIdeal.τ Cert.ProjectBIdeal.sig) → Buf (Elt Ideal) ℓ) (g : Dev Cert.ProjectBIdeal.nD → PrngReg), Pre_ProjectBIdeal m →
    θ_run (Cert.ProjectBIdeal.defs (F := Ideal)) (onTc (τ := Cert.ProjectBIdeal.τ) (Cert.ProjectBIdeal.main (F := Ideal))) ⟨m, fun _ => 0, g⟩ (fun r => (∀ c : Dev Cert.ProjectBIdeal.nD,
      r.2.mem ((c.tc : Thread Cert.ProjectBIdeal.nD Cert.ProjectBIdeal.τ).loc Cert.ProjectBIdeal.main_arg0) = m ((c.tc : Thread Cert.ProjectBIdeal.nD Cert.ProjectBIdeal.τ).loc Cert.ProjectBIdeal.main_arg0)
      ∧ r.2.mem ((c.tc : Thread Cert.ProjectBIdeal.nD Cert.ProjectBIdeal.τ).loc Cert.ProjectBIdeal.main_arg1) = m ((c.tc : Thread Cert.ProjectBIdeal.nD Cert.ProjectBIdeal.τ).loc Cert.ProjectBIdeal.main_arg1))
      ∧ r.2.sem = fun _ => 0)

def quiescent_ProjectBRefIdeal [hProjectBRefIdeal : Cert.ProjectBRefIdeal.Facts] : Prop :=
  ∀ (m : (ℓ : Loc Cert.ProjectBRefIdeal.nD Cert.ProjectBRefIdeal.τ Cert.ProjectBRefIdeal.sig) → Buf (Elt Ideal) ℓ) (g : Dev Cert.ProjectBRefIdeal.nD → PrngReg), Pre_ProjectBRefIdeal m →
    θ_run (Cert.ProjectBRefIdeal.defs (F := Ideal)) (onTc (τ := Cert.ProjectBRefIdeal.τ) (Cert.ProjectBRefIdeal.main (F := Ideal))) ⟨m, fun _ => 0, g⟩ (fun r => (∀ c : Dev Cert.ProjectBRefIdeal.nD,
      r.2.mem ((c.tc : Thread Cert.ProjectBRefIdeal.nD Cert.ProjectBRefIdeal.τ).loc Cert.ProjectBRefIdeal.main_arg0) = m ((c.tc : Thread Cert.ProjectBRefIdeal.nD Cert.ProjectBRefIdeal.τ).loc Cert.ProjectBRefIdeal.main_arg0)
      ∧ r.2.mem ((c.tc : Thread Cert.ProjectBRefIdeal.nD Cert.ProjectBRefIdeal.τ).loc Cert.ProjectBRefIdeal.main_arg1) = m ((c.tc : Thread Cert.ProjectBRefIdeal.nD Cert.ProjectBRefIdeal.τ).loc Cert.ProjectBRefIdeal.main_arg1))
      ∧ r.2.sem = fun _ => 0)

def quiescent_ProjectC [hProjectC : Cert.ProjectC.Facts] : Prop :=
  ∀ (m : (ℓ : Loc Cert.ProjectC.nD Cert.ProjectC.τ Cert.ProjectC.sig) → Buf (Elt Bits) ℓ) (g : Dev Cert.ProjectC.nD → PrngReg), Pre_ProjectC m →
    θ_run (Cert.ProjectC.defs (F := Bits)) (onTc (τ := Cert.ProjectC.τ) (Cert.ProjectC.main (F := Bits))) ⟨m, fun _ => 0, g⟩ (fun r => (∀ c : Dev Cert.ProjectC.nD,
      r.2.mem ((c.tc : Thread Cert.ProjectC.nD Cert.ProjectC.τ).loc Cert.ProjectC.main_arg0) = m ((c.tc : Thread Cert.ProjectC.nD Cert.ProjectC.τ).loc Cert.ProjectC.main_arg0)
      ∧ r.2.mem ((c.tc : Thread Cert.ProjectC.nD Cert.ProjectC.τ).loc Cert.ProjectC.main_arg1) = m ((c.tc : Thread Cert.ProjectC.nD Cert.ProjectC.τ).loc Cert.ProjectC.main_arg1))
      ∧ r.2.sem = fun _ => 0)

def quiescent_ProjectCIdeal [hProjectCIdeal : Cert.ProjectCIdeal.Facts] : Prop :=
  ∀ (m : (ℓ : Loc Cert.ProjectCIdeal.nD Cert.ProjectCIdeal.τ Cert.ProjectCIdeal.sig) → Buf (Elt Ideal) ℓ) (g : Dev Cert.ProjectCIdeal.nD → PrngReg), Pre_ProjectCIdeal m →
    θ_run (Cert.ProjectCIdeal.defs (F := Ideal)) (onTc (τ := Cert.ProjectCIdeal.τ) (Cert.ProjectCIdeal.main (F := Ideal))) ⟨m, fun _ => 0, g⟩ (fun r => (∀ c : Dev Cert.ProjectCIdeal.nD,
      r.2.mem ((c.tc : Thread Cert.ProjectCIdeal.nD Cert.ProjectCIdeal.τ).loc Cert.ProjectCIdeal.main_arg0) = m ((c.tc : Thread Cert.ProjectCIdeal.nD Cert.ProjectCIdeal.τ).loc Cert.ProjectCIdeal.main_arg0)
      ∧ r.2.mem ((c.tc : Thread Cert.ProjectCIdeal.nD Cert.ProjectCIdeal.τ).loc Cert.ProjectCIdeal.main_arg1) = m ((c.tc : Thread Cert.ProjectCIdeal.nD Cert.ProjectCIdeal.τ).loc Cert.ProjectCIdeal.main_arg1))
      ∧ r.2.sem = fun _ => 0)

def quiescent_ProjectCRefIdeal [hProjectCRefIdeal : Cert.ProjectCRefIdeal.Facts] : Prop :=
  ∀ (m : (ℓ : Loc Cert.ProjectCRefIdeal.nD Cert.ProjectCRefIdeal.τ Cert.ProjectCRefIdeal.sig) → Buf (Elt Ideal) ℓ) (g : Dev Cert.ProjectCRefIdeal.nD → PrngReg), Pre_ProjectCRefIdeal m →
    θ_run (Cert.ProjectCRefIdeal.defs (F := Ideal)) (onTc (τ := Cert.ProjectCRefIdeal.τ) (Cert.ProjectCRefIdeal.main (F := Ideal))) ⟨m, fun _ => 0, g⟩ (fun r => (∀ c : Dev Cert.ProjectCRefIdeal.nD,
      r.2.mem ((c.tc : Thread Cert.ProjectCRefIdeal.nD Cert.ProjectCRefIdeal.τ).loc Cert.ProjectCRefIdeal.main_arg0) = m ((c.tc : Thread Cert.ProjectCRefIdeal.nD Cert.ProjectCRefIdeal.τ).loc Cert.ProjectCRefIdeal.main_arg0)
      ∧ r.2.mem ((c.tc : Thread Cert.ProjectCRefIdeal.nD Cert.ProjectCRefIdeal.τ).loc Cert.ProjectCRefIdeal.main_arg1) = m ((c.tc : Thread Cert.ProjectCRefIdeal.nD Cert.ProjectCRefIdeal.τ).loc Cert.ProjectCRefIdeal.main_arg1))
      ∧ r.2.sem = fun _ => 0)

def quiescent_ProjectD [hProjectD : Cert.ProjectD.Facts] : Prop :=
  ∀ (m : (ℓ : Loc Cert.ProjectD.nD Cert.ProjectD.τ Cert.ProjectD.sig) → Buf (Elt Bits) ℓ) (g : Dev Cert.ProjectD.nD → PrngReg), Pre_ProjectD m →
    θ_run (Cert.ProjectD.defs (F := Bits)) (onTc (τ := Cert.ProjectD.τ) (Cert.ProjectD.main (F := Bits))) ⟨m, fun _ => 0, g⟩ (fun r => (∀ c : Dev Cert.ProjectD.nD,
      r.2.mem ((c.tc : Thread Cert.ProjectD.nD Cert.ProjectD.τ).loc Cert.ProjectD.main_arg0) = m ((c.tc : Thread Cert.ProjectD.nD Cert.ProjectD.τ).loc Cert.ProjectD.main_arg0)
      ∧ r.2.mem ((c.tc : Thread Cert.ProjectD.nD Cert.ProjectD.τ).loc Cert.ProjectD.main_arg1) = m ((c.tc : Thread Cert.ProjectD.nD Cert.ProjectD.τ).loc Cert.ProjectD.main_arg1))
      ∧ r.2.sem = fun _ => 0)

def quiescent_ProjectDIdeal [hProjectDIdeal : Cert.ProjectDIdeal.Facts] : Prop :=
  ∀ (m : (ℓ : Loc Cert.ProjectDIdeal.nD Cert.ProjectDIdeal.τ Cert.ProjectDIdeal.sig) → Buf (Elt Ideal) ℓ) (g : Dev Cert.ProjectDIdeal.nD → PrngReg), Pre_ProjectDIdeal m →
    θ_run (Cert.ProjectDIdeal.defs (F := Ideal)) (onTc (τ := Cert.ProjectDIdeal.τ) (Cert.ProjectDIdeal.main (F := Ideal))) ⟨m, fun _ => 0, g⟩ (fun r => (∀ c : Dev Cert.ProjectDIdeal.nD,
      r.2.mem ((c.tc : Thread Cert.ProjectDIdeal.nD Cert.ProjectDIdeal.τ).loc Cert.ProjectDIdeal.main_arg0) = m ((c.tc : Thread Cert.ProjectDIdeal.nD Cert.ProjectDIdeal.τ).loc Cert.ProjectDIdeal.main_arg0)
      ∧ r.2.mem ((c.tc : Thread Cert.ProjectDIdeal.nD Cert.ProjectDIdeal.τ).loc Cert.ProjectDIdeal.main_arg1) = m ((c.tc : Thread Cert.ProjectDIdeal.nD Cert.ProjectDIdeal.τ).loc Cert.ProjectDIdeal.main_arg1))
      ∧ r.2.sem = fun _ => 0)

def quiescent_ProjectDRefIdeal [hProjectDRefIdeal : Cert.ProjectDRefIdeal.Facts] : Prop :=
  ∀ (m : (ℓ : Loc Cert.ProjectDRefIdeal.nD Cert.ProjectDRefIdeal.τ Cert.ProjectDRefIdeal.sig) → Buf (Elt Ideal) ℓ) (g : Dev Cert.ProjectDRefIdeal.nD → PrngReg), Pre_ProjectDRefIdeal m →
    θ_run (Cert.ProjectDRefIdeal.defs (F := Ideal)) (onTc (τ := Cert.ProjectDRefIdeal.τ) (Cert.ProjectDRefIdeal.main (F := Ideal))) ⟨m, fun _ => 0, g⟩ (fun r => (∀ c : Dev Cert.ProjectDRefIdeal.nD,
      r.2.mem ((c.tc : Thread Cert.ProjectDRefIdeal.nD Cert.ProjectDRefIdeal.τ).loc Cert.ProjectDRefIdeal.main_arg0) = m ((c.tc : Thread Cert.ProjectDRefIdeal.nD Cert.ProjectDRefIdeal.τ).loc Cert.ProjectDRefIdeal.main_arg0)
      ∧ r.2.mem ((c.tc : Thread Cert.ProjectDRefIdeal.nD Cert.ProjectDRefIdeal.τ).loc Cert.ProjectDRefIdeal.main_arg1) = m ((c.tc : Thread Cert.ProjectDRefIdeal.nD Cert.ProjectDRefIdeal.τ).loc Cert.ProjectDRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Experts [hExperts : Cert.Experts.Facts] [hPre_blocks_name_experts : Cert.Pre_blocks_name_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_blocks_name_experts : Cert.Pre_blocks_name_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_blocks_name_experts [hExpertsRefIdeal : Cert.ExpertsRefIdeal.Facts] [hPre_blocks_name_experts : Cert.Pre_blocks_name_experts.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_blocks_name_experts m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Dispatch_DispatchIdeal : Prop :=
  True

def bitexact_Dispatch_DispatchRef [hDispatch : Cert.Dispatch.Facts] [hDispatchRef : Cert.DispatchRef.Facts] [hPre_dest_names_distinct_slots : Cert.Pre_dest_names_distinct_slots.Facts] : Prop :=
  ∀ (m : (ℓ : Loc Cert.Dispatch.nD Cert.Dispatch.τ Cert.Dispatch.sig) → Buf (Elt Bits) ℓ) (g : Dev Cert.Dispatch.nD → PrngReg)
    (m' : (ℓ : Loc Cert.DispatchRef.nD Cert.DispatchRef.τ Cert.DispatchRef.sig) → Buf (Elt Bits) ℓ) (g' : Dev Cert.DispatchRef.nD → PrngReg), Pre_Dispatch m →
    (∀ c : Dev Cert.Dispatch.nD,
      m' ((c.tc : Thread Cert.DispatchRef.nD Cert.DispatchRef.τ).loc Cert.DispatchRef.main_arg0) = m ((c.tc : Thread Cert.Dispatch.nD Cert.Dispatch.τ).loc Cert.Dispatch.main_arg0)
      ∧ m' ((c.tc : Thread Cert.DispatchRef.nD Cert.DispatchRef.τ).loc Cert.DispatchRef.main_arg1) = m ((c.tc : Thread Cert.Dispatch.nD Cert.Dispatch.τ).loc Cert.Dispatch.main_arg1)) →
    ∃ (v0 : (c : Dev Cert.Dispatch.nD) → Buf (Elt Bits) ((c.tc : Thread Cert.Dispatch.nD Cert.Dispatch.τ).loc Cert.Dispatch.main_v0)),
      θ_run (Cert.Dispatch.defs (F := Bits)) (onTc (τ := Cert.Dispatch.τ) (Cert.Dispatch.main (F := Bits))) ⟨m, fun _ => 0, g⟩ (fun r => ∀ c : Dev Cert.Dispatch.nD,
          r.2.mem ((c.tc : Thread Cert.Dispatch.nD Cert.Dispatch.τ).loc Cert.Dispatch.main_v0) = v0 c
          ∧ r.2.mem ((c.tc : Thread Cert.Dispatch.nD Cert.Dispatch.τ).loc Cert.Dispatch.main_arg0) = m ((c.tc : Thread Cert.Dispatch.nD Cert.Dispatch.τ).loc Cert.Dispatch.main_arg0)
          ∧ r.2.mem ((c.tc : Thread Cert.Dispatch.nD Cert.Dispatch.τ).loc Cert.Dispatch.main_arg1) = m ((c.tc : Thread Cert.Dispatch.nD Cert.Dispatch.τ).loc Cert.Dispatch.main_arg1))
      ∧ θ_run (Cert.DispatchRef.defs (F := Bits)) (onTc (τ := Cert.DispatchRef.τ) (Cert.DispatchRef.main (F := Bits))) ⟨m', fun _ => 0, g'⟩ (fun r => ∀ c : Dev Cert.DispatchRef.nD,
          r.2.mem ((c.tc : Thread Cert.DispatchRef.nD Cert.DispatchRef.τ).loc Cert.DispatchRef.main_v20) = v0 c
          ∧ r.2.mem ((c.tc : Thread Cert.DispatchRef.nD Cert.DispatchRef.τ).loc Cert.DispatchRef.main_arg0) = m' ((c.tc : Thread Cert.DispatchRef.nD Cert.DispatchRef.τ).loc Cert.DispatchRef.main_arg0)
          ∧ r.2.mem ((c.tc : Thread Cert.DispatchRef.nD Cert.DispatchRef.τ).loc Cert.DispatchRef.main_arg1) = m' ((c.tc : Thread Cert.DispatchRef.nD Cert.DispatchRef.τ).loc Cert.DispatchRef.main_arg1))

def algebraic_DispatchIdeal_DispatchRefIdeal [hDispatchIdeal : Cert.DispatchIdeal.Facts] [hDispatchRefIdeal : Cert.DispatchRefIdeal.Facts] [hPre_dest_names_distinct_slots : Cert.Pre_dest_names_distinct_slots.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchRefIdeal.nD Cert.DispatchRefIdeal.τ Cert.DispatchRefIdeal.sig) → Buf (Elt Ideal) ℓ) (g' : Dev Cert.DispatchRefIdeal.nD → PrngReg), Pre_DispatchIdeal m →
    (∀ c : Dev Cert.DispatchIdeal.nD,
      m' ((c.tc : Thread Cert.DispatchRefIdeal.nD Cert.DispatchRefIdeal.τ).loc Cert.DispatchRefIdeal.main_arg0) = m ((c.tc : Thread Cert.DispatchIdeal.nD Cert.DispatchIdeal.τ).loc Cert.DispatchIdeal.main_arg0)
      ∧ m' ((c.tc : Thread Cert.DispatchRefIdeal.nD Cert.DispatchRefIdeal.τ).loc Cert.DispatchRefIdeal.main_arg1) = m ((c.tc : Thread Cert.DispatchIdeal.nD Cert.DispatchIdeal.τ).loc Cert.DispatchIdeal.main_arg1)) →
    ∃ (v0 : (c : Dev Cert.DispatchIdeal.nD) → Buf (Elt Ideal) ((c.tc : Thread Cert.DispatchIdeal.nD Cert.DispatchIdeal.τ).loc Cert.DispatchIdeal.main_v0)),
      θ_run (Cert.DispatchIdeal.defs (F := Ideal)) (onTc (τ := Cert.DispatchIdeal.τ) (Cert.DispatchIdeal.main (F := Ideal))) ⟨m, fun _ => 0, g⟩ (fun r => ∀ c : Dev Cert.DispatchIdeal.nD,
          r.2.mem ((c.tc : Thread Cert.DispatchIdeal.nD Cert.DispatchIdeal.τ).loc Cert.DispatchIdeal.main_v0) = v0 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ θ_run (Cert.DispatchRefIdeal.defs (F := Ideal)) (onTc (τ := Cert.DispatchRefIdeal.τ) (Cert.DispatchRefIdeal.main (F := Ideal))) ⟨m', fun _ => 0, g'⟩ (fun r => ∀ c : Dev Cert.DispatchRefIdeal.nD,
          r.2.mem ((c.tc : Thread Cert.DispatchRefIdeal.nD Cert.DispatchRefIdeal.τ).loc Cert.DispatchRefIdeal.main_v20) = v0 c
          ∧ r.2.mem ((c.tc : Thread Cert.DispatchRefIdeal.nD Cert.DispatchRefIdeal.τ).loc Cert.DispatchRefIdeal.main_arg0) = m' ((c.tc : Thread Cert.DispatchRefIdeal.nD Cert.DispatchRefIdeal.τ).loc Cert.DispatchRefIdeal.main_arg0)
          ∧ r.2.mem ((c.tc : Thread Cert.DispatchRefIdeal.nD Cert.DispatchRefIdeal.τ).loc Cert.DispatchRefIdeal.main_arg1) = m' ((c.tc : Thread Cert.DispatchRefIdeal.nD Cert.DispatchRefIdeal.τ).loc Cert.DispatchRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v106) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_ProjectA_ProjectAIdeal : Prop :=
  True

def algebraic_ProjectAIdeal_ProjectARefIdeal [hProjectAIdeal : Cert.ProjectAIdeal.Facts] [hProjectARefIdeal : Cert.ProjectARefIdeal.Facts] : Prop :=
  ∀ (m : (ℓ : Loc Cert.ProjectAIdeal.nD Cert.ProjectAIdeal.τ Cert.ProjectAIdeal.sig) → Buf (Elt Ideal) ℓ) (g : Dev Cert.ProjectAIdeal.nD → PrngReg)
    (m' : (ℓ : Loc Cert.ProjectARefIdeal.nD Cert.ProjectARefIdeal.τ Cert.ProjectARefIdeal.sig) → Buf (Elt Ideal) ℓ) (g' : Dev Cert.ProjectARefIdeal.nD → PrngReg), Pre_ProjectAIdeal m →
    (∀ c : Dev Cert.ProjectAIdeal.nD,
      m' ((c.tc : Thread Cert.ProjectARefIdeal.nD Cert.ProjectARefIdeal.τ).loc Cert.ProjectARefIdeal.main_arg0) = m ((c.tc : Thread Cert.ProjectAIdeal.nD Cert.ProjectAIdeal.τ).loc Cert.ProjectAIdeal.main_arg0)
      ∧ m' ((c.tc : Thread Cert.ProjectARefIdeal.nD Cert.ProjectARefIdeal.τ).loc Cert.ProjectARefIdeal.main_arg1) = m ((c.tc : Thread Cert.ProjectAIdeal.nD Cert.ProjectAIdeal.τ).loc Cert.ProjectAIdeal.main_arg1)) →
    ∃ (v0 : (c : Dev Cert.ProjectAIdeal.nD) → Buf (Elt Ideal) ((c.tc : Thread Cert.ProjectAIdeal.nD Cert.ProjectAIdeal.τ).loc Cert.ProjectAIdeal.main_v32)),
      θ_run (Cert.ProjectAIdeal.defs (F := Ideal)) (onTc (τ := Cert.ProjectAIdeal.τ) (Cert.ProjectAIdeal.main (F := Ideal))) ⟨m, fun _ => 0, g⟩ (fun r => ∀ c : Dev Cert.ProjectAIdeal.nD,
          r.2.mem ((c.tc : Thread Cert.ProjectAIdeal.nD Cert.ProjectAIdeal.τ).loc Cert.ProjectAIdeal.main_v32) = v0 c
          ∧ r.2.mem ((c.tc : Thread Cert.ProjectAIdeal.nD Cert.ProjectAIdeal.τ).loc Cert.ProjectAIdeal.main_arg0) = m ((c.tc : Thread Cert.ProjectAIdeal.nD Cert.ProjectAIdeal.τ).loc Cert.ProjectAIdeal.main_arg0)
          ∧ r.2.mem ((c.tc : Thread Cert.ProjectAIdeal.nD Cert.ProjectAIdeal.τ).loc Cert.ProjectAIdeal.main_arg1) = m ((c.tc : Thread Cert.ProjectAIdeal.nD Cert.ProjectAIdeal.τ).loc Cert.ProjectAIdeal.main_arg1))
      ∧ θ_run (Cert.ProjectARefIdeal.defs (F := Ideal)) (onTc (τ := Cert.ProjectARefIdeal.τ) (Cert.ProjectARefIdeal.main (F := Ideal))) ⟨m', fun _ => 0, g'⟩ (fun r => ∀ c : Dev Cert.ProjectARefIdeal.nD,
          r.2.mem ((c.tc : Thread Cert.ProjectARefIdeal.nD Cert.ProjectARefIdeal.τ).loc Cert.ProjectARefIdeal.main_v4) = v0 c
          ∧ r.2.mem ((c.tc : Thread Cert.ProjectARefIdeal.nD Cert.ProjectARefIdeal.τ).loc Cert.ProjectARefIdeal.main_arg0) = m' ((c.tc : Thread Cert.ProjectARefIdeal.nD Cert.ProjectARefIdeal.τ).loc Cert.ProjectARefIdeal.main_arg0)
          ∧ r.2.mem ((c.tc : Thread Cert.ProjectARefIdeal.nD Cert.ProjectARefIdeal.τ).loc Cert.ProjectARefIdeal.main_arg1) = m' ((c.tc : Thread Cert.ProjectARefIdeal.nD Cert.ProjectARefIdeal.τ).loc Cert.ProjectARefIdeal.main_arg1))

def preserves_ProjectB_ProjectBIdeal : Prop :=
  True

def algebraic_ProjectBIdeal_ProjectBRefIdeal [hProjectBIdeal : Cert.ProjectBIdeal.Facts] [hProjectBRefIdeal : Cert.ProjectBRefIdeal.Facts] : Prop :=
  ∀ (m : (ℓ : Loc Cert.ProjectBIdeal.nD Cert.ProjectBIdeal.τ Cert.ProjectBIdeal.sig) → Buf (Elt Ideal) ℓ) (g : Dev Cert.ProjectBIdeal.nD → PrngReg)
    (m' : (ℓ : Loc Cert.ProjectBRefIdeal.nD Cert.ProjectBRefIdeal.τ Cert.ProjectBRefIdeal.sig) → Buf (Elt Ideal) ℓ) (g' : Dev Cert.ProjectBRefIdeal.nD → PrngReg), Pre_ProjectBIdeal m →
    (∀ c : Dev Cert.ProjectBIdeal.nD,
      m' ((c.tc : Thread Cert.ProjectBRefIdeal.nD Cert.ProjectBRefIdeal.τ).loc Cert.ProjectBRefIdeal.main_arg0) = m ((c.tc : Thread Cert.ProjectBIdeal.nD Cert.ProjectBIdeal.τ).loc Cert.ProjectBIdeal.main_arg0)
      ∧ m' ((c.tc : Thread Cert.ProjectBRefIdeal.nD Cert.ProjectBRefIdeal.τ).loc Cert.ProjectBRefIdeal.main_arg1) = m ((c.tc : Thread Cert.ProjectBIdeal.nD Cert.ProjectBIdeal.τ).loc Cert.ProjectBIdeal.main_arg1)) →
    ∃ (v0 : (c : Dev Cert.ProjectBIdeal.nD) → Buf (Elt Ideal) ((c.tc : Thread Cert.ProjectBIdeal.nD Cert.ProjectBIdeal.τ).loc Cert.ProjectBIdeal.main_v32)),
      θ_run (Cert.ProjectBIdeal.defs (F := Ideal)) (onTc (τ := Cert.ProjectBIdeal.τ) (Cert.ProjectBIdeal.main (F := Ideal))) ⟨m, fun _ => 0, g⟩ (fun r => ∀ c : Dev Cert.ProjectBIdeal.nD,
          r.2.mem ((c.tc : Thread Cert.ProjectBIdeal.nD Cert.ProjectBIdeal.τ).loc Cert.ProjectBIdeal.main_v32) = v0 c
          ∧ r.2.mem ((c.tc : Thread Cert.ProjectBIdeal.nD Cert.ProjectBIdeal.τ).loc Cert.ProjectBIdeal.main_arg0) = m ((c.tc : Thread Cert.ProjectBIdeal.nD Cert.ProjectBIdeal.τ).loc Cert.ProjectBIdeal.main_arg0)
          ∧ r.2.mem ((c.tc : Thread Cert.ProjectBIdeal.nD Cert.ProjectBIdeal.τ).loc Cert.ProjectBIdeal.main_arg1) = m ((c.tc : Thread Cert.ProjectBIdeal.nD Cert.ProjectBIdeal.τ).loc Cert.ProjectBIdeal.main_arg1))
      ∧ θ_run (Cert.ProjectBRefIdeal.defs (F := Ideal)) (onTc (τ := Cert.ProjectBRefIdeal.τ) (Cert.ProjectBRefIdeal.main (F := Ideal))) ⟨m', fun _ => 0, g'⟩ (fun r => ∀ c : Dev Cert.ProjectBRefIdeal.nD,
          r.2.mem ((c.tc : Thread Cert.ProjectBRefIdeal.nD Cert.ProjectBRefIdeal.τ).loc Cert.ProjectBRefIdeal.main_v9) = v0 c
          ∧ r.2.mem ((c.tc : Thread Cert.ProjectBRefIdeal.nD Cert.ProjectBRefIdeal.τ).loc Cert.ProjectBRefIdeal.main_arg0) = m' ((c.tc : Thread Cert.ProjectBRefIdeal.nD Cert.ProjectBRefIdeal.τ).loc Cert.ProjectBRefIdeal.main_arg0)
          ∧ r.2.mem ((c.tc : Thread Cert.ProjectBRefIdeal.nD Cert.ProjectBRefIdeal.τ).loc Cert.ProjectBRefIdeal.main_arg1) = m' ((c.tc : Thread Cert.ProjectBRefIdeal.nD Cert.ProjectBRefIdeal.τ).loc Cert.ProjectBRefIdeal.main_arg1))

def preserves_ProjectC_ProjectCIdeal : Prop :=
  True

def algebraic_ProjectCIdeal_ProjectCRefIdeal [hProjectCIdeal : Cert.ProjectCIdeal.Facts] [hProjectCRefIdeal : Cert.ProjectCRefIdeal.Facts] : Prop :=
  ∀ (m : (ℓ : Loc Cert.ProjectCIdeal.nD Cert.ProjectCIdeal.τ Cert.ProjectCIdeal.sig) → Buf (Elt Ideal) ℓ) (g : Dev Cert.ProjectCIdeal.nD → PrngReg)
    (m' : (ℓ : Loc Cert.ProjectCRefIdeal.nD Cert.ProjectCRefIdeal.τ Cert.ProjectCRefIdeal.sig) → Buf (Elt Ideal) ℓ) (g' : Dev Cert.ProjectCRefIdeal.nD → PrngReg), Pre_ProjectCIdeal m →
    (∀ c : Dev Cert.ProjectCIdeal.nD,
      m' ((c.tc : Thread Cert.ProjectCRefIdeal.nD Cert.ProjectCRefIdeal.τ).loc Cert.ProjectCRefIdeal.main_arg0) = m ((c.tc : Thread Cert.ProjectCIdeal.nD Cert.ProjectCIdeal.τ).loc Cert.ProjectCIdeal.main_arg0)
      ∧ m' ((c.tc : Thread Cert.ProjectCRefIdeal.nD Cert.ProjectCRefIdeal.τ).loc Cert.ProjectCRefIdeal.main_arg1) = m ((c.tc : Thread Cert.ProjectCIdeal.nD Cert.ProjectCIdeal.τ).loc Cert.ProjectCIdeal.main_arg1)) →
    ∃ (v0 : (c : Dev Cert.ProjectCIdeal.nD) → Buf (Elt Ideal) ((c.tc : Thread Cert.ProjectCIdeal.nD Cert.ProjectCIdeal.τ).loc Cert.ProjectCIdeal.main_v32)),
      θ_run (Cert.ProjectCIdeal.defs (F := Ideal)) (onTc (τ := Cert.ProjectCIdeal.τ) (Cert.ProjectCIdeal.main (F := Ideal))) ⟨m, fun _ => 0, g⟩ (fun r => ∀ c : Dev Cert.ProjectCIdeal.nD,
          r.2.mem ((c.tc : Thread Cert.ProjectCIdeal.nD Cert.ProjectCIdeal.τ).loc Cert.ProjectCIdeal.main_v32) = v0 c
          ∧ r.2.mem ((c.tc : Thread Cert.ProjectCIdeal.nD Cert.ProjectCIdeal.τ).loc Cert.ProjectCIdeal.main_arg0) = m ((c.tc : Thread Cert.ProjectCIdeal.nD Cert.ProjectCIdeal.τ).loc Cert.ProjectCIdeal.main_arg0)
          ∧ r.2.mem ((c.tc : Thread Cert.ProjectCIdeal.nD Cert.ProjectCIdeal.τ).loc Cert.ProjectCIdeal.main_arg1) = m ((c.tc : Thread Cert.ProjectCIdeal.nD Cert.ProjectCIdeal.τ).loc Cert.ProjectCIdeal.main_arg1))
      ∧ θ_run (Cert.ProjectCRefIdeal.defs (F := Ideal)) (onTc (τ := Cert.ProjectCRefIdeal.τ) (Cert.ProjectCRefIdeal.main (F := Ideal))) ⟨m', fun _ => 0, g'⟩ (fun r => ∀ c : Dev Cert.ProjectCRefIdeal.nD,
          r.2.mem ((c.tc : Thread Cert.ProjectCRefIdeal.nD Cert.ProjectCRefIdeal.τ).loc Cert.ProjectCRefIdeal.main_v8) = v0 c
          ∧ r.2.mem ((c.tc : Thread Cert.ProjectCRefIdeal.nD Cert.ProjectCRefIdeal.τ).loc Cert.ProjectCRefIdeal.main_arg0) = m' ((c.tc : Thread Cert.ProjectCRefIdeal.nD Cert.ProjectCRefIdeal.τ).loc Cert.ProjectCRefIdeal.main_arg0)
          ∧ r.2.mem ((c.tc : Thread Cert.ProjectCRefIdeal.nD Cert.ProjectCRefIdeal.τ).loc Cert.ProjectCRefIdeal.main_arg1) = m' ((c.tc : Thread Cert.ProjectCRefIdeal.nD Cert.ProjectCRefIdeal.τ).loc Cert.ProjectCRefIdeal.main_arg1))

def preserves_ProjectD_ProjectDIdeal : Prop :=
  True

def algebraic_ProjectDIdeal_ProjectDRefIdeal [hProjectDIdeal : Cert.ProjectDIdeal.Facts] [hProjectDRefIdeal : Cert.ProjectDRefIdeal.Facts] : Prop :=
  ∀ (m : (ℓ : Loc Cert.ProjectDIdeal.nD Cert.ProjectDIdeal.τ Cert.ProjectDIdeal.sig) → Buf (Elt Ideal) ℓ) (g : Dev Cert.ProjectDIdeal.nD → PrngReg)
    (m' : (ℓ : Loc Cert.ProjectDRefIdeal.nD Cert.ProjectDRefIdeal.τ Cert.ProjectDRefIdeal.sig) → Buf (Elt Ideal) ℓ) (g' : Dev Cert.ProjectDRefIdeal.nD → PrngReg), Pre_ProjectDIdeal m →
    (∀ c : Dev Cert.ProjectDIdeal.nD,
      m' ((c.tc : Thread Cert.ProjectDRefIdeal.nD Cert.ProjectDRefIdeal.τ).loc Cert.ProjectDRefIdeal.main_arg0) = m ((c.tc : Thread Cert.ProjectDIdeal.nD Cert.ProjectDIdeal.τ).loc Cert.ProjectDIdeal.main_arg0)
      ∧ m' ((c.tc : Thread Cert.ProjectDRefIdeal.nD Cert.ProjectDRefIdeal.τ).loc Cert.ProjectDRefIdeal.main_arg1) = m ((c.tc : Thread Cert.ProjectDIdeal.nD Cert.ProjectDIdeal.τ).loc Cert.ProjectDIdeal.main_arg1)) →
    ∃ (v0 : (c : Dev Cert.ProjectDIdeal.nD) → Buf (Elt Ideal) ((c.tc : Thread Cert.ProjectDIdeal.nD Cert.ProjectDIdeal.τ).loc Cert.ProjectDIdeal.main_v32)),
      θ_run (Cert.ProjectDIdeal.defs (F := Ideal)) (onTc (τ := Cert.ProjectDIdeal.τ) (Cert.ProjectDIdeal.main (F := Ideal))) ⟨m, fun _ => 0, g⟩ (fun r => ∀ c : Dev Cert.ProjectDIdeal.nD,
          r.2.mem ((c.tc : Thread Cert.ProjectDIdeal.nD Cert.ProjectDIdeal.τ).loc Cert.ProjectDIdeal.main_v32) = v0 c
          ∧ r.2.mem ((c.tc : Thread Cert.ProjectDIdeal.nD Cert.ProjectDIdeal.τ).loc Cert.ProjectDIdeal.main_arg0) = m ((c.tc : Thread Cert.ProjectDIdeal.nD Cert.ProjectDIdeal.τ).loc Cert.ProjectDIdeal.main_arg0)
          ∧ r.2.mem ((c.tc : Thread Cert.ProjectDIdeal.nD Cert.ProjectDIdeal.τ).loc Cert.ProjectDIdeal.main_arg1) = m ((c.tc : Thread Cert.ProjectDIdeal.nD Cert.ProjectDIdeal.τ).loc Cert.ProjectDIdeal.main_arg1))
      ∧ θ_run (Cert.ProjectDRefIdeal.defs (F := Ideal)) (onTc (τ := Cert.ProjectDRefIdeal.τ) (Cert.ProjectDRefIdeal.main (F := Ideal))) ⟨m', fun _ => 0, g'⟩ (fun r => ∀ c : Dev Cert.ProjectDRefIdeal.nD,
          r.2.mem ((c.tc : Thread Cert.ProjectDRefIdeal.nD Cert.ProjectDRefIdeal.τ).loc Cert.ProjectDRefIdeal.main_v4) = v0 c
          ∧ r.2.mem ((c.tc : Thread Cert.ProjectDRefIdeal.nD Cert.ProjectDRefIdeal.τ).loc Cert.ProjectDRefIdeal.main_arg0) = m' ((c.tc : Thread Cert.ProjectDRefIdeal.nD Cert.ProjectDRefIdeal.τ).loc Cert.ProjectDRefIdeal.main_arg0)
          ∧ r.2.mem ((c.tc : Thread Cert.ProjectDRefIdeal.nD Cert.ProjectDRefIdeal.τ).loc Cert.ProjectDRefIdeal.main_arg1) = m' ((c.tc : Thread Cert.ProjectDRefIdeal.nD Cert.ProjectDRefIdeal.τ).loc Cert.ProjectDRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v18_0)) (v1 : (c : Dev Cert.OutIdeal.nD) → Buf (Elt Ideal) ((c.tc : Thread Cert.OutIdeal.nD Cert.OutIdeal.τ).loc Cert.OutIdeal.main_v18_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v18_0) = v0 c
          ∧ r.2.mem ((c.tc : Thread Cert.OutIdeal.nD Cert.OutIdeal.τ).loc Cert.OutIdeal.main_v18_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v45) = v0 c
          ∧ r.2.mem ((c.tc : Thread Cert.OutRefIdeal.nD Cert.OutRefIdeal.τ).loc Cert.OutRefIdeal.main_v51) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] [hPre_blocks_name_experts : Cert.Pre_blocks_name_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v39) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hDispatch : Cert.Dispatch.Facts) (hDispatchIdeal : Cert.DispatchIdeal.Facts) (hDispatchRefIdeal : Cert.DispatchRefIdeal.Facts) (hDispatchRef : Cert.DispatchRef.Facts) (hMerge : Cert.Merge.Facts) (hMergeIdeal : Cert.MergeIdeal.Facts) (hMergeRefIdeal : Cert.MergeRefIdeal.Facts) (hProjectA : Cert.ProjectA.Facts) (hProjectAIdeal : Cert.ProjectAIdeal.Facts) (hProjectARefIdeal : Cert.ProjectARefIdeal.Facts) (hProjectB : Cert.ProjectB.Facts) (hProjectBIdeal : Cert.ProjectBIdeal.Facts) (hProjectBRefIdeal : Cert.ProjectBRefIdeal.Facts) (hProjectC : Cert.ProjectC.Facts) (hProjectCIdeal : Cert.ProjectCIdeal.Facts) (hProjectCRefIdeal : Cert.ProjectCRefIdeal.Facts) (hProjectD : Cert.ProjectD.Facts) (hProjectDIdeal : Cert.ProjectDIdeal.Facts) (hProjectDRefIdeal : Cert.ProjectDRefIdeal.Facts) (hOut : Cert.Out.Facts) (hOutIdeal : Cert.OutIdeal.Facts) (hOutRefIdeal : Cert.OutRefIdeal.Facts) (hExperts : Cert.Experts.Facts) (hExpertsIdeal : Cert.ExpertsIdeal.Facts) (hExpertsRefIdeal : Cert.ExpertsRefIdeal.Facts) (hAda : Cert.Ada.Facts) (hAdaIdeal : Cert.AdaIdeal.Facts) (hAdaRefIdeal : Cert.AdaRefIdeal.Facts) (hPre_dest_names_distinct_slots : Cert.Pre_dest_names_distinct_slots.Facts) (hPre_blocks_name_experts : Cert.Pre_blocks_name_experts.Facts),
    quiescent_Dispatch (hDispatch := hDispatch) (hPre_dest_names_distinct_slots := hPre_dest_names_distinct_slots)
    ∧ quiescent_DispatchIdeal (hDispatchIdeal := hDispatchIdeal) (hPre_dest_names_distinct_slots := hPre_dest_names_distinct_slots)
    ∧ quiescent_DispatchRefIdeal (hDispatchRefIdeal := hDispatchRefIdeal)
    ∧ quiescent_DispatchRefIdeal_pre_dest_names_distinct_slots (hDispatchRefIdeal := hDispatchRefIdeal) (hPre_dest_names_distinct_slots := hPre_dest_names_distinct_slots)
    ∧ quiescent_DispatchRef (hDispatchRef := hDispatchRef) (hPre_dest_names_distinct_slots := hPre_dest_names_distinct_slots)
    ∧ quiescent_Merge (hMerge := hMerge)
    ∧ quiescent_MergeIdeal (hMergeIdeal := hMergeIdeal)
    ∧ quiescent_MergeRefIdeal (hMergeRefIdeal := hMergeRefIdeal)
    ∧ quiescent_ProjectA (hProjectA := hProjectA)
    ∧ quiescent_ProjectAIdeal (hProjectAIdeal := hProjectAIdeal)
    ∧ quiescent_ProjectARefIdeal (hProjectARefIdeal := hProjectARefIdeal)
    ∧ quiescent_ProjectB (hProjectB := hProjectB)
    ∧ quiescent_ProjectBIdeal (hProjectBIdeal := hProjectBIdeal)
    ∧ quiescent_ProjectBRefIdeal (hProjectBRefIdeal := hProjectBRefIdeal)
    ∧ quiescent_ProjectC (hProjectC := hProjectC)
    ∧ quiescent_ProjectCIdeal (hProjectCIdeal := hProjectCIdeal)
    ∧ quiescent_ProjectCRefIdeal (hProjectCRefIdeal := hProjectCRefIdeal)
    ∧ quiescent_ProjectD (hProjectD := hProjectD)
    ∧ quiescent_ProjectDIdeal (hProjectDIdeal := hProjectDIdeal)
    ∧ quiescent_ProjectDRefIdeal (hProjectDRefIdeal := hProjectDRefIdeal)
    ∧ quiescent_Out (hOut := hOut)
    ∧ quiescent_OutIdeal (hOutIdeal := hOutIdeal)
    ∧ quiescent_OutRefIdeal (hOutRefIdeal := hOutRefIdeal)
    ∧ quiescent_Experts (hExperts := hExperts) (hPre_blocks_name_experts := hPre_blocks_name_experts)
    ∧ quiescent_ExpertsIdeal (hExpertsIdeal := hExpertsIdeal) (hPre_blocks_name_experts := hPre_blocks_name_experts)
    ∧ quiescent_ExpertsRefIdeal (hExpertsRefIdeal := hExpertsRefIdeal)
    ∧ quiescent_ExpertsRefIdeal_pre_blocks_name_experts (hExpertsRefIdeal := hExpertsRefIdeal) (hPre_blocks_name_experts := hPre_blocks_name_experts)
    ∧ quiescent_Ada (hAda := hAda)
    ∧ quiescent_AdaIdeal (hAdaIdeal := hAdaIdeal)
    ∧ quiescent_AdaRefIdeal (hAdaRefIdeal := hAdaRefIdeal)
    ∧ preserves_Dispatch_DispatchIdeal
    ∧ bitexact_Dispatch_DispatchRef (hDispatch := hDispatch) (hDispatchRef := hDispatchRef) (hPre_dest_names_distinct_slots := hPre_dest_names_distinct_slots)
    ∧ algebraic_DispatchIdeal_DispatchRefIdeal (hDispatchIdeal := hDispatchIdeal) (hDispatchRefIdeal := hDispatchRefIdeal) (hPre_dest_names_distinct_slots := hPre_dest_names_distinct_slots)
    ∧ preserves_Merge_MergeIdeal
    ∧ algebraic_MergeIdeal_MergeRefIdeal (hMergeIdeal := hMergeIdeal) (hMergeRefIdeal := hMergeRefIdeal)
    ∧ preserves_ProjectA_ProjectAIdeal
    ∧ algebraic_ProjectAIdeal_ProjectARefIdeal (hProjectAIdeal := hProjectAIdeal) (hProjectARefIdeal := hProjectARefIdeal)
    ∧ preserves_ProjectB_ProjectBIdeal
    ∧ algebraic_ProjectBIdeal_ProjectBRefIdeal (hProjectBIdeal := hProjectBIdeal) (hProjectBRefIdeal := hProjectBRefIdeal)
    ∧ preserves_ProjectC_ProjectCIdeal
    ∧ algebraic_ProjectCIdeal_ProjectCRefIdeal (hProjectCIdeal := hProjectCIdeal) (hProjectCRefIdeal := hProjectCRefIdeal)
    ∧ preserves_ProjectD_ProjectDIdeal
    ∧ algebraic_ProjectDIdeal_ProjectDRefIdeal (hProjectDIdeal := hProjectDIdeal) (hProjectDRefIdeal := hProjectDRefIdeal)
    ∧ preserves_Out_OutIdeal
    ∧ algebraic_OutIdeal_OutRefIdeal (hOutIdeal := hOutIdeal) (hOutRefIdeal := hOutRefIdeal)
    ∧ preserves_Experts_ExpertsIdeal
    ∧ algebraic_ExpertsIdeal_ExpertsRefIdeal (hExpertsIdeal := hExpertsIdeal) (hExpertsRefIdeal := hExpertsRefIdeal) (hPre_blocks_name_experts := hPre_blocks_name_experts)
    ∧ preserves_Ada_AdaIdeal
    ∧ algebraic_AdaIdeal_AdaRefIdeal (hAdaIdeal := hAdaIdeal) (hAdaRefIdeal := hAdaRefIdeal)
-- ==== Pre_blocks_name_experts.lean ====
abbrev S160 : Shape := ⟨1, ![160]⟩
abbrev S1 : Shape := ⟨1, ![1]⟩
abbrev S40960x2048 : Shape := ⟨2, ![40960, 2048]⟩
abbrev S4x32x2048x512 : Shape := ⟨4, ![4, 32, 2048, 512]⟩
abbrev S4x32x512x2048 : Shape := ⟨4, ![4, 32, 512, 2048]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S40960x2048 .f32) (main_arg3 : FVec F S4x32x2048x512 .f32) (main_arg4 : FVec F S4x32x2048x512 .f32) (main_arg5 : FVec F S4x32x512x2048 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_dest_names_distinct_slots.lean ====
abbrev S16384x2048 : Shape := ⟨2, ![16384, 2048]⟩
abbrev S16384x2 : Shape := ⟨2, ![16384, 2]⟩
abbrev S32768 : Shape := ⟨1, ![32768]⟩
abbrev S_ : Shape := ⟨0, ![]⟩
abbrev S40960 : Shape := ⟨1, ![40960]⟩
abbrev S32768x1 : Shape := ⟨2, ![32768, 1]⟩

class Facts : Prop where
  shapeCasts_S16384x2_S32768 : S16384x2.ShapeCasts S32768
  bcast_S_S40960 : S_.BroadcastsInDim S40960 (![] : Fin 0 → Fin S40960.rank)
  bcast_S_S32768 : S_.BroadcastsInDim S32768 (![] : Fin 0 → Fin S32768.rank)
  bcast_S32768_S32768x1_0 : S32768.BroadcastsInDim S32768x1 (![0] : Fin 1 → Fin S32768x1.rank)
  scatter_S40960_S32768x1_S32768_n_0_0_1_wf : ScatterDims.WF S40960 S32768x1 S32768 [] [0] [0] 1
  gather_S40960_S32768x1_S32768_n_0_n_n_0_1_1_wf : GatherDims.WF S40960 S32768x1 S32768 [] [0] [] [0] [] 1 ![1]

variable [Facts]

def scatter_S40960_S32768x1_S32768_n_0_0_1 : ScatterDims S40960 S32768x1 S32768 where
  updateWindowDims := []
  insertedWindowDims := [0]
  scatterDimsToOperandDims := [0]
  indexVectorDim := 1
  wf := scatter_S40960_S32768x1_S32768_n_0_0_1_wf
def gather_S40960_S32768x1_S32768_n_0_n_n_0_1_1 : GatherDims S40960 S32768x1 S32768 where
  offsetDims := []
  collapsedSliceDims := [0]
  operandBatchingDims := []
  startIndicesBatchingDims := []
  startIndexMap := [0]
  indexVectorDim := 1
  sliceSizes := ![1]
  wf := gather_S40960_S32768x1_S32768_n_0_n_n_0_1_1_wf
def fn_part1 {F : FTy → Type} [FloatOps F] (main_v0 : IVec S32768 32) (main_v1 : IVec S32768 32) (main_v9 : IVec S40960 32) (main_v14 : IVec S32768 1) (main_v16 : IVec S32768 1) (main_c_5 : IVec S_ 32) : IVec S32768 1 :=
  let main_v17 : IVec S32768 32 := broadcastInDim S32768 ![] bcast_S_S32768 main_c_5
  let main_v18 : IVec S32768 32 := addi main_v0 main_v17
  let main_v19 : IVec S32768 32 := select main_v16 main_v18 main_v0
  let main_v20 : IVec S32768x1 32 := broadcastInDim S32768x1 ![0] bcast_S32768_S32768x1_0 main_v19
  let main_v21 : IVec S32768 32 := (fun x i => Host.gather gather_S40960_S32768x1_S32768_n_0_n_n_0_1_1 x i) main_v9 main_v20
  let main_v22 : IVec S32768 1 := cmpi .eq main_v21 main_v1
  let main_v23 : IVec S32768 1 := andi main_v14 main_v22
  main_v23

def fn {F : FTy → Type} [FloatOps F] (main_arg0 : FVec F S16384x2048 .f32) (main_arg1 : IVec S16384x2 32) : IVec S32768 1 :=
  let main_v0 : IVec S32768 32 := shapeCast S32768 main_arg1 shapeCasts_S16384x2_S32768
  let main_v1 : IVec S32768 32 := iotaInDim S32768 32 0
  let main_c : IVec S_ 32 := constantI S_ 32 0#32
  let main_v2 : IVec S40960 32 := broadcastInDim S40960 ![] bcast_S_S40960 main_c
  let main_c_0 : IVec S_ 32 := constantI S_ 32 0#32
  let main_v3 : IVec S32768 32 := broadcastInDim S32768 ![] bcast_S_S32768 main_c_0
  let main_v4 : IVec S32768 1 := cmpi .slt main_v0 main_v3
  let main_c_1 : IVec S_ 32 := constantI S_ 32 40960#32
  let main_v5 : IVec S32768 32 := broadcastInDim S32768 ![] bcast_S_S32768 main_c_1
  let main_v6 : IVec S32768 32 := addi main_v0 main_v5
  let main_v7 : IVec S32768 32 := select main_v4 main_v6 main_v0
  let main_v8 : IVec S32768x1 32 := broadcastInDim S32768x1 ![0] bcast_S32768_S32768x1_0 main_v7
  let main_v9 : IVec S40960 32 := (fun x i u => Host.scatter scatter_S40960_S32768x1_S32768_n_0_0_1 (fun _ b => b) x i u) main_v2 main_v8 main_v1
  let main_c_2 : IVec S_ 32 := constantI S_ 32 0#32
  let main_v10 : IVec S32768 32 := broadcastInDim S32768 ![] bcast_S_S32768 main_c_2
  let main_v11 : IVec S32768 1 := cmpi .sge main_v0 main_v10
  let main_c_3 : IVec S_ 32 := constantI S_ 32 40960#32
  let main_v12 : IVec S32768 32 := broadcastInDim S32768 ![] bcast_S_S32768 main_c_3
  let main_v13 : IVec S32768 1 := cmpi .slt main_v0 main_v12
  let main_v14 : IVec S32768 1 := andi main_v11 main_v13
  let main_c_4 : IVec S_ 32 := constantI S_ 32 0#32
  let main_v15 : IVec S32768 32 := broadcastInDim S32768 ![] bcast_S_S32768 main_c_4
  let main_v16 : IVec S32768 1 := cmpi .slt main_v0 main_v15
  let main_c_5 : IVec S_ 32 := constantI S_ 32 40960#32
  fn_part1 (F := F) main_v0 main_v1 main_v9 main_v14 main_v16 main_c_5
-- ==== Dispatch.lean ====
abbrev S16384x2048 : Shape := ⟨2, ![16384, 2048]⟩
abbrev S16384x2 : Shape := ⟨2, ![16384, 2]⟩
abbrev S_ : Shape := ⟨0, ![]⟩
abbrev S40960x2048 : Shape := ⟨2, ![40960, 2048]⟩
abbrev S32x1x1024 : Shape := ⟨3, ![32, 1, 1024]⟩
abbrev S1x1x1024 : Shape := ⟨3, ![1, 1, 1024]⟩
abbrev S512x2048 : Shape := ⟨2, ![512, 2048]⟩
abbrev S1x1x1 : Shape := ⟨3, ![1, 1, 1]⟩
abbrev S1x2048 : Shape := ⟨2, ![1, 2048]⟩

abbrev nBuf : Space → Nat
  | .hbm => 5
  | .vmem => 2
  | .smem => 2
  | _ => 0

abbrev bufTy : (tb : Table) → Fin (tcTables nBuf tb) → BufTy
  | .hbm, ⟨0, _⟩ => ⟨S16384x2048, .f32⟩
  | .hbm, ⟨1, _⟩ => ⟨S16384x2, .i32⟩
  | .hbm, ⟨2, _⟩ => ⟨S_, .f32⟩
  | .hbm, ⟨3, _⟩ => ⟨S40960x2048, .f32⟩
  | .hbm, ⟨4, _⟩ => ⟨S32x1x1024, .i32⟩
  | .local _ .vmem, ⟨0, _⟩ => ⟨S512x2048, .f32⟩
  | .local _ .vmem, ⟨1, _⟩ => ⟨S512x2048, .f32⟩
  | .local _ .smem, ⟨0, _⟩ => ⟨S1x1x1024, .i32⟩
  | .local _ .smem, ⟨1, _⟩ => ⟨S1x1x1024, .i32⟩
  | _, _ => ⟨S16384x2048, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 3 → Nat :=
  let c0 : Index := 0#32
  let c0_6 : Index := 0#32
  let c2_i32 : BitVec 32 := 2#32
  let c0_i32 : BitVec 32 := 0#32
  let c1_i32 : BitVec 32 := 1#32
  let arg6 : BitVec 32 := Scf.iv c0_i32 c1_i32 k0_t1
  let v2 : BitVec 32 := Scalar.muli c2_i32 arg6
  let c0_i32_5 : BitVec 32 := 0#32
  let v3 : BitVec 32 := Scalar.addi v2 c0_i32_5
  let v4 : Index := Scalar.indexCast v3
  ![0, 0, v4.toNat]
def k0_off2 (v5 : BitVec 32) : Fin 2 → Nat :=
  let c0_i32_7 : BitVec 32 := 0#32
  ![v5.toNat, 0]

def k0_chk1 (v5 : BitVec 32) : Prop :=
  (∀ a, (k0_off2 v5) a + S1x2048.size a ≤ S40960x2048.size a)
theorem k0_off2_inb : ∀ (v5 : BitVec 32) (k0_hw1 : k0_chk1 v5), ∀ a, (k0_off2 v5) a + S1x2048.size a ≤ S40960x2048.size a := fun v5 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_8 : BitVec 32 := 0#32
  ![arg6.toNat, 0]
def k0_off4 (k0_t1 : Fin k0_t1_loop.trips) : Fin 3 → Nat :=
  let c0_11 : Index := 0#32
  let c0_12 : Index := 0#32
  let c2_i32_9 : BitVec 32 := 2#32
  let c0_i32 : BitVec 32 := 0#32
  let c1_i32 : BitVec 32 := 1#32
  let arg6 : BitVec 32 := Scf.iv c0_i32 c1_i32 k0_t1
  let v8 : BitVec 32 := Scalar.muli c2_i32_9 arg6
  let c1_i32_10 : BitVec 32 := 1#32
  let v9 : BitVec 32 := Scalar.addi v8 c1_i32_10
  let v10 : Index := Scalar.indexCast v9
  ![0, 0, v10.toNat]
def k0_off5 (v11 : BitVec 32) : Fin 2 → Nat :=
  let c0_i32_13 : BitVec 32 := 0#32
  ![v11.toNat, 0]

def k0_chk2 (v11 : BitVec 32) : Prop :=
  (∀ a, (k0_off5 v11) a + S1x2048.size a ≤ S40960x2048.size a)
theorem k0_off5_inb : ∀ (v11 : BitVec 32) (k0_hw2 : k0_chk2 v11), ∀ a, (k0_off5 v11) a + S1x2048.size a ≤ S40960x2048.size a := fun v11 k0_hw2 => k0_hw2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_14 : BitVec 32 := 0#32
  ![arg6.toNat, 0]
@[reducible] def k0_t2_loop : Scf.Loop 32 :=
  let c0_i32_1 : BitVec 32 := 0#32
  let c512_i32_2 : BitVec 32 := 512#32
  let v1 : BitVec 32 := Scalar.addi c0_i32_1 c512_i32_2
  let c1_i32_3 : BitVec 32 := 1#32
  ⟨c0_i32_1, v1, c1_i32_3⟩
def k0_off7 (k0_t2 : Fin k0_t2_loop.trips) : Fin 3 → Nat :=
  let c0 : Index := 0#32
  let c0_6 : Index := 0#32
  let c2_i32 : BitVec 32 := 2#32
  let c0_i32_1 : BitVec 32 := 0#32
  let c1_i32_3 : BitVec 32 := 1#32
  let arg6 : BitVec 32 := Scf.iv c0_i32_1 c1_i32_3 k0_t2
  let v2 : BitVec 32 := Scalar.muli c2_i32 arg6
  let c0_i32_5 : BitVec 32 := 0#32
  let v3 : BitVec 32 := Scalar.addi v2 c0_i32_5
  let v4 : Index := Scalar.indexCast v3
  ![0, 0, v4.toNat]
def k0_off8 (v5 : BitVec 32) : Fin 2 → Nat :=
  let c0_i32_7 : BitVec 32 := 0#32
  ![v5.toNat, 0]

def k0_chk3 (v5 : BitVec 32) : Prop :=
  (∀ a, (k0_off8 v5) a + S1x2048.size a ≤ S40960x2048.size a)
theorem k0_off8_inb : ∀ (v5 : BitVec 32) (k0_hw3 : k0_chk3 v5), ∀ a, (k0_off8 v5) a + S1x2048.size a ≤ S40960x2048.size a := fun v5 k0_hw3 => k0_hw3

def k0_off9 (k0_t2 : Fin k0_t2_loop.trips) : Fin 2 → Nat :=
  let c0_i32_1 : BitVec 32 := 0#32
  let c1_i32_3 : BitVec 32 := 1#32
  let arg6 : BitVec 32 := Scf.iv c0_i32_1 c1_i32_3 k0_t2
  let c0_i32_8 : BitVec 32 := 0#32
  ![arg6.toNat, 0]
def k0_off10 (k0_t2 : Fin k0_t2_loop.trips) : Fin 3 → Nat :=
  let c0_11 : Index := 0#32
  let c0_12 : Index := 0#32
  let c2_i32_9 : BitVec 32 := 2#32
  let c0_i32_1 : BitVec 32 := 0#32
  let c1_i32_3 : BitVec 32 := 1#32
  let arg6 : BitVec 32 := Scf.iv c0_i32_1 c1_i32_3 k0_t2
  let v8 : BitVec 32 := Scalar.muli c2_i32_9 arg6
  let c1_i32_10 : BitVec 32 := 1#32
  let v9 : BitVec 32 := Scalar.addi v8 c1_i32_10
  let v10 : Index := Scalar.indexCast v9
  ![0, 0, v10.toNat]
def k0_off11 (v11 : BitVec 32) : Fin 2 → Nat :=
  let c0_i32_13 : BitVec 32 := 0#32
  ![v11.toNat, 0]

def k0_chk4 (v11 : BitVec 32) : Prop :=
  (∀ a, (k0_off11 v11) a + S1x2048.size a ≤ S40960x2048.size a)
theorem k0_off11_inb : ∀ (v11 : BitVec 32) (k0_hw4 : k0_chk4 v11), ∀ a, (k0_off11 v11) a + S1x2048.size a ≤ S40960x2048.size a := fun v11 k0_hw4 => k0_hw4

def k0_off12 (k0_t2 : Fin k0_t2_loop.trips) : Fin 2 → Nat :=
  let c0_i32_1 : BitVec 32 := 0#32
  let c1_i32_3 : BitVec 32 := 1#32
  let arg6 : BitVec 32 := Scf.iv c0_i32_1 c1_i32_3 k0_t2
  let c0_i32_14 : BitVec 32 := 0#32
  ![arg6.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DispatchRef.lean ====
abbrev S16384x2048 : Shape := ⟨2, ![16384, 2048]⟩
abbrev S16384x2 : Shape := ⟨2, ![16384, 2]⟩
abbrev S16384 : Shape := ⟨1, ![16384]⟩
abbrev S32768 : Shape := ⟨1, ![32768]⟩
abbrev S_ : Shape := ⟨0, ![]⟩
abbrev S40960 : Shape := ⟨1, ![40960]⟩
abbrev S32768x1 : Shape := ⟨2, ![32768, 1]⟩
abbrev S1x2048 : Shape := ⟨2, ![1, 2048]⟩
abbrev S16385x2048 : Shape := ⟨2, ![16385, 2048]⟩
abbrev S40960x1 : Shape := ⟨2, ![40960, 1]⟩
abbrev S40960x2048 : Shape := ⟨2, ![40960, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2, .i32⟩
  | .hbm, ⟨2, _⟩ => ⟨S16384, .i32⟩
  | .hbm, ⟨3, _⟩ => ⟨S16384x2, .i32⟩
  | .hbm, ⟨4, _⟩ => ⟨S32768, .i32⟩
  | .hbm, ⟨5, _⟩ => ⟨S_, .i32⟩
  | .hbm, ⟨6, _⟩ => ⟨S40960, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S40960, .i32⟩
  | .hbm, ⟨17, _⟩ => ⟨S_, .f32⟩
  | .hbm, ⟨18, _⟩ => ⟨S1x2048, .f32⟩
  | .hbm, ⟨19, _⟩ => ⟨S16385x2048, .f32⟩
  | .hbm, ⟨20, _⟩ => ⟨S_, .i32⟩
  | .hbm, ⟨21, _⟩ => ⟨S40960, .i32⟩
  | .hbm, ⟨22, _⟩ => ⟨S40960, .i1⟩
  | .hbm, ⟨23, _⟩ => ⟨S_, .i32⟩
  | .hbm, ⟨24, _⟩ => ⟨S40960, .i32⟩
  | .hbm, ⟨25, _⟩ => ⟨S40960, .i32⟩
  | .hbm, ⟨26, _⟩ => ⟨S40960, .i32⟩
  | .hbm, ⟨27, _⟩ => ⟨S40960x1, .i32⟩
  | .hbm, ⟨28, _⟩ => ⟨S40960x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Merge.lean ====
abbrev S16384x2048 : Shape := ⟨2, ![16384, 2048]⟩
abbrev S16384x512 : Shape := ⟨2, ![16384, 512]⟩
abbrev S4x4x2048x2048 : Shape := ⟨4, ![4, 4, 2048, 2048]⟩
abbrev S4x4x2048 : Shape := ⟨3, ![4, 4, 2048]⟩
abbrev S4x4x512x2048 : Shape := ⟨4, ![4, 4, 512, 2048]⟩
abbrev S1x4x2048 : Shape := ⟨3, ![1, 4, 2048]⟩
abbrev S4x2048 : Shape := ⟨2, ![4, 2048]⟩
abbrev S4x1x2048 : Shape := ⟨3, ![4, 1, 2048]⟩
abbrev S1024x2048 : Shape := ⟨2, ![1024, 2048]⟩
abbrev S1024x512 : Shape := ⟨2, ![1024, 512]⟩
abbrev S1x4x2048x256 : Shape := ⟨4, ![1, 4, 2048, 256]⟩
abbrev S4x1x256 : Shape := ⟨3, ![4, 1, 256]⟩
abbrev S1x4x512x256 : Shape := ⟨4, ![1, 4, 512, 256]⟩
abbrev S1024x256 : Shape := ⟨2, ![1024, 256]⟩
abbrev S4x2048x256 : Shape := ⟨3, ![4, 2048, 256]⟩
abbrev S4x512x256 : Shape := ⟨3, ![4, 512, 256]⟩
abbrev S1x2048x256 : Shape := ⟨3, ![1, 2048, 256]⟩
abbrev S2048x256 : Shape := ⟨2, ![2048, 256]⟩
abbrev S1x1x256 : Shape := ⟨3, ![1, 1, 256]⟩
abbrev S1x256 : Shape := ⟨2, ![1, 256]⟩
abbrev S1x512x256 : Shape := ⟨3, ![1, 512, 256]⟩
abbrev S512x256 : Shape := ⟨2, ![512, 256]⟩

abbrev nBuf : Space → Nat
  | .hbm => 12
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S4x4x2048x2048, .f32⟩
  | .hbm, ⟨6, _⟩ => ⟨S4x4x2048, .f32⟩
  | .hbm, ⟨7, _⟩ => ⟨S4x4x512x2048, .f32⟩
  | .hbm, ⟨8, _⟩ => ⟨S1x4x2048, .f32⟩
  | .hbm, ⟨9, _⟩ => ⟨S4x2048, .f32⟩
  | .hbm, ⟨10, _⟩ => ⟨S4x1x2048, .f32⟩
  | .hbm, ⟨11, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x4x2048x256, .f32⟩
  | .local _ .vmem, ⟨11, _⟩ => ⟨S1x4x2048x256, .f32⟩
  | .local _ .vmem, ⟨12, _⟩ => ⟨S4x1x256, .f32⟩
  | .local _ .vmem, ⟨13, _⟩ => ⟨S4x1x256, .f32⟩
  | .local _ .vmem, ⟨14, _⟩ => ⟨S1x4x512x256, .f32⟩
  | .local _ .vmem, ⟨15, _⟩ => ⟨S1x4x512x256, .f32⟩
  | .local _ .vmem, ⟨16, _⟩ => ⟨S1024x256, .bf16⟩
  | .local _ .vmem, ⟨17, _⟩ => ⟨S1024x256, .bf16⟩
  | .local _ .vmem, ⟨18, _⟩ => ⟨S4x2048x256, .bf16⟩
  | .local _ .vmem, ⟨19, _⟩ => ⟨S4x512x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S16384x2048 : Shape := ⟨2, ![16384, 2048]⟩
abbrev S16384x512 : Shape := ⟨2, ![16384, 512]⟩
abbrev S4x4x2048x2048 : Shape := ⟨4, ![4, 4, 2048, 2048]⟩
abbrev S4x4x2048 : Shape := ⟨3, ![4, 4, 2048]⟩
abbrev S4x4x512x2048 : Shape := ⟨4, ![4, 4, 512, 2048]⟩
abbrev S_ : Shape := ⟨0, ![]⟩
abbrev S1x4x512x2048 : Shape := ⟨4, ![1, 4, 512, 2048]⟩
abbrev S4x512x2048 : Shape := ⟨3, ![4, 512, 2048]⟩
abbrev S1x512x2048 : Shape := ⟨3, ![1, 512, 2048]⟩
abbrev S512x2048 : Shape := ⟨2, ![512, 2048]⟩
abbrev S1x4x2048x2048 : Shape := ⟨4, ![1, 4, 2048, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S1x4x2048 : Shape := ⟨3, ![1, 4, 2048]⟩
abbrev S4x2048 : Shape := ⟨2, ![4, 2048]⟩
abbrev S1x2048 : Shape := ⟨2, ![1, 2048]⟩
abbrev S2048 : Shape := ⟨1, ![2048]⟩

abbrev nBuf : Space → Nat
  | .hbm => 124
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S4x4x2048x2048, .f32⟩
  | .hbm, ⟨6, _⟩ => ⟨S4x4x2048, .f32⟩
  | .hbm, ⟨7, _⟩ => ⟨S4x4x512x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x512, .f32⟩
  | .hbm, ⟨12, _⟩ => ⟨S1x4x512x2048, .f32⟩
  | .hbm, ⟨13, _⟩ => ⟨S4x512x2048, .f32⟩
  | .hbm, ⟨14, _⟩ => ⟨S1x512x2048, .f32⟩
  | .hbm, ⟨15, _⟩ => ⟨S512x2048, .f32⟩
  | .hbm, ⟨16, _⟩ => ⟨S16384x2048, .f32⟩
  | .hbm, ⟨17, _⟩ => ⟨S1x4x2048x2048, .f32⟩
  | .hbm, ⟨18, _⟩ => ⟨S4x2048x2048, .f32⟩
  | .hbm, ⟨19, _⟩ => ⟨S1x2048x2048, .f32⟩
  | .hbm, ⟨20, _⟩ => ⟨S2048x2048, .f32⟩
  | .hbm, ⟨21, _⟩ => ⟨S16384x2048, .f32⟩
  | .hbm, ⟨22, _⟩ => ⟨S1x4x2048, .f32⟩
  | .hbm, ⟨23, _⟩ => ⟨S4x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x512, .f32⟩
  | .hbm, ⟨40, _⟩ => ⟨S1x4x512x2048, .f32⟩
  | .hbm, ⟨41, _⟩ => ⟨S4x512x2048, .f32⟩
  | .hbm, ⟨42, _⟩ => ⟨S1x512x2048, .f32⟩
  | .hbm, ⟨43, _⟩ => ⟨S512x2048, .f32⟩
  | .hbm, ⟨44, _⟩ => ⟨S16384x2048, .f32⟩
  | .hbm, ⟨45, _⟩ => ⟨S1x4x2048x2048, .f32⟩
  | .hbm, ⟨46, _⟩ => ⟨S4x2048x2048, .f32⟩
  | .hbm, ⟨47, _⟩ => ⟨S1x2048x2048, .f32⟩
  | .hbm, ⟨48, _⟩ => ⟨S2048x2048, .f32⟩
  | .hbm, ⟨49, _⟩ => ⟨S16384x2048, .f32⟩
  | .hbm, ⟨50, _⟩ => ⟨S1x4x2048, .f32⟩
  | .hbm, ⟨51, _⟩ => ⟨S4x2048, .f32⟩
  | .hbm, ⟨52, _⟩ => ⟨S1x2048, .f32⟩
  | .hbm, ⟨53, _⟩ => ⟨S2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x512, .f32⟩
  | .hbm, ⟨68, _⟩ => ⟨S1x4x512x2048, .f32⟩
  | .hbm, ⟨69, _⟩ => ⟨S4x512x2048, .f32⟩
  | .hbm, ⟨70, _⟩ => ⟨S1x512x2048, .f32⟩
  | .hbm, ⟨71, _⟩ => ⟨S512x2048, .f32⟩
  | .hbm, ⟨72, _⟩ => ⟨S16384x2048, .f32⟩
  | .hbm, ⟨73, _⟩ => ⟨S1x4x2048x2048, .f32⟩
  | .hbm, ⟨74, _⟩ => ⟨S4x2048x2048, .f32⟩
  | .hbm, ⟨75, _⟩ => ⟨S1x2048x2048, .f32⟩
  | .hbm, ⟨76, _⟩ => ⟨S2048x2048, .f32⟩
  | .hbm, ⟨77, _⟩ => ⟨S16384x2048, .f32⟩
  | .hbm, ⟨78, _⟩ => ⟨S1x4x2048, .f32⟩
  | .hbm, ⟨79, _⟩ => ⟨S4x2048, .f32⟩
  | .hbm, ⟨80, _⟩ => ⟨S1x2048, .f32⟩
  | .hbm, ⟨81, _⟩ => ⟨S2048, .f32⟩
  | .hbm, ⟨82, _⟩ => ⟨S1x2048, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S16384x2048, .f32⟩
  | .hbm, ⟨87, _⟩ => ⟨S_, .f32⟩
  | .hbm, ⟨88, _⟩ => ⟨S16384x2048, .f32⟩
  | .hbm, ⟨89, _⟩ => ⟨S16384x2048, .f32⟩
  | .hbm, ⟨90, _⟩ => ⟨S_, .f32⟩
  | .hbm, ⟨91, _⟩ => ⟨S16384x2048, .f32⟩
  | .hbm, ⟨92, _⟩ => ⟨S16384x2048, .f32⟩
  | .hbm, ⟨93, _⟩ => ⟨S16384x2048, .f32⟩
  | .hbm, ⟨94, _⟩ => ⟨S16384x2048, .f32⟩
  | .hbm, ⟨95, _⟩ => ⟨S16384x512, .f32⟩
  | .hbm, ⟨96, _⟩ => ⟨S1x4x512x2048, .f32⟩
  | .hbm, ⟨97, _⟩ => ⟨S4x512x2048, .f32⟩
  | .hbm, ⟨98, _⟩ => ⟨S1x512x2048, .f32⟩
  | .hbm, ⟨99, _⟩ => ⟨S512x2048, .f32⟩
  | .hbm, ⟨100, _⟩ => ⟨S16384x2048, .f32⟩
  | .hbm, ⟨101, _⟩ => ⟨S1x4x2048x2048, .f32⟩
  | .hbm, ⟨102, _⟩ => ⟨S4x2048x2048, .f32⟩
  | .hbm, ⟨103, _⟩ => ⟨S1x2048x2048, .f32⟩
  | .hbm, ⟨104, _⟩ => ⟨S2048x2048, .f32⟩
  | .hbm, ⟨105, _⟩ => ⟨S16384x2048, .f32⟩
  | .hbm, ⟨106, _⟩ => ⟨S1x4x2048, .f32⟩
  | .hbm, ⟨107, _⟩ => ⟨S4x2048, .f32⟩
  | .hbm, ⟨108, _⟩ => ⟨S1x2048, .f32⟩
  | .hbm, ⟨109, _⟩ => ⟨S2048, .f32⟩
  | .hbm, ⟨110, _⟩ => ⟨S1x2048, .f32⟩
  | .hbm, ⟨111, _⟩ => ⟨S16384x2048, .f32⟩
  | .hbm, ⟨112, _⟩ => ⟨S16384x2048, .f32⟩
  | .hbm, ⟨113, _⟩ => ⟨S16384x2048, .f32⟩
  | .hbm, ⟨114, _⟩ => ⟨S16384x2048, .f32⟩
  | .hbm, ⟨115, _⟩ => ⟨S_, .f32⟩
  | .hbm, ⟨116, _⟩ => ⟨S16384x2048, .f32⟩
  | .hbm, ⟨117, _⟩ => ⟨S16384x2048, .f32⟩
  | .hbm, ⟨118, _⟩ => ⟨S_, .f32⟩
  | .hbm, ⟨119, _⟩ => ⟨S16384x2048, .f32⟩
  | .hbm, ⟨120, _⟩ => ⟨S16384x2048, .f32⟩
  | .hbm, ⟨121, _⟩ => ⟨S16384x2048, .f32⟩
  | .hbm, ⟨122, _⟩ => ⟨S16384x2048, .f32⟩
  | .hbm, ⟨123, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_4 : Ref sig .tc := ⟨.hbm, 87, rfl⟩
abbrev main_v74 : Ref sig .tc := ⟨.hbm, 88, rfl⟩
abbrev main_v75 : Ref sig .tc := ⟨.hbm, 89, rfl⟩
abbrev main_cst_5 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_cst_6 : Ref sig .tc := ⟨.hbm, 115, rfl⟩
abbrev main_v100 : Ref sig .tc := ⟨.hbm, 116, rfl⟩
abbrev main_v101 : Ref sig .tc := ⟨.hbm, 117, rfl⟩
abbrev main_cst_7 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩

abbrev nD : Nat := 1
abbrev τ : Topo := Topo.v7x

variable {F : FTy → Type} [FloatOps F]
-- ==== ProjectA.lean ====
abbrev S16384x2048 : Shape := ⟨2, ![16384, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S2048x512 : Shape := ⟨2, ![2048, 512]⟩
abbrev S2048x256 : Shape := ⟨2, ![2048, 256]⟩
abbrev S2048x8 : Shape := ⟨2, ![2048, 8]⟩
abbrev S2048x4 : Shape := ⟨2, ![2048, 4]⟩
abbrev S2048x1024 : Shape := ⟨2, ![2048, 1024]⟩
abbrev S_ : Shape := ⟨0, ![]⟩
abbrev S2048x128 : Shape := ⟨2, ![2048, 128]⟩
abbrev S2048x8x64 : Shape := ⟨3, ![2048, 8, 64]⟩
abbrev S2048x2176 : Shape := ⟨2, ![2048, 2176]⟩
abbrev S2048x2048 : Shape := ⟨2, ![2048, 2048]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 39
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S4x2048x6672, .f32⟩
  | .hbm, ⟨2, _⟩ => ⟨S1x2048x6672, .f32⟩
  | .hbm, ⟨3, _⟩ => ⟨S2048x6672, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x256, .f32⟩
  | .hbm, ⟨9, _⟩ => ⟨S2048x256, .f32⟩
  | .hbm, ⟨10, _⟩ => ⟨S2048x8, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x4, .f32⟩
  | .hbm, ⟨15, _⟩ => ⟨S2048x4, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x1024, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x8x64, .f32⟩
  | .hbm, ⟨26, _⟩ => ⟨S2048x512, .f32⟩
  | .hbm, ⟨27, _⟩ => ⟨S2048x2176, .f32⟩
  | .hbm, ⟨28, _⟩ => ⟨S2048x8, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S2048x2176, .f32⟩
  | .hbm, ⟨33, _⟩ => ⟨S2048x2048, .f32⟩
  | .hbm, ⟨34, _⟩ => ⟨S2048x1024, .bf16⟩
  | .hbm, ⟨35, _⟩ => ⟨S2048x2176, .bf16⟩
  | .hbm, ⟨36, _⟩ => ⟨S2048x2176, .bf16⟩
  | .hbm, ⟨37, _⟩ => ⟨S2048x2048, .bf16⟩
  | .hbm, ⟨38, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_call0_v0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_call1_v0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjectARefIdeal.lean ====
abbrev S16384x2048 : Shape := ⟨2, ![16384, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S16384x6672 : Shape := ⟨2, ![16384, 6672]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x6672, .f32⟩
  | .hbm, ⟨2, _⟩ => ⟨S16384x2048, .f32⟩
  | .hbm, ⟨3, _⟩ => ⟨S1x2048x6672, .f32⟩
  | .hbm, ⟨4, _⟩ => ⟨S2048x6672, .f32⟩
  | .hbm, ⟨5, _⟩ => ⟨S16384x6672, .f32⟩
  | .hbm, ⟨6, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjectB.lean ====
abbrev S16384x2048 : Shape := ⟨2, ![16384, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S2048x512 : Shape := ⟨2, ![2048, 512]⟩
abbrev S2048x256 : Shape := ⟨2, ![2048, 256]⟩
abbrev S2048x8 : Shape := ⟨2, ![2048, 8]⟩
abbrev S2048x4 : Shape := ⟨2, ![2048, 4]⟩
abbrev S2048x1024 : Shape := ⟨2, ![2048, 1024]⟩
abbrev S_ : Shape := ⟨0, ![]⟩
abbrev S2048x128 : Shape := ⟨2, ![2048, 128]⟩
abbrev S2048x8x64 : Shape := ⟨3, ![2048, 8, 64]⟩
abbrev S2048x2176 : Shape := ⟨2, ![2048, 2176]⟩
abbrev S2048x2048 : Shape := ⟨2, ![2048, 2048]⟩
abbrev S16384x2176 : Shape := ⟨2, ![16384, 2176]⟩
abbrev S512x2048 : Shape := ⟨2, ![512, 2048]⟩
abbrev S512x2176 : Shape := ⟨2, ![512, 2176]⟩

abbrev nBuf : Space → Nat
  | .hbm => 39
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S4x2048x6672, .f32⟩
  | .hbm, ⟨2, _⟩ => ⟨S1x2048x6672, .f32⟩
  | .hbm, ⟨3, _⟩ => ⟨S2048x6672, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x256, .f32⟩
  | .hbm, ⟨9, _⟩ => ⟨S2048x256, .f32⟩
  | .hbm, ⟨10, _⟩ => ⟨S2048x8, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x4, .f32⟩
  | .hbm, ⟨15, _⟩ => ⟨S2048x4, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x1024, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x8x64, .f32⟩
  | .hbm, ⟨26, _⟩ => ⟨S2048x512, .f32⟩
  | .hbm, ⟨27, _⟩ => ⟨S2048x2176, .f32⟩
  | .hbm, ⟨28, _⟩ => ⟨S2048x8, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S2048x2176, .f32⟩
  | .hbm, ⟨33, _⟩ => ⟨S2048x2048, .f32⟩
  | .hbm, ⟨34, _⟩ => ⟨S2048x1024, .bf16⟩
  | .hbm, ⟨35, _⟩ => ⟨S2048x2176, .bf16⟩
  | .hbm, ⟨36, _⟩ => ⟨S2048x2176, .bf16⟩
  | .hbm, ⟨37, _⟩ => ⟨S2048x2048, .bf16⟩
  | .hbm, ⟨38, _⟩ => ⟨S16384x2176, .f32⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S512x2176, .f32⟩
  | .local _ .vmem, ⟨4, _⟩ => ⟨S512x2176, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_call0_v0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_call1_v0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjectBRefIdeal.lean ====
abbrev S16384x2048 : Shape := ⟨2, ![16384, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S16384x6672 : Shape := ⟨2, ![16384, 6672]⟩
abbrev S16384x8 : Shape := ⟨2, ![16384, 8]⟩
abbrev S16384x1536 : Shape := ⟨2, ![16384, 1536]⟩
abbrev S_ : Shape := ⟨0, ![]⟩
abbrev S16384x128 : Shape := ⟨2, ![16384, 128]⟩
abbrev S16384x8x64 : Shape := ⟨3, ![16384, 8, 64]⟩
abbrev S16384x512 : Shape := ⟨2, ![16384, 512]⟩
abbrev S16384x2176 : Shape := ⟨2, ![16384, 2176]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x6672, .f32⟩
  | .hbm, ⟨2, _⟩ => ⟨S16384x2048, .f32⟩
  | .hbm, ⟨3, _⟩ => ⟨S1x2048x6672, .f32⟩
  | .hbm, ⟨4, _⟩ => ⟨S2048x6672, .f32⟩
  | .hbm, ⟨5, _⟩ => ⟨S16384x6672, .f32⟩
  | .hbm, ⟨6, _⟩ => ⟨S16384x8, .f32⟩
  | .hbm, ⟨7, _⟩ => ⟨S16384x1536, .f32⟩
  | .hbm, ⟨8, _⟩ => ⟨S_, .i32⟩
  | .hbm, ⟨9, _⟩ => ⟨S_, .f32⟩
  | .hbm, ⟨10, _⟩ => ⟨S16384x128, .f32⟩
  | .hbm, ⟨11, _⟩ => ⟨S16384x8x64, .f32⟩
  | .hbm, ⟨12, _⟩ => ⟨S16384x512, .f32⟩
  | .hbm, ⟨13, _⟩ => ⟨S16384x2176, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ProjectC.lean ====
abbrev S16384x2048 : Shape := ⟨2, ![16384, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S2048x512 : Shape := ⟨2, ![2048, 512]⟩
abbrev S2048x256 : Shape := ⟨2, ![2048, 256]⟩
abbrev S2048x8 : Shape := ⟨2, ![2048, 8]⟩
abbrev S2048x4 : Shape := ⟨2, ![2048, 4]⟩
abbrev S2048x1024 : Shape := ⟨2, ![2048, 1024]⟩
abbrev S_ : Shape := ⟨0, ![]⟩
abbrev S2048x128 : Shape := ⟨2, ![2048, 128]⟩
abbrev S2048x8x64 : Shape := ⟨3, ![2048, 8, 64]⟩
abbrev S2048x2176 : Shape := ⟨2, ![2048, 2176]⟩
abbrev S2048x2048 : Shape := ⟨2, ![2048, 2048]⟩
abbrev S16384x2176 : Shape := ⟨2, ![16384, 2176]⟩
abbrev S512x2048 : Shape := ⟨2, ![512, 2048]⟩
abbrev S512x2176 : Shape := ⟨2, ![512, 2176]⟩

abbrev nBuf : Space → Nat
  | .hbm => 39
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S4x2048x6672, .f32⟩
  | .hbm, ⟨2, _⟩ => ⟨S1x2048x6672, .f32⟩
  | .hbm, ⟨3, _⟩ => ⟨S2048x6672, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x256, .f32⟩
  | .hbm, ⟨9, _⟩ => ⟨S2048x256, .f32⟩
  | .hbm, ⟨10, _⟩ => ⟨S2048x8, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x4, .f32⟩
  | .hbm, ⟨15, _⟩ => ⟨S2048x4, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x1024, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x8x64, .f32⟩
  | .hbm, ⟨26, _⟩ => ⟨S2048x512, .f32⟩
  | .hbm, ⟨27, _⟩ => ⟨S2048x2176, .f32⟩
  | .hbm, ⟨28, _⟩ => ⟨S2048x8, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S2048x2176, .f32⟩
  | .hbm, ⟨33, _⟩ => ⟨S2048x2048, .f32⟩
  | .hbm, ⟨34, _⟩ => ⟨S2048x1024, .bf16⟩
  | .hbm, ⟨35, _⟩ => ⟨S2048x2176, .bf16⟩
  | .hbm, ⟨36, _⟩ => ⟨S2048x2176, .bf16⟩
  | .hbm, ⟨37, _⟩ => ⟨S2048x2048, .bf16⟩
  | .hbm, ⟨38, _⟩ => ⟨S16384x2176, .f32⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S512x2176, .f32⟩
  | .local _ .vmem, ⟨4, _⟩ => ⟨S512x2176, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_call0_v0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_call1_v0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjectCRefIdeal.lean ====
abbrev S16384x2048 : Shape := ⟨2, ![16384, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S16384x6672 : Shape := ⟨2, ![16384, 6672]⟩
abbrev S16384x1536 : Shape := ⟨2, ![16384, 1536]⟩
abbrev S16384x8 : Shape := ⟨2, ![16384, 8]⟩
abbrev S_ : Shape := ⟨0, ![]⟩
abbrev S16384x128 : Shape := ⟨2, ![16384, 128]⟩
abbrev S16384x512 : Shape := ⟨2, ![16384, 512]⟩
abbrev S16384x2176 : Shape := ⟨2, ![16384, 2176]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x6672, .f32⟩
  | .hbm, ⟨2, _⟩ => ⟨S16384x2048, .f32⟩
  | .hbm, ⟨3, _⟩ => ⟨S1x2048x6672, .f32⟩
  | .hbm, ⟨4, _⟩ => ⟨S2048x6672, .f32⟩
  | .hbm, ⟨5, _⟩ => ⟨S16384x6672, .f32⟩
  | .hbm, ⟨6, _⟩ => ⟨S16384x1536, .f32⟩
  | .hbm, ⟨7, _⟩ => ⟨S16384x8, .f32⟩
  | .hbm, ⟨8, _⟩ => ⟨S_, .i32⟩
  | .hbm, ⟨9, _⟩ => ⟨S_, .f32⟩
  | .hbm, ⟨10, _⟩ => ⟨S16384x128, .f32⟩
  | .hbm, ⟨11, _⟩ => ⟨S16384x512, .f32⟩
  | .hbm, ⟨12, _⟩ => ⟨S16384x2176, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ProjectD.lean ====
abbrev S16384x2048 : Shape := ⟨2, ![16384, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S2048x512 : Shape := ⟨2, ![2048, 512]⟩
abbrev S2048x256 : Shape := ⟨2, ![2048, 256]⟩
abbrev S2048x8 : Shape := ⟨2, ![2048, 8]⟩
abbrev S2048x4 : Shape := ⟨2, ![2048, 4]⟩
abbrev S2048x1024 : Shape := ⟨2, ![2048, 1024]⟩
abbrev S_ : Shape := ⟨0, ![]⟩
abbrev S2048x128 : Shape := ⟨2, ![2048, 128]⟩
abbrev S2048x8x64 : Shape := ⟨3, ![2048, 8, 64]⟩
abbrev S2048x2176 : Shape := ⟨2, ![2048, 2176]⟩
abbrev S2048x2048 : Shape := ⟨2, ![2048, 2048]⟩
abbrev S512x2048 : Shape := ⟨2, ![512, 2048]⟩

abbrev nBuf : Space → Nat
  | .hbm => 39
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S4x2048x6672, .f32⟩
  | .hbm, ⟨2, _⟩ => ⟨S1x2048x6672, .f32⟩
  | .hbm, ⟨3, _⟩ => ⟨S2048x6672, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x256, .f32⟩
  | .hbm, ⟨9, _⟩ => ⟨S2048x256, .f32⟩
  | .hbm, ⟨10, _⟩ => ⟨S2048x8, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x4, .f32⟩
  | .hbm, ⟨15, _⟩ => ⟨S2048x4, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x1024, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x8x64, .f32⟩
  | .hbm, ⟨26, _⟩ => ⟨S2048x512, .f32⟩
  | .hbm, ⟨27, _⟩ => ⟨S2048x2176, .f32⟩
  | .hbm, ⟨28, _⟩ => ⟨S2048x8, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S2048x2176, .f32⟩
  | .hbm, ⟨33, _⟩ => ⟨S2048x2048, .f32⟩
  | .hbm, ⟨34, _⟩ => ⟨S2048x1024, .bf16⟩
  | .hbm, ⟨35, _⟩ => ⟨S2048x2176, .bf16⟩
  | .hbm, ⟨36, _⟩ => ⟨S2048x2176, .bf16⟩
  | .hbm, ⟨37, _⟩ => ⟨S2048x2048, .bf16⟩
  | .hbm, ⟨38, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_call0_v0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_call1_v0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjectDRefIdeal.lean ====
abbrev S16384x2048 : Shape := ⟨2, ![16384, 2048]⟩
abbrev S4x2048x6672 : Shape := ⟨3, ![4, 2048, 6672]⟩
abbrev S1x2048x6672 : Shape := ⟨3, ![1, 2048, 6672]⟩
abbrev S2048x6672 : Shape := ⟨2, ![2048, 6672]⟩
abbrev S16384x6672 : Shape := ⟨2, ![16384, 6672]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x6672, .f32⟩
  | .hbm, ⟨2, _⟩ => ⟨S16384x2048, .f32⟩
  | .hbm, ⟨3, _⟩ => ⟨S1x2048x6672, .f32⟩
  | .hbm, ⟨4, _⟩ => ⟨S2048x6672, .f32⟩
  | .hbm, ⟨5, _⟩ => ⟨S16384x6672, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S16384x2048 : Shape := ⟨2, ![16384, 2048]⟩
abbrev S4x2048x2048 : Shape := ⟨3, ![4, 2048, 2048]⟩
abbrev S4x12288 : Shape := ⟨2, ![4, 12288]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S4x2048x2048, .f32⟩
  | .hbm, ⟨2, _⟩ => ⟨S16384x2048, .f32⟩
  | .hbm, ⟨3, _⟩ => ⟨S4x12288, .f32⟩
  | .hbm, ⟨4, _⟩ => ⟨S4x2048, .f32⟩
  | .hbm, ⟨5, _⟩ => ⟨S4x2048, .f32⟩
  | .hbm, ⟨6, _⟩ => ⟨S1x2048x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S16384x2048, .f32⟩
  | .hbm, ⟨25, _⟩ => ⟨S16384x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S16384x2048 : Shape := ⟨2, ![16384, 2048]⟩
abbrev S4x2048x2048 : Shape := ⟨3, ![4, 2048, 2048]⟩
abbrev S4x12288 : Shape := ⟨2, ![4, 12288]⟩
abbrev S4x2048 : Shape := ⟨2, ![4, 2048]⟩
abbrev S1x12288 : Shape := ⟨2, ![1, 12288]⟩
abbrev S12288 : Shape := ⟨1, ![12288]⟩
abbrev S1x2048 : Shape := ⟨2, ![1, 2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S2048 : Shape := ⟨1, ![2048]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x2048, .f32⟩
  | .hbm, ⟨2, _⟩ => ⟨S16384x2048, .f32⟩
  | .hbm, ⟨3, _⟩ => ⟨S4x12288, .f32⟩
  | .hbm, ⟨4, _⟩ => ⟨S4x2048, .f32⟩
  | .hbm, ⟨5, _⟩ => ⟨S4x2048, .f32⟩
  | .hbm, ⟨6, _⟩ => ⟨S1x12288, .f32⟩
  | .hbm, ⟨7, _⟩ => ⟨S12288, .f32⟩
  | .hbm, ⟨8, _⟩ => ⟨S1x12288, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S16384x2048, .f32⟩
  | .hbm, ⟨16, _⟩ => ⟨S1x2048x2048, .f32⟩
  | .hbm, ⟨17, _⟩ => ⟨S2048x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S1x2048, .f32⟩
  | .hbm, ⟨49, _⟩ => ⟨S2048, .f32⟩
  | .hbm, ⟨50, _⟩ => ⟨S1x2048, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S2048, .f32⟩
  | .hbm, ⟨55, _⟩ => ⟨S1x2048, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S1x2048, .f32⟩
  | .hbm, ⟨60, _⟩ => ⟨S1x2048, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Experts.lean ====
abbrev S160 : Shape := ⟨1, ![160]⟩
abbrev S1 : Shape := ⟨1, ![1]⟩
abbrev S40960x2048 : Shape := ⟨2, ![40960, 2048]⟩
abbrev S4x32x2048x512 : Shape := ⟨4, ![4, 32, 2048, 512]⟩
abbrev S4x32x512x2048 : Shape := ⟨4, ![4, 32, 512, 2048]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S40960x2048, .f32⟩
  | .hbm, ⟨1, _⟩ => ⟨S4x32x2048x512, .f32⟩
  | .hbm, ⟨2, _⟩ => ⟨S4x32x2048x512, .f32⟩
  | .hbm, ⟨3, _⟩ => ⟨S4x32x512x2048, .f32⟩
  | .hbm, ⟨4, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S160 : Shape := ⟨1, ![160]⟩
abbrev S1 : Shape := ⟨1, ![1]⟩
abbrev S40960x2048 : Shape := ⟨2, ![40960, 2048]⟩
abbrev S4x32x2048x512 : Shape := ⟨4, ![4, 32, 2048, 512]⟩
abbrev S4x32x512x2048 : Shape := ⟨4, ![4, 32, 512, 2048]⟩
abbrev S160x256x2048 : Shape := ⟨3, ![160, 256, 2048]⟩
abbrev S1x32x2048x512 : Shape := ⟨4, ![1, 32, 2048, 512]⟩
abbrev S32x2048x512 : Shape := ⟨3, ![32, 2048, 512]⟩
abbrev S_ : Shape := ⟨0, ![]⟩
abbrev S160x1 : Shape := ⟨2, ![160, 1]⟩
abbrev S160x2048x512 : Shape := ⟨3, ![160, 2048, 512]⟩
abbrev S160x256x512 : Shape := ⟨3, ![160, 256, 512]⟩
abbrev S1x32x512x2048 : Shape := ⟨4, ![1, 32, 512, 2048]⟩
abbrev S32x512x2048 : Shape := ⟨3, ![32, 512, 2048]⟩
abbrev S160x512x2048 : Shape := ⟨3, ![160, 512, 2048]⟩
abbrev S160x1x1 : Shape := ⟨3, ![160, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .f32⟩
  | .hbm, ⟨3, _⟩ => ⟨S4x32x2048x512, .f32⟩
  | .hbm, ⟨4, _⟩ => ⟨S4x32x2048x512, .f32⟩
  | .hbm, ⟨5, _⟩ => ⟨S4x32x512x2048, .f32⟩
  | .hbm, ⟨6, _⟩ => ⟨S160x256x2048, .f32⟩
  | .hbm, ⟨7, _⟩ => ⟨S1x32x2048x512, .f32⟩
  | .hbm, ⟨8, _⟩ => ⟨S32x2048x512, .f32⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S160, .i32⟩
  | .hbm, ⟨16, _⟩ => ⟨S160x1, .i32⟩
  | .hbm, ⟨17, _⟩ => ⟨S160x2048x512, .f32⟩
  | .hbm, ⟨18, _⟩ => ⟨S160x256x512, .f32⟩
  | .hbm, ⟨19, _⟩ => ⟨S160x256x512, .f32⟩
  | .hbm, ⟨20, _⟩ => ⟨S160x256x512, .f32⟩
  | .hbm, ⟨21, _⟩ => ⟨S_, .f32⟩
  | .hbm, ⟨22, _⟩ => ⟨S160x256x512, .f32⟩
  | .hbm, ⟨23, _⟩ => ⟨S160x256x512, .f32⟩
  | .hbm, ⟨24, _⟩ => ⟨S_, .f32⟩
  | .hbm, ⟨25, _⟩ => ⟨S160x256x512, .f32⟩
  | .hbm, ⟨26, _⟩ => ⟨S160x256x512, .f32⟩
  | .hbm, ⟨27, _⟩ => ⟨S160x256x512, .f32⟩
  | .hbm, ⟨28, _⟩ => ⟨S1x32x2048x512, .f32⟩
  | .hbm, ⟨29, _⟩ => ⟨S32x2048x512, .f32⟩
  | .hbm, ⟨30, _⟩ => ⟨S_, .i32⟩
  | .hbm, ⟨31, _⟩ => ⟨S160, .i32⟩
  | .hbm, ⟨32, _⟩ => ⟨S160, .i1⟩
  | .hbm, ⟨33, _⟩ => ⟨S_, .i32⟩
  | .hbm, ⟨34, _⟩ => ⟨S160, .i32⟩
  | .hbm, ⟨35, _⟩ => ⟨S160, .i32⟩
  | .hbm, ⟨36, _⟩ => ⟨S160, .i32⟩
  | .hbm, ⟨37, _⟩ => ⟨S160x1, .i32⟩
  | .hbm, ⟨38, _⟩ => ⟨S160x2048x512, .f32⟩
  | .hbm, ⟨39, _⟩ => ⟨S160x256x512, .f32⟩
  | .hbm, ⟨40, _⟩ => ⟨S160x256x512, .f32⟩
  | .hbm, ⟨41, _⟩ => ⟨S1x32x512x2048, .f32⟩
  | .hbm, ⟨42, _⟩ => ⟨S32x512x2048, .f32⟩
  | .hbm, ⟨43, _⟩ => ⟨S_, .i32⟩
  | .hbm, ⟨44, _⟩ => ⟨S160, .i32⟩
  | .hbm, ⟨45, _⟩ => ⟨S160, .i1⟩
  | .hbm, ⟨46, _⟩ => ⟨S_, .i32⟩
  | .hbm, ⟨47, _⟩ => ⟨S160, .i32⟩
  | .hbm, ⟨48, _⟩ => ⟨S160, .i32⟩
  | .hbm, ⟨49, _⟩ => ⟨S160, .i32⟩
  | .hbm, ⟨50, _⟩ => ⟨S160x1, .i32⟩
  | .hbm, ⟨51, _⟩ => ⟨S160x512x2048, .f32⟩
  | .hbm, ⟨52, _⟩ => ⟨S160x256x2048, .f32⟩
  | .hbm, ⟨53, _⟩ => ⟨S160, .i32⟩
  | .hbm, ⟨54, _⟩ => ⟨S_, .i32⟩
  | .hbm, ⟨55, _⟩ => ⟨S160, .i32⟩
  | .hbm, ⟨56, _⟩ => ⟨S160, .i1⟩
  | .hbm, ⟨57, _⟩ => ⟨S160x1x1, .i1⟩
  | .hbm, ⟨58, _⟩ => ⟨S_, .f32⟩
  | .hbm, ⟨59, _⟩ => ⟨S_, .f32⟩
  | .hbm, ⟨60, _⟩ => ⟨S160x256x2048, .i1⟩
  | .hbm, ⟨61, _⟩ => ⟨S160x256x2048, .f32⟩
  | .hbm, ⟨62, _⟩ => ⟨S160x256x2048, .f32⟩
  | .hbm, ⟨63, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Ada.lean ====
abbrev S1x2048 : Shape := ⟨2, ![1, 2048]⟩
abbrev S4x2048x12288 : Shape := ⟨3, ![4, 2048, 12288]⟩
abbrev S4x12288 : Shape := ⟨2, ![4, 12288]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S4x1x12288, .f32⟩
  | .hbm, ⟨5, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S1x2048 : Shape := ⟨2, ![1, 2048]⟩
abbrev S4x2048x12288 : Shape := ⟨3, ![4, 2048, 12288]⟩
abbrev S4x12288 : Shape := ⟨2, ![4, 12288]⟩
abbrev S_ : Shape := ⟨0, ![]⟩
abbrev S4x12288x1 : Shape := ⟨3, ![4, 12288, 1]⟩
abbrev S4x1x12288 : Shape := ⟨3, ![4, 1, 12288]⟩
abbrev S4x8x12288 : Shape := ⟨3, ![4, 8, 12288]⟩

abbrev nBuf : Space → Nat
  | .hbm => 17
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S4x2048x12288, .f32⟩
  | .hbm, ⟨2, _⟩ => ⟨S4x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S4x12288x1, .f32⟩
  | .hbm, ⟨13, _⟩ => ⟨S4x1x12288, .f32⟩
  | .hbm, ⟨14, _⟩ => ⟨S4x1x12288, .f32⟩
  | .hbm, ⟨15, _⟩ => ⟨S4x1x12288, .f32⟩
  | .hbm, ⟨16, _⟩ => ⟨S4x8x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.DispatchBody.lean ====
/- One grid point of the MoE dispatch: 1024 row copies started on one DMA semaphore, two per token row of the staged
   block, then 1024 waits. The words of the point's table name the destination rows of the result; they are in range and
   pairwise distinct (`WordsOK`), so no two copies in flight meet. The body is run over any float values. -/
module

public import proofs.«01_k».proof.Proof.Gen.DispatchIdeal
public import proofs.«01_k».proof.Proof.Gen.DispatchIdeal.Skeleton
public import Idealize.ShloMosaic.Lib.Pipeline.Routed
public import Idealize.ShloMosaic.Lib.Batch
public import Idealize.ShloMosaic.Lib.Ring
public import Idealize.ShloMosaic.Lib.Tactic
public import Idealize.ShloMosaic.Lib.Exec

@[expose] public section

noncomputable section

namespace Cert.DispatchProof

open Cert.DispatchIdeal Cert.DispatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))
/-- Memref `M`'s buffer on core `c` held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The number of trips of either loop. -/
theorem trips_eq : k0_t1_loop.trips = 512 := by decide
theorem trips2_eq : k0_t2_loop.trips = 512 := by decide

/-- The one index of a one-element block. -/
abbrev i0 : S1x1x1.Idx := Shape.Idx.first (s := S1x1x1) (numel1_S1x1x1.symm ▸ Nat.one_pos)

section Words
variable (M0 : Memref sig .tc .smem S1x1x1024 .i32) {c : Dev nD} (f0 : Bf (F := F) c M0)

/-- The first word trip `k` of the issuing loop reads: the slot of token row `k`'s first copy, -/
abbrev wA (k : Fin k0_t1_loop.trips) : BitVec 32 :=
  M0.view.readAt (Elt F) (Rect.unit (s := S1x1x1024) (k0_off1 k) S1x1x1.size (k0_off1_inb k)).toLoadRect f0 i0
/-- and the second: the slot of its second copy. -/
abbrev wB (k : Fin k0_t1_loop.trips) : BitVec 32 :=
  M0.view.readAt (Elt F) (Rect.unit (s := S1x1x1024) (k0_off4 k) S1x1x1.size (k0_off4_inb k)).toLoadRect f0 i0
/-- The words the draining loop reads at trip `k`. -/
abbrev wA' (k : Fin k0_t2_loop.trips) : BitVec 32 :=
  M0.view.readAt (Elt F) (Rect.unit (s := S1x1x1024) (k0_off7 k) S1x1x1.size (k0_off7_inb k)).toLoadRect f0 i0
abbrev wB' (k : Fin k0_t2_loop.trips) : BitVec 32 :=
  M0.view.readAt (Elt F) (Rect.unit (s := S1x1x1024) (k0_off10 k) S1x1x1.size (k0_off10_inb k)).toLoadRect f0 i0

/-- What the run asks of the words of one point: each names a slot, and no two the same slot. -/
structure WordsOK : Prop where
  rangeA : ∀ k, (wA M0 f0 k).toNat < 40960
  rangeB : ∀ k, (wB M0 f0 k).toNat < 40960
  distinctA : ∀ k k', k ≠ k' → (wA M0 f0 k).toNat ≠ (wA M0 f0 k').toNat
  distinctB : ∀ k k', k ≠ k' → (wB M0 f0 k).toNat ≠ (wB M0 f0 k').toNat
  distinctAB : ∀ k k', (wA M0 f0 k).toNat ≠ (wB M0 f0 k').toNat
end Words

/-- A slot below 40960 is a row of the result. -/
theorem row_inb (w : BitVec 32) (hw : w.toNat < 40960) : ∀ a, k0_off2 w a + S1x2048.size a ≤ S40960x2048.size a := by
  intro a; fin_cases a
  · show w.toNat + 1 ≤ 40960; omega
  · show 0 + 2048 ≤ 2048; decide

/-- Row `w` of the result, as a copy's destination. -/
def rowM (w : BitVec 32) (h : ∀ a, k0_off2 w a + S1x2048.size a ≤ S40960x2048.size a) : Memref sig .tc .hbm S1x2048 .f32 :=
  (Memref.whole main_v0).slice (Rect.unit (s := S40960x2048) (k0_off2 w) S1x2048.size h) (fun _ => rfl)
/-- The elements of row `w` of the result: those at that row. -/
theorem mem_rowM (w : BitVec 32) (h) (y : S40960x2048.Idx) : y ∈ (rowM w h).view.set ↔ (y 0).val = w.toNat := by
  have e : (rowM w h).view.set = (Rect.unit (s := S40960x2048) (k0_off2 w) S1x2048.size h).set := by
    unfold rowM; exact View.set_slice_whole _ _
  refine (Iff.of_eq (congrArg (fun S : Finset S40960x2048.Idx => y ∈ S) e)).trans (Rect.mem_set_unit.trans ?_)
  constructor
  · intro H; have a : w.toNat ≤ (y 0).val ∧ (y 0).val < w.toNat + 1 := H 0; omega
  · intro H a; fin_cases a
    · show w.toNat ≤ (y 0).val ∧ (y 0).val < w.toNat + 1; omega
    · show 0 ≤ (y 1).val ∧ (y 1).val < 0 + 2048; exact ⟨Nat.zero_le _, by have : (y 1).val < 2048 := (y 1).isLt; omega⟩

/-- Row `k` of the staged block of tokens, as a copy's source. -/
def srcM (M1 : Memref sig .tc .vmem S512x2048 .f32) (k : Fin k0_t1_loop.trips) : Memref sig .tc .vmem S1x2048 .f32 :=
  M1.slice (Rect.unit (s := S512x2048) (k0_off3 k) S1x2048.size (k0_off3_inb k)) (fun _ => rfl)

/-- One copy's credit on the semaphore: a row of 2048 f32 in units of 32 bytes. -/
abbrev NN : ℕ := 256

theorem row_amount (w : BitVec 32) (h) : (rowM w h).view.amount (.dma cc0_scratch0.sem) = NN := rfl
theorem row_credit (w : BitVec 32) (h) : (rowM w h).view.dmaCredit = 1 * NN := rfl

section Deliveries

variable (c : Dev nD) {M0 : Memref sig .tc .smem S1x1x1024 .i32} {f0 : Bf (F := F) c M0} (hok : WordsOK M0 f0)
  (M1 : Memref sig .tc .vmem S512x2048 .f32)
  (G : Bf (F := F) c (Memref.whole main_v0)) (fs : Bf (F := F) c M1)

/-- Contents of the result and of the staged block, read at a row's view of the same buffer. -/
abbrev rowAt (G : Bf (F := F) c (Memref.whole main_v0)) (w : BitVec 32) (h : ∀ a, k0_off2 w a + S1x2048.size a ≤ S40960x2048.size a) :
    Buf (Elt F) ((rowM w h).view.loc (c : Thread nD τ)) := G
abbrev srcAt (k : Fin k0_t1_loop.trips) : Buf (Elt F) ((srcM M1 k).view.loc (c : Thread nD τ)) := fs

/-- The row of the result token row `k`'s first copy goes to, held at the contents `G`; -/
def dstA (k : Fin k0_t1_loop.trips) : sProp 𝕄 :=
  (rowM (wA M0 f0 k) (row_inb _ (hok.rangeA k))).view.loc (c : Thread nD τ)
    ↦[(rowM (wA M0 f0 k) (row_inb _ (hok.rangeA k))).view.set]{fullShare} rowAt c G (wA M0 f0 k) (row_inb _ (hok.rangeA k))
/-- its second copy's row; -/
def dstB (k : Fin k0_t1_loop.trips) : sProp 𝕄 :=
  (rowM (wB M0 f0 k) (row_inb _ (hok.rangeB k))).view.loc (c : Thread nD τ)
    ↦[(rowM (wB M0 f0 k) (row_inb _ (hok.rangeB k))).view.set]{fullShare} rowAt c G (wB M0 f0 k) (row_inb _ (hok.rangeB k))
/-- and the token row itself, at the share `q`. -/
def srcP (q : PosShare TreeShare) (k : Fin k0_t1_loop.trips) : sProp 𝕄 :=
  (srcM M1 k).view.loc (c : Thread nD τ) ↦[(srcM M1 k).view.set]{q} srcAt c M1 fs k

/-- What token row `k`'s first copy delivers, by number: its row of the result landed and its half of the token row back; -/
def DA (k : ℕ) : sProp 𝕄 :=
  if h : k < k0_t1_loop.trips then iprop(dstA c hok G ⟨k, h⟩ ∗ srcP c M1 fs fullShare.left ⟨k, h⟩) else iprop(emp)
/-- and its second copy. -/
def DB (k : ℕ) : sProp 𝕄 :=
  if h : k < k0_t1_loop.trips then iprop(dstB c hok G ⟨k, h⟩ ∗ srcP c M1 fs fullShare.right ⟨k, h⟩) else iprop(emp)

instance DA_storable (k : ℕ) : BI.Storable (upEmb : UEmb _ 𝕄) (DA c hok M1 G fs k) := by
  unfold DA dstA srcP; split <;> infer_instance
instance DB_storable (k : ℕ) : BI.Storable (upEmb : UEmb _ 𝕄) (DB c hok M1 G fs k) := by
  unfold DB dstB srcP; split <;> infer_instance

theorem DA_at (k : Fin k0_t1_loop.trips) :
    DA c hok M1 G fs k.val = iprop(dstA c hok G k ∗ srcP c M1 fs fullShare.left k) := by
  unfold DA; rw [dif_pos k.isLt]
theorem DB_at (k : Fin k0_t1_loop.trips) :
    DB c hok M1 G fs k.val = iprop(dstB c hok G k ∗ srcP c M1 fs fullShare.right k) := by
  unfold DB; rw [dif_pos k.isLt]

/-- The point's 1024 copies on the one semaphore: `j` started, `u` units waited for. -/
abbrev batch (j u : ℕ) : sProp 𝕄 :=
  Transfers.Batch countersEmb (c : Thread nD τ) (.dma cc0_scratch0.sem) () NN
    (Ring.interleaved 512 (DA c hok M1 G fs) (DB c hok M1 G fs)) j u

/-- What trip `k` of the issuing loop takes: its two rows of the result at the contents before, and both halves of its
    token row. -/
def piece (fv : Bf (F := F) c (Memref.whole main_v0)) (k : Fin k0_t1_loop.trips) : sProp 𝕄 :=
  iprop(dstA c hok fv k ∗ dstB c hok fv k ∗ srcP c M1 fs fullShare.left k ∗ srcP c M1 fs fullShare.right k)

end Deliveries

section Issue

variable (c : Dev nD) (M0 : Memref sig .tc .smem S1x1x1024 .i32) (f0 : Bf (F := F) c M0) (hok : WordsOK M0 f0)
  (M1 : Memref sig .tc .vmem S512x2048 .f32)
  (fv G : Bf (F := F) c (Memref.whole main_v0)) (fs : Bf (F := F) c M1)

/-- The contents row `w` of the result has once token row `k` has been copied to it. -/
abbrev landed (w : BitVec 32) (h : ∀ a, k0_off2 w a + S1x2048.size a ≤ S40960x2048.size a)
    (k : Fin k0_t1_loop.trips) : Bf (F := F) c (Memref.whole main_v0) :=
  (rowM w h).view.write (Elt F) fv (ReadAs.same.apply ((srcM M1 k).view.read (Elt F) fs)) Finset.univ

/-- `G` is what the point's copies leave: token row `k` on each of its two rows, -/
structure Lands : Prop where
  onA : ∀ k, ∀ i : S40960x2048.Idx, (i 0).val = (wA M0 f0 k).toNat → landed c M1 fv fs (wA M0 f0 k) (row_inb _ (hok.rangeA k)) k i = G i
  onB : ∀ k, ∀ i : S40960x2048.Idx, (i 0).val = (wB M0 f0 k).toNat → landed c M1 fv fs (wB M0 f0 k) (row_inb _ (hok.rangeB k)) k i = G i
  off : ∀ i : S40960x2048.Idx, (∀ k, (i 0).val ≠ (wA M0 f0 k).toNat) → (∀ k, (i 0).val ≠ (wB M0 f0 k).toNat) → fv i = G i

/-- Copy `2k` delivers token row `k` on the row its first word names; -/
theorem deliverA (hG : Lands c M0 f0 hok M1 fv G fs) (k : Fin k0_t1_loop.trips) (hj : 2 * k.val < 2 * 512) :
    iprop(((rowM (wA M0 f0 k) (row_inb _ (hok.rangeA k))).view.loc (c : Thread nD τ)
        ↦[(rowM (wA M0 f0 k) (row_inb _ (hok.rangeA k))).view.set]{fullShare} landed c M1 fv fs (wA M0 f0 k) (row_inb _ (hok.rangeA k)) k)
      ∗ ((srcM M1 k).view.loc (c : Thread nD τ) ↦[(srcM M1 k).view.set]{fullShare.left} fs))
    ⊢ (Ring.interleaved 512 (DA c hok M1 G fs) (DB c hok M1 G fs) ⟨2 * k.val, hj⟩ : sProp 𝕄) := by
  rw [Ring.interleaved_even, DA_at]
  exact Entails.of_eq (congrArg (fun P => iprop(P ∗ srcP c M1 fs fullShare.left k)) (pointsTo_congr fun i hi => hG.onA k i ((mem_rowM _ _ i).mp hi)))
/-- copy `2k + 1` on the row its second word names. -/
theorem deliverB (hG : Lands c M0 f0 hok M1 fv G fs) (k : Fin k0_t1_loop.trips) (hj : 2 * k.val + 1 < 2 * 512) :
    iprop(((rowM (wB M0 f0 k) (row_inb _ (hok.rangeB k))).view.loc (c : Thread nD τ)
        ↦[(rowM (wB M0 f0 k) (row_inb _ (hok.rangeB k))).view.set]{fullShare} landed c M1 fv fs (wB M0 f0 k) (row_inb _ (hok.rangeB k)) k)
      ∗ ((srcM M1 k).view.loc (c : Thread nD τ) ↦[(srcM M1 k).view.set]{fullShare.right} fs))
    ⊢ (Ring.interleaved 512 (DA c hok M1 G fs) (DB c hok M1 G fs) ⟨2 * k.val + 1, hj⟩ : sProp 𝕄) := by
  rw [Ring.interleaved_odd, DB_at]
  exact Entails.of_eq (congrArg (fun P => iprop(P ∗ srcP c M1 fs fullShare.right k)) (pointsTo_congr fun i hi => hG.onB k i ((mem_rowM _ _ i).mp hi)))

/-- Before trip `k` of the issuing loop: `2k` copies started, the later trips' rows in hand, the table readable. -/
def issueAt (k : ℕ) (_ : Unit) : sProp 𝕄 :=
  iprop(batch c hok M1 G fs (2 * k) 0
    ∗ bigSep (Ring.rangeSet k0_t1_loop.trips k 512) (piece c hok M1 fs fv)
    ∗ pt c M0 f0)

/-- One trip of the issuing loop. -/
theorem issue_step [∀ e, Nonempty (Elt F e)] (hG : Lands c M0 f0 hok M1 fv G fs) (h0 : M0.IsWhole) (h1 : M1.IsWhole) (i : grid0.Coords)
    (k : Fin k0_t1_loop.trips) (acc : Unit) :
    issueAt c M0 f0 hok M1 fv G fs k acc
      ⊢ wp frame (wpE (defs₀ (F := F)) Variants.none c none) Set.univ
          (k0_t1_body i M0 h0 M1 h1 (Memref.whole main_v0) (Memref.isWhole_whole _) (Memref.whole main_v0) (Memref.isWhole_whole _) cc0_scratch0 k acc)
          (issueAt c M0 f0 hok M1 fv G fs (k.val + 1)) := by
  have hk : k.val < 512 := trips_eq ▸ k.isLt
  have c1 : k0_chk1 (wA M0 f0 k) := row_inb _ (hok.rangeA k)
  have c2 : k0_chk2 (wB M0 f0 k) := row_inb _ (hok.rangeB k)
  unfold issueAt
  rw [Ring.bigSep_rangeSet_head hk k.isLt]
  unfold piece dstA dstB srcP
  iintro ⟨HB, ⟨⟨HdA, HdB, HsA, HsB⟩, HP⟩, H0⟩
  dsimp only [k0_t1_body]
  sl_exec (disch := first | exact c1 | exact c2)
  iapply (Transfers.wp_dmaBatch (Lvl := ℕ) countersEmb Variants.none (c : Thread nD τ) none (src := srcM M1 k)
    (dst := rowM (wA M0 f0 k) (row_inb _ (hok.rangeA k))) (via := ReadAs.same) (fs := fs) (fd := fv) (q := fullShare.left)
    () NN (row_amount _ _) subset_rfl (by omega) (Nat.zero_le _) (deliverA c M0 f0 hok M1 fv G fs hG k _)) $$ [HsA HdA HB]
  · isplitl [HsA]; · iexact HsA
    isplitl [HdA]; · iexact HdA
    iexact HB
  iintro HB
  sl_exec (disch := first | exact c1 | exact c2)
  iapply (Transfers.wp_dmaBatch (Lvl := ℕ) countersEmb Variants.none (c : Thread nD τ) none (src := srcM M1 k)
    (dst := rowM (wB M0 f0 k) (row_inb _ (hok.rangeB k))) (via := ReadAs.same) (fs := fs) (fd := fv) (q := fullShare.right)
    () NN (row_amount _ _) subset_rfl (by omega) (Nat.zero_le _) (deliverB c M0 f0 hok M1 fv G fs hG k _)) $$ [HsB HdB HB]
  · isplitl [HsB]; · iexact HsB
    isplitl [HdB]; · iexact HdB
    iexact HB
  iintro HB
  sl_exec
  sl_step
  isplitl [HB]; · iexact HB
  isplitl [HP]; · iexact HP
  iexact H0

end Issue

end Cert.DispatchProof
-- ==== Proof.DispatchRun.lean ====
/- One grid point of the MoE dispatch: 1024 row copies started on one DMA semaphore, two per token row of the staged
   block, then 1024 waits. The words of the point's table name the destination rows of the result; they are in range and
   pairwise distinct (`WordsOK`), so no two copies in flight meet. The body is run over any float values. -/
module

public import proofs.«01_k».proof.Proof.DispatchBody
public import proofs.«01_k».proof.Proof.Gen.DispatchIdeal
public import proofs.«01_k».proof.Proof.Gen.DispatchIdeal.Skeleton
public import Idealize.ShloMosaic.Lib.Pipeline.Routed
public import Idealize.ShloMosaic.Lib.Batch
public import Idealize.ShloMosaic.Lib.Ring
public import Idealize.ShloMosaic.Lib.Tactic
public import Idealize.ShloMosaic.Lib.Exec

@[expose] public section

noncomputable section

namespace Cert.DispatchProof

open Cert.DispatchIdeal Cert.DispatchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

section Drain

variable (c : Dev nD) (M0 : Memref sig .tc .smem S1x1x1024 .i32) (f0 : Bf (F := F) c M0) (hok : WordsOK M0 f0)
  (M1 : Memref sig .tc .vmem S512x2048 .f32)
  (G : Bf (F := F) c (Memref.whole main_v0)) (fs : Bf (F := F) c M1)

omit [FloatOps F] in
/-- The draining loop reads the same words. -/
theorem wA'_eq (k : Fin k0_t2_loop.trips) : wA' M0 f0 k = wA M0 f0 k := rfl
omit [FloatOps F] in
theorem wB'_eq (k : Fin k0_t2_loop.trips) : wB' M0 f0 k = wB M0 f0 k := rfl

/-- Before trip `k` of the draining loop: every copy started, `2k` copies' credit taken. -/
def drainAt (k : ℕ) (_ : Unit) : sProp 𝕄 :=
  iprop((∃ W, owes (c : Thread nD τ) 0 W) ∗ batch c hok M1 G fs (2 * 512) (2 * k * NN) ∗ pt c M0 f0)

/-- One trip of the draining loop. -/
theorem drain_step [∀ e, Nonempty (Elt F e)] (h0 : M0.IsWhole) (h1 : M1.IsWhole) (i : grid0.Coords)
    (k : Fin k0_t2_loop.trips) (acc : Unit) :
    drainAt c M0 f0 hok M1 G fs k acc
      ⊢ wp frame (wpE (defs₀ (F := F)) Variants.none c none) Set.univ
          (k0_t2_body i M0 h0 M1 h1 (Memref.whole main_v0) (Memref.isWhole_whole _) (Memref.whole main_v0) (Memref.isWhole_whole _) cc0_scratch0 k acc)
          (drainAt c M0 f0 hok M1 G fs (k.val + 1)) := by
  have hk : k.val < 512 := lt_of_lt_of_eq k.isLt trips2_eq
  have c1 : k0_chk3 (wA' M0 f0 k) := row_inb _ (hok.rangeA k)
  have c2 : k0_chk4 (wB' M0 f0 k) := row_inb _ (hok.rangeB k)
  unfold drainAt
  iintro ⟨⟨%W, HO⟩, HB, H0⟩
  dsimp only [k0_t2_body]
  sl_exec (disch := first | exact c1 | exact c2)
  iapply (Transfers.wp_waitBatchMul (Lvl := ℕ) countersEmb Variants.none (c : Thread nD τ) none
    (srcw := srcM M1 k) (dstw := rowM (wB M0 f0 k) (row_inb _ (hok.rangeB k))) (hsrc := View.wordExact_bits rfl)
    (hdst := View.wordExact_bits rfl) () 1 (row_credit _ _)
    (show 2 * k.val * 256 + 256 + 1 * 256 ≤ 256 * (2 * 512) by omega)) $$ [HB HO]
  · isplitl [HB]; · iexact HB
    iexact HO
  iintro ⟨HB, HO⟩
  sl_exec
  sl_step
  isplitl [HO]; · iexists _; iexact HO
  isplitl [HB]
  · rw [show 2 * (k.val + 1) * 256 = 2 * k.val * 256 + 256 + 1 * 256 by omega]
    iexact HB
  iexact H0

end Drain

/-! ## The buffers by rows -/

/-- A buffer held at one share is its parts on pairwise disjoint sets beside the rest. -/
theorem split_rows {ℓ : Loc nD τ sig} {T : Type} [DecidableEq T] (S : Finset T) (K : T → Finset (Idx ℓ))
    (hd : ∀ t ∈ S, ∀ t' ∈ S, t ≠ t' → Disjoint (K t) (K t')) (q : PosShare TreeShare) (g : Buf (Elt F) ℓ) :
    (ℓ ↦{q} g : sProp 𝕄) = iprop((bigSep S fun t => ℓ ↦[K t]{q} g) ∗ ℓ ↦[Finset.univ \ S.biUnion K]{q} g) := by
  have hs : (ℓ ↦[Finset.univ]{q} g : sProp 𝕄) ⊣⊢ iprop((ℓ ↦[S.biUnion K]{q} g) ∗ ℓ ↦[Finset.univ \ S.biUnion K]{q} g) :=
    pointsTo_split_subset (Finset.subset_univ (S.biUnion K))
  rw [show (ℓ ↦{q} g : sProp 𝕄) = ℓ ↦[Finset.univ]{q} g from rfl, BI.equiv_iff.mp ⟨hs.1, hs.2⟩,
    pointsTo_biUnion S K hd]

theorem off3_row (k : Fin k0_t1_loop.trips) : k0_off3 k 0 = k.val :=
  (by decide +kernel : ∀ k : Fin k0_t1_loop.trips, k0_off3 k 0 = k.val) k

/-- Two token rows of the staged block share no element. -/
theorem srcM_disjoint (M1 : Memref sig .tc .vmem S512x2048 .f32) (k k' : Fin k0_t1_loop.trips) (hne : k ≠ k') :
    Disjoint (srcM M1 k).view.set (srcM M1 k').view.set := by
  have e : ∀ k, (srcM M1 k).view.set = (Rect.unit (s := S512x2048) (k0_off3 k) S1x2048.size (k0_off3_inb k)).set.map M1.view.emb :=
    fun k => View.set_slice _ _
  refine (congrArg₂ (fun A B : Finset M1.view.ty.Idx => Disjoint A B) (e k) (e k')).mpr ((Finset.disjoint_map _).mpr ?_)
  rw [Finset.disjoint_left]
  intro y hy hy'
  have a := Rect.mem_set_unit.mp hy 0; have b := Rect.mem_set_unit.mp hy' 0
  rw [off3_row] at a b
  have a1 : k.val ≤ (y 0).val ∧ (y 0).val < k.val + 1 := a
  have b1 : k'.val ≤ (y 0).val ∧ (y 0).val < k'.val + 1 := b
  exact hne (Fin.ext (by omega))

section Whole

variable (c : Dev nD) (M0 : Memref sig .tc .smem S1x1x1024 .i32) (f0 : Bf (F := F) c M0) (hok : WordsOK M0 f0)
  (M1 : Memref sig .tc .vmem S512x2048 .f32)
  (fv G : Bf (F := F) c (Memref.whole main_v0)) (fs : Bf (F := F) c M1)

/-- The rows the point's copies go to, the first copies' and the second's. -/
def rowsOf : (Fin k0_t1_loop.trips) ⊕ (Fin k0_t1_loop.trips) → Finset S40960x2048.Idx
  | .inl k => (rowM (wA M0 f0 k) (row_inb _ (hok.rangeA k))).view.set
  | .inr k => (rowM (wB M0 f0 k) (row_inb _ (hok.rangeB k))).view.set

omit [FloatOps F] in
theorem rowsOf_disjoint : ∀ t ∈ (Finset.univ : Finset ((Fin k0_t1_loop.trips) ⊕ (Fin k0_t1_loop.trips))), ∀ t' ∈ (Finset.univ : Finset ((Fin k0_t1_loop.trips) ⊕ (Fin k0_t1_loop.trips))),
    t ≠ t' → Disjoint (rowsOf c M0 f0 hok t) (rowsOf c M0 f0 hok t') := by
  intro t _ t' _ hne
  rw [Finset.disjoint_left]
  intro y hy hy'
  rcases t with k | k <;> rcases t' with k' | k' <;> replace hy := (mem_rowM _ _ y).mp hy <;> replace hy' := (mem_rowM _ _ y).mp hy'
  · exact hok.distinctA k k' (fun e => hne (by rw [e])) (hy.symm.trans hy')
  · exact hok.distinctAB k k' (hy.symm.trans hy')
  · exact hok.distinctAB k' k (hy'.symm.trans hy)
  · exact hok.distinctB k k' (fun e => hne (by rw [e])) (hy.symm.trans hy')

/-- The elements in no such row. -/
@[irreducible] def restOf : Finset S40960x2048.Idx := Finset.univ \ Finset.univ.biUnion (rowsOf c M0 f0 hok)

/-- The result held whole at `g`, by the point's rows beside the rest. -/
theorem result_split (g : Bf (F := F) c (Memref.whole main_v0)) :
    (pt c (Memref.whole main_v0) g : sProp 𝕄)
      = iprop((bigSep Finset.univ (dstA c hok g) ∗ bigSep Finset.univ (dstB c hok g))
          ∗ ((Memref.whole main_v0 : Memref sig .tc .hbm S40960x2048 .f32).view.loc (c : Thread nD τ)
              ↦[restOf c M0 f0 hok]{fullShare} g)) := by
  have e := split_rows (F := F) (ℓ := (Memref.whole main_v0 : Memref sig .tc .hbm S40960x2048 .f32).view.loc (c : Thread nD τ))
    Finset.univ (rowsOf c M0 f0 hok) (rowsOf_disjoint c M0 f0 hok) fullShare g
  rw [bigSep_univ_sum] at e
  unfold restOf
  exact e

omit [FloatOps F] in
/-- Off the rest of the result lies no row of the point's copies. -/
theorem not_rest (t : (Fin k0_t1_loop.trips) ⊕ (Fin k0_t1_loop.trips)) (i : S40960x2048.Idx) (hi : i ∈ restOf c M0 f0 hok) :
    ¬ i ∈ rowsOf c M0 f0 hok t := by
  intro h
  unfold restOf at hi
  rw [Finset.mem_sdiff] at hi
  apply hi.2
  rw [Finset.mem_biUnion]
  exact ⟨t, Finset.mem_univ t, h⟩

omit [FloatOps F] in
theorem mem_rowsA (k : Fin k0_t1_loop.trips) (i : S40960x2048.Idx) : i ∈ rowsOf c M0 f0 hok (.inl k) ↔ (i 0).val = (wA M0 f0 k).toNat := by
  unfold rowsOf
  exact mem_rowM _ _ i
omit [FloatOps F] in
theorem mem_rowsB (k : Fin k0_t1_loop.trips) (i : S40960x2048.Idx) : i ∈ rowsOf c M0 f0 hok (.inr k) ↔ (i 0).val = (wB M0 f0 k).toNat := by
  unfold rowsOf
  exact mem_rowM _ _ i

/-- Off the point's rows nothing changes. -/
theorem rest_same' (hG : Lands c M0 f0 hok M1 fv G fs) (i : S40960x2048.Idx) : i ∈ restOf c M0 f0 hok → fv i = G i := by
  intro hi
  apply hG.off i
  · intro k h
    rw [← mem_rowsA c M0 f0 hok k i] at h
    revert h
    apply not_rest
    assumption
  · intro k h
    rw [← mem_rowsB c M0 f0 hok k i] at h
    revert h
    apply not_rest
    assumption

/-- So what is held of the rest is the same. -/
theorem rest_same (hG : Lands c M0 f0 hok M1 fv G fs) :
    ((Memref.whole main_v0 : Memref sig .tc .hbm S40960x2048 .f32).view.loc (c : Thread nD τ)
        ↦[restOf c M0 f0 hok]{fullShare} fv : sProp 𝕄)
      = ((Memref.whole main_v0 : Memref sig .tc .hbm S40960x2048 .f32).view.loc (c : Thread nD τ)
        ↦[restOf c M0 f0 hok]{fullShare} G) :=
  pointsTo_congr (rest_same' c M0 f0 hok M1 fv G fs hG)

/-- The staged block held whole, at both halves by its rows beside the rest. -/
theorem source_split :
    (pt c M1 fs : sProp 𝕄)
      = iprop((bigSep Finset.univ (srcP c M1 fs fullShare.left) ∗ bigSep Finset.univ (srcP c M1 fs fullShare.right))
          ∗ ((M1.view.loc (c : Thread nD τ) ↦[Finset.univ \ (Finset.univ : Finset (Fin k0_t1_loop.trips)).biUnion (fun k => (srcM M1 k).view.set)]{fullShare.left} fs)
            ∗ (M1.view.loc (c : Thread nD τ) ↦[Finset.univ \ (Finset.univ : Finset (Fin k0_t1_loop.trips)).biUnion (fun k => (srcM M1 k).view.set)]{fullShare.right} fs))) := by
  have hs : (M1.view.loc (c : Thread nD τ) ↦{fullShare} fs : sProp 𝕄)
      ⊣⊢ iprop((M1.view.loc (c : Thread nD τ) ↦{fullShare.left} fs) ∗ (M1.view.loc (c : Thread nD τ) ↦{fullShare.right} fs)) :=
    pointsTo_share (PosShare.mem_left_op_right fullShare)
  have hd := fun (t : (Fin k0_t1_loop.trips)) (_ : t ∈ (Finset.univ : Finset (Fin k0_t1_loop.trips))) (t' : (Fin k0_t1_loop.trips))
    (_ : t' ∈ (Finset.univ : Finset (Fin k0_t1_loop.trips))) (h : t ≠ t') => srcM_disjoint M1 t t' h
  unfold pt
  rw [BI.equiv_iff.mp ⟨hs.1, hs.2⟩,
    split_rows Finset.univ (fun k : (Fin k0_t1_loop.trips) => (srcM M1 k).view.set) hd fullShare.left fs,
    split_rows Finset.univ (fun k : (Fin k0_t1_loop.trips) => (srcM M1 k).view.set) hd fullShare.right fs]
  have X : ∀ P Q R S : sProp 𝕄, iprop((P ∗ Q) ∗ (R ∗ S)) = iprop((P ∗ R) ∗ (Q ∗ S)) := fun P Q R S =>
    BI.equiv_iff.mp ⟨(sep_sep_sep_comm (PROP := sProp 𝕄)).1, (sep_sep_sep_comm (PROP := sProp 𝕄)).2⟩
  exact X _ _ _ _

end Whole

/-! ## The whole grid point -/

section Body

variable (c : Dev nD) (M0 : Memref sig .tc .smem S1x1x1024 .i32) (f0 : Bf (F := F) c M0) (hok : WordsOK M0 f0)
  (M1 : Memref sig .tc .vmem S512x2048 .f32)
  (fv G : Bf (F := F) c (Memref.whole main_v0)) (fs : Bf (F := F) c M1)

omit [FloatOps F] in
theorem range_univ : Ring.rangeSet k0_t1_loop.trips 0 512 = Finset.univ := Ring.rangeSet_univ (NB := 512)

/-- What the issuing loop takes, all of it. -/
theorem pieces_all :
    (bigSep (Ring.rangeSet k0_t1_loop.trips 0 512) (piece c hok M1 fs fv) : sProp 𝕄)
      = iprop(bigSep Finset.univ (dstA c hok fv) ∗ bigSep Finset.univ (dstB c hok fv)
          ∗ bigSep Finset.univ (srcP c M1 fs fullShare.left) ∗ bigSep Finset.univ (srcP c M1 fs fullShare.right)) := by
  rw [range_univ]
  exact (BI.bigSep_sep _ _ _).trans (congrArg (fun P : sProp 𝕄 => iprop(bigSep Finset.univ (dstA c hok fv) ∗ P))
    ((BI.bigSep_sep _ _ _).trans (congrArg (fun P : sProp 𝕄 => iprop(bigSep Finset.univ (dstB c hok fv) ∗ P)) (BI.bigSep_sep _ _ _))))

/-- What the batch delivers, all of it. -/
theorem deliveries_all :
    (bigSep Finset.univ (Ring.interleaved 512 (DA c hok M1 G fs) (DB c hok M1 G fs)) : sProp 𝕄)
      = iprop((bigSep Finset.univ (dstA c hok G) ∗ bigSep Finset.univ (srcP c M1 fs fullShare.left))
          ∗ (bigSep Finset.univ (dstB c hok G) ∗ bigSep Finset.univ (srcP c M1 fs fullShare.right))) := by
  rw [Ring.bigSep_interleaved, ← Ring.bigSep_fin_eq_range 512 (fun k : Fin k0_t1_loop.trips => iprop(dstA c hok G k ∗ srcP c M1 fs fullShare.left k)) (DA c hok M1 G fs) (fun t h => DA_at c hok M1 G fs ⟨t, h⟩),
    ← Ring.bigSep_fin_eq_range 512 (fun k : Fin k0_t1_loop.trips => iprop(dstB c hok G k ∗ srcP c M1 fs fullShare.right k)) (DB c hok M1 G fs) (fun t h => DB_at c hok M1 G fs ⟨t, h⟩)]
  exact congrArg₂ (fun P Q : sProp 𝕄 => iprop(P ∗ Q)) (BI.bigSep_sep _ _ _) (BI.bigSep_sep _ _ _)

theorem bodyRun [∀ e, Nonempty (Elt F e)] (hG : Lands c M0 f0 hok M1 fv G fs) (h0 : M0.IsWhole) (h1 : M1.IsWhole)
    (i : grid0.Coords) (W : Waits sig Unit) (Q : PUnit → sProp 𝕄) :
    iprop(pt c M0 f0 ∗ pt c M1 fs ∗ pt c (Memref.whole main_v0) fv ∗ semVal ((c : Thread nD τ), .dma cc0_scratch0.sem) 0
        ∗ owes (c : Thread nD τ) 0 W
        ∗ (iprop(pt c M0 f0 ∗ pt c M1 fs ∗ pt c (Memref.whole main_v0) G
            ∗ semVal ((c : Thread nD τ), .dma cc0_scratch0.sem) 0 ∗ ∃ W, owes (c : Thread nD τ) 0 W) -∗ Q ⟨⟩))
      ⊢ wp frame (wpE (defs₀ (F := F)) Variants.none c none) Set.univ
          (cc0_moe_dispatch i M0 h0 M1 h1 (Memref.whole main_v0) (Memref.isWhole_whole _) (Memref.whole main_v0)
            (Memref.isWhole_whole _) cc0_scratch0) Q := by
  rw [result_split c M0 f0 hok fv, source_split c M1 fs, rest_same c M0 f0 hok M1 fv G fs hG]
  iintro ⟨H0, ⟨⟨HsA, HsB⟩, HrL, HrR⟩, ⟨⟨HdA, HdB⟩, Hrest⟩, Hsem, HO, Hk⟩
  imod (Transfers.batch_alloc' (Lvl := ℕ) countersEmb (c : Thread nD τ) () NN
    (Ring.interleaved 512 (DA c hok M1 G fs) (DB c hok M1 G fs)) (sm := .dma cc0_scratch0.sem) (E := Set.univ)) $$ Hsem with HB
  simp only [cc0_moe_dispatch_eq_skeleton]
  unfold cc0_moe_dispatch_skel
  sl_for (issueAt c M0 f0 hok M1 fv G fs) $$ [HB HsA HsB HdA HdB H0]
  · intro k acc
    exact issue_step c M0 f0 hok M1 fv G fs hG h0 h1 i k acc
  · unfold issueAt
    isplitl [HB]; · iexact HB
    isplitl [HsA HsB HdA HdB]
    · iapply (Entails.of_eq (pieces_all c M0 f0 hok M1 fv fs).symm)
      isplitl [HdA]; · iexact HdA
      isplitl [HdB]; · iexact HdB
      isplitl [HsA]; · iexact HsA
      iexact HsB
    iexact H0
  iintro %acc HL
  ihave HL' := (show issueAt c M0 f0 hok M1 fv G fs k0_t1_loop.trips acc ⊢ iprop(batch c hok M1 G fs (2 * 512) 0 ∗ pt c M0 f0) from by
    unfold issueAt
    iintro ⟨HB, HP, H0⟩
    isplitl [HB]; · iexact HB
    iexact H0) $$ HL
  icases HL' with ⟨HB, H0⟩
  sl_exec
  sl_for (drainAt c M0 f0 hok M1 G fs) $$ [HB H0 HO]
  · intro k acc
    exact drain_step c M0 f0 hok M1 G fs h0 h1 i k acc
  · unfold drainAt
    isplitl [HO]; · iexists W; iexact HO
    isplitl [HB]; · iexact HB
    iexact H0
  iintro %acc2 HL2
  ihave HL3 := (show drainAt c M0 f0 hok M1 G fs k0_t2_loop.trips acc2
      ⊢ iprop((∃ W, owes (c : Thread nD τ) 0 W) ∗ batch c hok M1 G fs (2 * 512) (NN * (2 * 512)) ∗ pt c M0 f0) from by
    unfold drainAt
    rw [trips2_eq, show 2 * 512 * NN = NN * (2 * 512) from rfl]) $$ HL2
  icases HL3 with ⟨HO, HB, H0⟩
  imod (Transfers.batch_collect' (Lvl := ℕ) countersEmb (c : Thread nD τ) (sm := .dma cc0_scratch0.sem) (ι := ()) (N := NN) (by decide)
    (D := Ring.interleaved 512 (DA c hok M1 G fs) (DB c hok M1 G fs))) $$ HB with ⟨HD, Hsem⟩
  ihave HD' := (Entails.of_eq (deliveries_all c M0 f0 hok M1 G fs)) $$ HD
  icases HD' with ⟨⟨HdA, HsA⟩, HdB, HsB⟩
  sl_exec
  sl_step
  iapply Hk
  isplitl [H0]; · iexact H0
  isplitl [HsA HsB HrL HrR]
  · isplitl [HsA HsB]
    · isplitl [HsA]; · iexact HsA
      iexact HsB
    isplitl [HrL]; · iexact HrL
    iexact HrR
  isplitl [HdA HdB Hrest]
  · iapply (Entails.of_eq (result_split c M0 f0 hok G).symm)
    isplitl [HdA HdB]
    · isplitl [HdA]; · iexact HdA
      iexact HdB
    iexact Hrest
  isplitl [Hsem]; · iexact Hsem
  iexact HO

end Body

end Cert.DispatchProof
-- ==== Proof.DispatchValue.lean ====
/- What the dispatch leaves in its result: token row `q / 2` on the row the `q`-th entry of the destination table names,
   for every entry `q`, and the contents found there on the rows no entry names. First as a function of the table and the
   tokens alone, up to any grid point; then that one grid point's copies take it from one point to the next. -/
module

public import proofs.«01_k».proof.Proof.DispatchRun
public import Idealize.ShloMosaic.Lib.ValueIdxCore

@[expose] public section

noncomputable section

namespace Cert.DispatchProof

open Cert.DispatchIdeal Cert.DispatchIdeal.Gen
open Idealize.ShloMosaic Idealize.ShloMosaic.TcCoe Idealize.ShloMosaic.ValueIdx

variable {F : FTy → Type}

/-! ## The contents as a function of the table and the tokens -/

/-- The slot the `q`-th entry of the table names: entry `(q / 2, q % 2)`. -/
def slotOf (D : S16384x2.Idx → BitVec 32) (q : ℕ) : ℕ :=
  if h : q < 32768 then (D (ix2 ⟨q / 2, by omega⟩ ⟨q % 2, by omega⟩)).toNat else 0

/-- Every entry names one of the 40960 slots, and no two the same. -/
structure TableOK (D : S16384x2.Idx → BitVec 32) : Prop where
  range : ∀ q < 32768, slotOf D q < 40960
  inj : ∀ q < 32768, ∀ q' < 32768, slotOf D q = slotOf D q' → q = q'

/-- An element's column. -/
def colOf (i : S40960x2048.Idx) : Fin 2048 := i 1

open Classical in
/-- The result once the first `p` grid points have run: on the row of slot `s`, the token row of an entry below `1024 p`
    naming `s`, if there is one, and what was there (`Z`) otherwise. -/
def upTo (D : S16384x2.Idx → BitVec 32) (H : S16384x2048.Idx → Elt F .f32) (Z : S40960x2048.Idx → Elt F .f32) (p : ℕ) :
    S40960x2048.Idx → Elt F .f32 := fun i =>
  if h : ∃ q, q < 1024 * p ∧ q < 32768 ∧ slotOf D q = (i 0).val then
    H (ix2 ⟨h.choose / 2, by have := h.choose_spec.2.1; omega⟩ (colOf i))
  else Z i

theorem upTo_hit {D : S16384x2.Idx → BitVec 32} (hD : TableOK D) (H : S16384x2048.Idx → Elt F .f32)
    (Z : S40960x2048.Idx → Elt F .f32) {p q : ℕ} (hq : q < 1024 * p) (hq' : q < 32768) (i : S40960x2048.Idx)
    (e : slotOf D q = (i 0).val) : upTo D H Z p i = H (ix2 ⟨q / 2, by omega⟩ (colOf i)) := by
  have h : ∃ q, q < 1024 * p ∧ q < 32768 ∧ slotOf D q = (i 0).val := ⟨q, hq, hq', e⟩
  have e' : h.choose = q := hD.inj _ h.choose_spec.2.1 _ hq' (h.choose_spec.2.2.trans e.symm)
  unfold upTo
  rw [dif_pos h]
  congr 2
  exact Fin.ext (by show h.choose / 2 = q / 2; rw [e'])

theorem upTo_miss (D : S16384x2.Idx → BitVec 32) (H : S16384x2048.Idx → Elt F .f32)
    (Z : S40960x2048.Idx → Elt F .f32) (p : ℕ) (i : S40960x2048.Idx)
    (e : ∀ q, q < 1024 * p → q < 32768 → slotOf D q ≠ (i 0).val) : upTo D H Z p i = Z i := by
  unfold upTo
  rw [dif_neg]
  rintro ⟨q, h1, h2, h3⟩
  exact e q h1 h2 h3

theorem upTo_zero (D : S16384x2.Idx → BitVec 32) (H : S16384x2048.Idx → Elt F .f32)
    (Z : S40960x2048.Idx → Elt F .f32) : upTo D H Z 0 = Z :=
  funext fun i => upTo_miss D H Z 0 i fun q h => absurd h (by omega)

/-! ## One grid point -/

variable [FloatOps F]

/-- A token row landed on the row word `w` names is that token row. -/
theorem landed_row (c : Dev nD) (M1 : Memref sig .tc .vmem S512x2048 .f32) (fv : Bf (F := F) c (Memref.whole main_v0))
    (fs : Bf (F := F) c M1) (w : BitVec 32) (h) (k : Fin k0_t1_loop.trips) (i : S40960x2048.Idx) (hi : (i 0).val = w.toNat) :
    landed c M1 fv fs w h k i = M1.view.read (Elt F) fs (ix2 ⟨k.val, lt_of_lt_of_eq k.isLt trips_eq⟩ (colOf i)) := by
  have e : (rowM w h).view.emb (ix2 0 (colOf i)) = i := by
    funext a
    fin_cases a
    · exact Fin.ext (by show w.toNat + 1 * 0 = (i 0).val; omega)
    · exact Fin.ext (by show 0 + 1 * (i 1).val = (i 1).val; omega)
  have e2 := View.write_emb_of_mem (v := (rowM w h).view) (Val := Elt F) fv (ReadAs.same.apply ((srcM M1 k).view.read (Elt F) fs))
    (M := Finset.univ) (x := ix2 0 (colOf i)) (Finset.mem_univ _)
  rw [e] at e2
  refine e2.trans ?_
  have e3 : (Rect.unit (s := S512x2048) (k0_off3 k) S1x2048.size (k0_off3_inb k)).emb (ix2 0 (colOf i))
      = ix2 ⟨k.val, lt_of_lt_of_eq k.isLt trips_eq⟩ (colOf i) := by
    funext a
    fin_cases a
    · exact Fin.ext (by show k0_off3 k 0 + 1 * 0 = k.val; rw [off3_row]; omega)
    · exact Fin.ext (by show 0 + 1 * (i 1).val = (i 1).val; omega)
  refine (cast_eq _ _).trans (Eq.trans ?_ (congrArg (M1.view.read (Elt F) fs) e3))
  rfl

/-- What grid point `t`'s copies leave is the contents after one point more, when the point's words are the table's
    entries from `1024 t` on and its staged block is the token rows from `512 t` on. -/
theorem lands_upTo {D : S16384x2.Idx → BitVec 32} (hD : TableOK D) (H : S16384x2048.Idx → Elt F .f32)
    (Z : S40960x2048.Idx → Elt F .f32) (c : Dev nD) (M0 : Memref sig .tc .smem S1x1x1024 .i32) (f0 : Bf (F := F) c M0)
    (hok : WordsOK M0 f0) (M1 : Memref sig .tc .vmem S512x2048 .f32) (fs : Bf (F := F) c M1) (t : ℕ) (ht : t < 32)
    (hA : ∀ k : Fin k0_t1_loop.trips, (wA M0 f0 k).toNat = slotOf D (1024 * t + 2 * k.val))
    (hB : ∀ k : Fin k0_t1_loop.trips, (wB M0 f0 k).toNat = slotOf D (1024 * t + 2 * k.val + 1))
    (hS : ∀ (k : Fin 512) (j : Fin 2048), M1.view.read (Elt F) fs (ix2 k j) = H (ix2 ⟨512 * t + k.val, by omega⟩ j)) :
    Lands c M0 f0 hok M1 (upTo D H Z t) (upTo D H Z (t + 1)) fs where
  onA k i hi := by
    have hk : k.val < 512 := lt_of_lt_of_eq k.isLt trips_eq
    refine (landed_row c M1 _ fs _ _ k i hi).trans ((hS _ _).trans ?_)
    rw [upTo_hit hD H Z (q := 1024 * t + 2 * k.val) (by omega) (by omega) i (by rw [hi, hA])]
    congr 2
    exact Fin.ext (by show 512 * t + k.val = (1024 * t + 2 * k.val) / 2; omega)
  onB k i hi := by
    have hk : k.val < 512 := lt_of_lt_of_eq k.isLt trips_eq
    refine (landed_row c M1 _ fs _ _ k i hi).trans ((hS _ _).trans ?_)
    rw [upTo_hit hD H Z (q := 1024 * t + 2 * k.val + 1) (by omega) (by omega) i (by rw [hi, hB])]
    congr 2
    exact Fin.ext (by show 512 * t + k.val = (1024 * t + 2 * k.val + 1) / 2; omega)
  off i ha hb := by
    by_cases h : ∃ q, q < 1024 * t ∧ q < 32768 ∧ slotOf D q = (i 0).val
    · obtain ⟨q, h1, h2, h3⟩ := h
      rw [upTo_hit hD H Z h1 h2 i h3, upTo_hit hD H Z (p := t + 1) (by omega) h2 i h3]
    · rw [upTo_miss D H Z t i (fun q h1 h2 h3 => h ⟨q, h1, h2, h3⟩), upTo_miss D H Z (t + 1) i]
      intro q h1 h2 h3
      by_cases hq : q < 1024 * t
      · exact h ⟨q, hq, h2, h3⟩
      · have hk : (q - 1024 * t) / 2 < k0_t1_loop.trips := by rw [trips_eq]; omega
        rcases Nat.mod_two_eq_zero_or_one (q - 1024 * t) with e | e
        · apply ha ⟨_, hk⟩
          rw [hA, ← h3]
          congr 1
          show q = 1024 * t + 2 * ((q - 1024 * t) / 2)
          omega
        · apply hb ⟨_, hk⟩
          rw [hB, ← h3]
          congr 1
          show q = 1024 * t + 2 * ((q - 1024 * t) / 2) + 1
          omega

/-- Such words pass what the run asks of them. -/
theorem words_ok {D : S16384x2.Idx → BitVec 32} (hD : TableOK D) {c : Dev nD} (M0 : Memref sig .tc .smem S1x1x1024 .i32)
    (f0 : Bf (F := F) c M0) (t : ℕ) (ht : t < 32)
    (hA : ∀ k : Fin k0_t1_loop.trips, (wA M0 f0 k).toNat = slotOf D (1024 * t + 2 * k.val))
    (hB : ∀ k : Fin k0_t1_loop.trips, (wB M0 f0 k).toNat = slotOf D (1024 * t + 2 * k.val + 1)) : WordsOK M0 f0 where
  rangeA k := by
    have hk : k.val < 512 := lt_of_lt_of_eq k.isLt trips_eq
    rw [hA]; exact hD.range _ (by omega)
  rangeB k := by
    have hk : k.val < 512 := lt_of_lt_of_eq k.isLt trips_eq
    rw [hB]; exact hD.range _ (by omega)
  distinctA k k' hne e := by
    have hk : k.val < 512 := lt_of_lt_of_eq k.isLt trips_eq
    have hk' : k'.val < 512 := lt_of_lt_of_eq k'.isLt trips_eq
    rw [hA, hA] at e
    have := hD.inj _ (by omega) _ (by omega) e
    exact hne (Fin.ext (by omega))
  distinctB k k' hne e := by
    have hk : k.val < 512 := lt_of_lt_of_eq k.isLt trips_eq
    have hk' : k'.val < 512 := lt_of_lt_of_eq k'.isLt trips_eq
    rw [hB, hB] at e
    have := hD.inj _ (by omega) _ (by omega) e
    exact hne (Fin.ext (by omega))
  distinctAB k k' e := by
    have hk : k.val < 512 := lt_of_lt_of_eq k.isLt trips_eq
    have hk' : k'.val < 512 := lt_of_lt_of_eq k'.isLt trips_eq
    rw [hA, hB] at e
    have := hD.inj _ (by omega) _ (by omega) e
    omega

end Cert.DispatchProof
-- ==== Proof.DispatchLaunch.lean ====
/- The dispatch's proof data and launch: the result buffer goes round the pipeline through the body's invariant, holding
   before grid point `t` the contents the first `t` points leave; every weakly fair run from a memory whose destination
   table names distinct slots terminates with the arguments unchanged, the semaphores at zero and the result at the
   contents all 32 points leave. For any float values. -/
module

public import proofs.«01_k».proof.Proof.DispatchValue
public import proofs.«01_k».proof.Proof.Gen.DispatchIdeal.Frame
public import proofs.«01_k».proof.Proof.Gen.DispatchIdeal.Points
public import Idealize.ShloMosaic.Lib.ValueLayout

@[expose] public section

noncomputable section

namespace Cert.DispatchProof

open Cert.DispatchIdeal Cert.DispatchIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost routed_singleton)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-- The destination table and the tokens as launched. -/
abbrev tbl (c : Dev nD) : S16384x2.Idx → BitVec 32 := m ((c : Thread nD τ).loc main_arg1)
abbrev toks (c : Dev nD) : S16384x2048.Idx → Elt F .f32 := m ((c : Thread nD τ).loc main_arg0)

/-- The result as the host prepares it: zero everywhere. -/
abbrev zeros : S40960x2048.Idx → Elt F .f32 := broadcastInDim S40960x2048 ![] bcast_S_S40960x2048 (constant S_ FTy.f32 0#32)

theorem V_main_v0 (c : Dev nD) : V m c main_v0 = zeros := by
  unfold V; after_results

/-- The staged table is the table, row after row. -/
theorem V_main_v1 (c : Dev nD) (a : Fin 32) (j : Fin 1024) :
    V m c main_v1 (ix3 a 0 j) = tbl m c (ix2 ⟨(1024 * a.val + j.val) / 2, by omega⟩ ⟨(1024 * a.val + j.val) % 2, by omega⟩) := by
  unfold V; after_results
  refine shapeCast_apply (m ((c : Thread nD τ).loc main_arg1)) shapeCasts_S16384x2_S32x1x1024 _ _ ?_
  refine (Shape.rowMajor_val_two (d := ![16384, 2]) _).trans ((?_ : _ = _).trans (Shape.rowMajor_val_three (d := ![32, 1, 1024]) _).symm)
  show (1024 * a.val + j.val) / 2 * 2 + (1024 * a.val + j.val) % 2 = (a.val * 1 + 0) * 1024 + j.val
  omega

theorem idx_0 : ∀ t : Fin cfg0.N, cc0_transform_0 (cfg0.grid.coords t) = ![t.val, 0, 0] := by decide +kernel
theorem idx_1 : ∀ t : Fin cfg0.N, cc0_transform_1 (cfg0.grid.coords t) = ![t.val, 0] := by decide +kernel

theorem iblk_0 (c : Dev nD) (t : Fin cfg0.N) (j : Fin 1024) :
    iblk m c 0 t (ix3 0 0 j) = V m c main_v1 (ix3 ⟨t.val, lt_of_lt_of_eq t.isLt N_0⟩ 0 j) := by
  unfold iblk
  rw [View.read_apply, cast_eq]
  have e : ((cfg0.win 0).blk t).view.emb (ix3 0 0 j) = (ix3 ⟨t.val, lt_of_lt_of_eq t.isLt N_0⟩ 0 j : S32x1x1024.Idx) := by
    funext a
    fin_cases a
    · exact Fin.ext (by show cc0_transform_0 (cfg0.grid.coords t) 0 * 1 + 1 * 0 = t.val; rw [idx_0]; exact Nat.mul_one _)
    · exact Fin.ext (by show cc0_transform_0 (cfg0.grid.coords t) 1 * 1 + 1 * 0 = 0; rw [idx_0]; rfl)
    · exact Fin.ext (by
        show cc0_transform_0 (cfg0.grid.coords t) 2 * 1024 + 1 * j.val = j.val
        rw [idx_0]; show 0 * 1024 + 1 * j.val = j.val; omega)
  exact congrArg (V m c main_v1) e

theorem iblk_1 (c : Dev nD) (t : Fin cfg0.N) (k : Fin 512) (j : Fin 2048) :
    iblk m c 1 t (ix2 k j) = toks m c (ix2 ⟨512 * t.val + k.val, by have := lt_of_lt_of_eq t.isLt N_0; omega⟩ j) := by
  unfold iblk
  rw [View.read_apply, cast_eq]
  have e : ((cfg0.win 1).blk t).view.emb (ix2 k j)
      = (ix2 ⟨512 * t.val + k.val, by have := lt_of_lt_of_eq t.isLt N_0; omega⟩ j : S16384x2048.Idx) := by
    funext a
    fin_cases a
    · exact Fin.ext (by
        show cc0_transform_1 (cfg0.grid.coords t) 0 * 512 + 1 * k.val = 512 * t.val + k.val
        rw [idx_1]; show t.val * 512 + 1 * k.val = 512 * t.val + k.val; omega)
    · exact Fin.ext (by
        show cc0_transform_1 (cfg0.grid.coords t) 1 * 2048 + 1 * j.val = j.val
        rw [idx_1]; show 0 * 2048 + 1 * j.val = j.val; omega)
  exact (congrArg (V m c main_arg0) e).trans (congrFun (V_main_arg0 m c) _)

/-- A word the body reads at place `n` of the staged table is the staged table's word there. -/
theorem word_at (c : Dev nD) (M0 : Memref sig .tc .smem S1x1x1024 .i32) (f0 : Bf (F := F) c M0) (o : Fin 3 → ℕ) (h) (n : ℕ) (hn : n < 1024)
    (ho : o = ![0, 0, n]) :
    M0.view.readAt (Elt F) (Rect.unit (s := S1x1x1024) o S1x1x1.size h).toLoadRect f0 i0 = M0.view.read (Elt F) f0 (ix3 0 0 ⟨n, hn⟩) := by
  subst ho
  rw [View.readAt_apply]
  refine congrArg (M0.view.read (Elt F) f0) ?_
  funext a
  fin_cases a
  · rfl
  · rfl
  · exact Fin.ext (by show n + 1 * 0 = n; omega)

theorem off1_eq (k : Fin k0_t1_loop.trips) : k0_off1 k = ![0, 0, 2 * k.val] :=
  (by decide +kernel : ∀ k : Fin k0_t1_loop.trips, k0_off1 k = ![0, 0, 2 * k.val]) k
theorem off4_eq (k : Fin k0_t1_loop.trips) : k0_off4 k = ![0, 0, 2 * k.val + 1] :=
  (by decide +kernel : ∀ k : Fin k0_t1_loop.trips, k0_off4 k = ![0, 0, 2 * k.val + 1]) k

/-- The words of grid point `t` are the table's entries from `1024 t` on. -/
theorem words_A (c : Dev nD) (t : Fin cfg0.N) (M0 : Memref sig .tc .smem S1x1x1024 .i32) (f0 : Bf (F := F) c M0)
    (h0 : M0.view.read (Elt F) f0 = iblk m c 0 t) (k : Fin k0_t1_loop.trips) :
    (wA M0 f0 k).toNat = slotOf (tbl m c) (1024 * t.val + 2 * k.val) := by
  have ht : t.val < 32 := lt_of_lt_of_eq t.isLt N_0
  have hk : k.val < 512 := lt_of_lt_of_eq k.isLt trips_eq
  unfold wA slotOf
  rw [word_at c M0 f0 _ _ (2 * k.val) (by omega) (off1_eq k), h0, iblk_0, V_main_v1, dif_pos (by omega)]
theorem words_B (c : Dev nD) (t : Fin cfg0.N) (M0 : Memref sig .tc .smem S1x1x1024 .i32) (f0 : Bf (F := F) c M0)
    (h0 : M0.view.read (Elt F) f0 = iblk m c 0 t) (k : Fin k0_t1_loop.trips) :
    (wB M0 f0 k).toNat = slotOf (tbl m c) (1024 * t.val + 2 * k.val + 1) := by
  have ht : t.val < 32 := lt_of_lt_of_eq t.isLt N_0
  have hk : k.val < 512 := lt_of_lt_of_eq k.isLt trips_eq
  unfold wB slotOf
  rw [word_at c M0 f0 _ _ (2 * k.val + 1) (by omega) (off4_eq k), h0, iblk_0, V_main_v1, dif_pos (by omega)]
  rfl

/-! ## The proof data -/

/-- What the proof asks of the launch memory: on every core the table names distinct slots. -/
def AllOK : Prop := ∀ c : Dev nD, TableOK (tbl m c)

/-- The result before grid point `p`. -/
abbrev sofar (c : Dev nD) (p : ℕ) : Buf (Elt F) ((c : Thread nD τ).loc main_v0) := upTo (tbl m c) (toks m c) zeros p

/-- The routed buffer's contents before grid point `p`, as a valuation. -/
def Yat (c : Dev nD) (p : ℕ) : (b : Ref sig .tc) → Buf (Elt F) ((c : Thread nD τ).loc b) :=
  Function.update (V m c) main_v0 (sofar m c p)

theorem Yat_main_v0 (c : Dev nD) (p : ℕ) : Yat m c p main_v0 = sofar m c p := Function.update_self ..

theorem Yat_zero (c : Dev nD) : Yat m c 0 = V m c := by
  unfold Yat sofar
  rw [upTo_zero, ← V_main_v0 m c]
  exact Function.update_eq_self _ _

abbrev osem : Unit → SemLoc sig := fun _ => .dma cc0_scratch0.sem
/-- The buffer routed through the body's invariant: the result. -/
abbrev RR : Finset (Ref sig .tc) := {main_v0}

/-- The body's invariant between points: the result as far as it has come, the cell at zero, the generator register. -/
def dats (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
  Φ t := Ends spec0 osem RR c (Yat m c t.val)
  q _ := fullShare
  owed _ := 0

abbrev 𝒱₀ : Variants := Variants.none

omit [FloatOps F] in
theorem ownSems_eq (c : Dev nD) :
    (Pipeline.ownSems0 (Ix := Unit) (Name := ℕ) (U := UC sig nD τ) (Lvl := ℕ) (Val := Elt F) (τ := τ) osem c : sProp 𝕄)
      = semVal ((c : Thread nD τ), osem ()) 0 :=
  Pipeline.ownSems0_eq_of_list c osem [()] (by decide) (by decide)

theorem ends_eq (c : Dev nD) (W : (b : Ref sig .tc) → Buf (Elt F) ((c : Thread nD τ).loc b)) :
    (Ends spec0 osem RR c W : sProp 𝕄)
      = iprop(pt c (Memref.whole main_v0) (W main_v0) ∗ semVal ((c : Thread nD τ), osem ()) 0 ∗ emp ∗ ∃ r, prngReg c r) := by
  unfold Ends; rw [routed_singleton, ownSems_eq, scopedRest0_eq]; rfl

theorem before_0 (c : Dev nD) (t : Fin cfg0.N) (d) : (dats m 0 c).before 0 t d = iblk m c 0 t := by
  rw [(dats m 0 c).before_fetched 0 t (fetch0_0 t)]; unfold Dat.fetched Dat.blockOf; dsimp only [dats]; rfl
theorem before_1 (c : Dev nD) (t : Fin cfg0.N) (d) : (dats m 0 c).before 1 t d = iblk m c 1 t := by
  rw [(dats m 0 c).before_fetched 1 t (fetch0_1 t)]; unfold Dat.fetched Dat.blockOf; dsimp only [dats]; rfl

/-- A whole memref owned is its buffer held whole at contents it reads as owned. -/
theorem owns_whole_read (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt
  rw [h.set_eq_univ]

/-- One grid point, the staged blocks owned. -/
theorem point_run [∀ e, Nonempty (Elt F e)] (hok : AllOK m) (c : Dev nD) (t : Fin cfg0.N)
    (M0 : Memref sig .tc .smem S1x1x1024 .i32) (h0 : M0.IsWhole) (M1 : Memref sig .tc .vmem S512x2048 .f32) (h1 : M1.IsWhole)
    (W : Waits sig Unit) (Q : PUnit → sProp 𝕄) :
    iprop(owns (c : Thread nD τ) M0 fullShare (iblk m c 0 t) ∗ owns (c : Thread nD τ) M1 fullShare (iblk m c 1 t)
        ∗ pt c (Memref.whole main_v0) (sofar m c t.val) ∗ semVal ((c : Thread nD τ), osem ()) 0 ∗ owes (c : Thread nD τ) 0 W
        ∗ (iprop(owns (c : Thread nD τ) M0 fullShare (iblk m c 0 t) ∗ owns (c : Thread nD τ) M1 fullShare (iblk m c 1 t)
            ∗ pt c (Memref.whole main_v0) (sofar m c (t.val + 1)) ∗ semVal ((c : Thread nD τ), osem ()) 0
            ∗ ∃ W, owes (c : Thread nD τ) 0 W) -∗ Q ⟨⟩))
      ⊢ wp frame (wpE (defs₀ (F := F)) 𝒱₀ c none) Set.univ
          (cc0_moe_dispatch (grid0.coords t) M0 h0 M1 h1 (Memref.whole main_v0) (Memref.isWhole_whole _) (Memref.whole main_v0)
            (Memref.isWhole_whole _) cc0_scratch0) Q := by
  have ht : t.val < 32 := lt_of_lt_of_eq t.isLt N_0
  rw [owns_whole_read c M0 h0, owns_whole_read c M1 h1]
  iintro ⟨⟨%f0, %e0, H0⟩, ⟨%f1, %e1, H1⟩, Hv, Hs, HO, Hk⟩
  have hw : WordsOK M0 f0 := words_ok (hok c) M0 f0 t.val ht (words_A m c t M0 f0 e0) (words_B m c t M0 f0 e0)
  have hl : Lands c M0 f0 hw M1 (sofar m c t.val) (sofar m c (t.val + 1)) f1 :=
    lands_upTo (hok c) (toks m c) zeros c M0 f0 hw M1 f1 t.val ht (words_A m c t M0 f0 e0) (words_B m c t M0 f0 e0)
      (fun k j => (congrFun e1 _).trans (iblk_1 m c t k j))
  iapply (bodyRun c M0 f0 hw M1 (sofar m c t.val) (sofar m c (t.val + 1)) f1 hl h0 h1 (grid0.coords t) W Q)
  isplitl [H0]; · iexact H0
  isplitl [H1]; · iexact H1
  isplitl [Hv]; · iexact Hv
  isplitl [Hs]; · iexact Hs
  isplitl [HO]; · iexact HO
  iintro ⟨H0, H1, Hv, Hs, HO⟩
  iapply Hk
  isplitl [H0]
  · iexists f0; isplitr; · ipureintro; exact e0
    iexact H0
  isplitl [H1]
  · iexists f1; isplitr; · ipureintro; exact e1
    iexact H1
  isplitl [Hv]; · iexact Hv
  isplitl [Hs]; · iexact Hs
  iexact HO

set_option maxRecDepth 16384 in
/-- The body obligation. -/
theorem body_obligation [∀ e, Nonempty (Elt F e)] (hok : AllOK m) (c : Dev nD) :
    BodyObligation (dats m 0 c) (defs₀ (F := F)) 𝒱₀ () Set.univ := fun t => by
  rw [bigSep_W0, bigSep_W0]
  rw [show (dats m 0 c).Φ t.castSucc = Ends spec0 osem RR c (Yat m c t.val) from rfl,
    show (dats m 0 c).Φ t.succ = Ends spec0 osem RR c (Yat m c (t.val + 1)) from rfl, ends_eq, ends_eq, Yat_main_v0, Yat_main_v0]
  unfold Dat.owesAt Pipeline.owesWithin
  rw [show (dats m 0 c).owed t.castSucc = 0 from rfl, show (dats m 0 c).owed t.succ = 0 from rfl]
  iintro ⟨⟨Hv, Hs, -, Hp⟩, ⟨%W, %hW, HO⟩, ⟨%d0, H0⟩, ⟨%d1, H1⟩⟩
  rw [before_0, before_1]
  iapply (point_run m hok c t (win0_0.stage (cfg0.slots t 0)) (hstage0_0 ((cfg0.slots t 0).cast nbuf0_0))
    (win0_1.stage (cfg0.slots t 1)) (hstage0_1 ((cfg0.slots t 1).cast nbuf0_1)) W)
  isplitl [H0]; · iexact H0
  isplitl [H1]; · iexact H1
  isplitl [Hv]; · iexact Hv
  isplitl [Hs]; · iexact Hs
  isplitl [HO]; · iexact HO
  iintro ⟨H0, H1, Hv, Hs, ⟨%W', HO⟩⟩
  isplitl [Hv Hs Hp]
  · isplitl [Hv]; · iexact Hv
    isplitl [Hs]; · iexact Hs
    isplitr; · iempintro
    iexact Hp
  isplitl [HO]
  · iexists W'; isplitr; · ipureintro; exact fun _ _ => Or.inl trivial
    iexact HO
  isplitl [H0]; · iexact H0
  iexact H1

/-! ## The launch -/

theorem ownSemFacts : Pipeline.OwnSemFacts spec0 osem := by decide

/-- Every weakly fair execution terminates without fault, with the staged arrays as found, the result at the contents
    all 32 points leave, and every semaphore at zero. -/
theorem run_quiescent [∀ e, Nonempty (Elt F e)] (hok : AllOK m) :
    θ_run defs (onTc (τ := τ) (main (F := F))) (s₀ m ρ)
      (fun r => RoutedPost cfgs (dats m) 0 RR (V m) (fun c => Yat m c 32) r ∧ r.2.sem = fun _ => 0) :=
  Pipeline.θ_run_frame_routed cfgs (dats m) 0 launch0 ownSemFacts defs₀ 𝒱₀ m ρ main
    (hbody := fun c => (body_obligation m hok c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (R := RR) (hR := by decide) (Y := fun c => Yat m c 32)
    (hin := fun c => by rw [← Yat_zero m c]; exact .rfl) (hout := fun _ => .rfl) (Q' := _)

/-- The frame, and the value: the arguments as launched, the result the tokens on the rows the table names. -/
theorem run_main [∀ e, Nonempty (Elt F e)] (hok : AllOK m) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v0) = sofar m c 32)
      ∧ r.2.sem = fun _ => 0) :=
  (run_quiescent m ρ hok).mono fun r ⟨h, hz⟩ => ⟨fun c => ⟨
    ((h c).1 1).trans (((dats m 0 c).arrAt_in 1 rfl _).trans (V_main_arg0 m c)),
    ((h c).2.2 main_arg1 (by decide)).trans (V_main_arg1 m c),
    ((h c).2.1 main_v0 (by decide)).trans (Yat_main_v0 m c 32)⟩, hz⟩

end Cert.DispatchProof
-- ==== Proof.DispatchTable.lean ====
/- Scatters and gathers by a column of row numbers, and what they make of the destination table: the precondition read as
   a statement about the table's entries, and the reference's result as the contents the dispatch leaves. -/
module

public import proofs.«01_k».proof.Defs
public import proofs.«01_k».proof.Proof.DispatchLaunch
public import proofs.«01_k».proof.Proof.Gen.DispatchRefIdeal.Run
public import proofs.«01_k».proof.Proof.Gen.DispatchRef.Run
public import proofs.«01_k».proof.Proof.Gen.Pre_dest_names_distinct_slots
public import Idealize.ShloMosaic.Lib.Routing.OpsSet
public import Idealize.ShloMosaic.Lib.Pipeline.Value

@[expose] public section

noncomputable section

namespace Cert.DispatchProof

open Idealize.ShloMosaic Idealize.ShloMosaic.TcCoe Idealize.ShloMosaic.ValueIdx Idealize.ShloMosaic.Routing

/-! ## Scatters of scalars into a vector -/

/-- Update `i` of a scatter of `M` scalars into a vector of `N`, one index word each, lands on entry `x` exactly when its
    word, read signed, is `x`. -/
theorem lands_iff {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (i : Fin M)
    (x : Fin N) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hw : d.window (ix1 i) 0 = 0 := by
    unfold ScatterDims.window
    exact dif_neg fun h => (of_decide_eq_true (List.mem_filter.1 h).2) (by rw [hiw]; exact List.mem_singleton.2 rfl)
  have hsi : d.siIdx (ix1 i) ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hivd]; exact Nat.zero_ne_one)]
      unfold ScatterDims.siCoord
      simp only [Fin.val_cast]
      have e : ∀ X : Fin 1, (ix1 i X).val = i.val := fun X => by
        obtain rfl : X = 0 := Subsingleton.elim _ _
        rfl
      exact e _
    | ⟨1, _⟩ => exact Nat.lt_one_iff.mp (Fin.isLt _)
  have hst : d.start (ix1 i) idx 0 = (idx (ix2 i (0 : Fin 1))).toInt := by
    unfold ScatterDims.start
    rw [dif_pos hm, hsi]
  have at0 : ∀ a : Fin 1, d.start (ix1 i) idx a + (d.window (ix1 i) a : Int) = (idx (ix2 i (0 : Fin 1))).toInt := fun a => by
    obtain rfl : a = 0 := Subsingleton.elim _ _
    rw [hst, hw]; simp
  have hx := x.isLt
  unfold ScatterDims.resultIdx?
  split
  · next h =>
    have h0 := h 0
    rw [at0] at h0
    constructor
    · intro e
      have e0 : (d.start (ix1 i) idx 0 + (d.window (ix1 i) 0 : Int)).toNat = x.val :=
        congrArg Fin.val (congrFun (Option.some.inj e) 0)
      rw [at0] at e0
      omega
    · intro e
      refine congrArg some (funext fun a => Fin.ext ?_)
      obtain rfl : a = 0 := Subsingleton.elim _ _
      show (d.start (ix1 i) idx 0 + (d.window (ix1 i) 0 : Int)).toNat = x.val
      rw [at0]
      omega
  · next h =>
    refine ⟨fun e => (nomatch e), fun e => (h fun a => ?_).elim⟩
    obtain rfl : a = 0 := Subsingleton.elim _ _
    rw [at0]
    exact ⟨by omega, by show _ < (N : Int); omega⟩

/-- An index of a vector is its one coordinate. -/
theorem idx1_eta {N : ℕ} (k : (shape1 N).Idx) : k = ix1 (k 0) := by
  funext a
  obtain rfl : a = 0 := Subsingleton.elim _ _
  rfl

/-- A scatter that sets, on an entry exactly one update names: that update. -/
theorem set_hit {α : Type} {N M : ℕ} (d : ScatterDims (shape1 N) (shape2 M 1) (shape1 M)) (hiw : d.insertedWindowDims = [0])
    (hsd : d.scatterDimsToOperandDims = [0]) (hivd : d.indexVectorDim = 1) (x0 : (shape1 N).Idx → α)
    (idx : IVec (shape2 M 1) 32) (upd : (shape1 M).Idx → α) (x : Fin N) (i : Fin M)
    (hi : (idx (ix2 i (0 : Fin 1))).toInt = (x.val : Int))
    (hu : ∀ j : Fin M, (idx (ix2 j (0 : Fin 1))).toInt = (x.val : Int) → j = i) :
    Host.scatter d (fun _ b => b) x0 idx upd (ix1 x) = upd (ix1 i) :=
  scatter_set_hit d x0 idx upd (ix1 x) (upd (ix1 i)) (fun k hk => by
    rw [idx1_eta k] at hk
    exact congrArg upd ((idx1_eta k).trans (congrArg ix1 (hu _ ((lands_iff d hiw hsd hivd idx _ x).1 hk))))) (ix1 i) ((lands_iff d hiw hsd hivd idx i x).2 hi)

/-- The same on an entry no update names: what was there. -/
theorem set_miss {α : Type} {N M : ℕ} (d : ScatterDims (shape1 N) (shape2 M 1) (shape1 M)) (hiw : d.insertedWindowDims = [0])
    (hsd : d.scatterDimsToOperandDims = [0]) (hivd : d.indexVectorDim = 1) (x0 : (shape1 N).Idx → α)
    (idx : IVec (shape2 M 1) 32) (upd : (shape1 M).Idx → α) (x : Fin N)
    (hu : ∀ j : Fin M, (idx (ix2 j (0 : Fin 1))).toInt ≠ (x.val : Int)) :
    Host.scatter d (fun _ b => b) x0 idx upd (ix1 x) = x0 (ix1 x) :=
  scatter_set_miss d x0 idx upd (ix1 x) fun k hk => by
    rw [idx1_eta k] at hk
    exact hu _ ((lands_iff d hiw hsd hivd idx _ x).1 hk)

/-! ## The table's entries in a row -/

/-- A word that is not negative is taken as it stands where negative words would be counted from the end. -/
theorem wrap_apply {s : Shape} (x z n : IVec s 32) (i : s.Idx) (hz : z i = 0#32) (h : 0 ≤ (x i).toInt) :
    select (cmpi .slt x z) (addi x n) x i = x i := by
  have e : (x i).slt (z i) = false := by rw [hz]; simp only [BitVec.slt, decide_eq_false_iff_not]; simpa using h
  show Scalar.select (BitVec.ofBool ((x i).slt (z i))) _ _ = _
  rw [e]; rfl

/-- A vector laid as a column, read at a row. -/
theorem column_at {n : ℕ} (h : (shape1 n).BroadcastsInDim (shape2 n 1) ![0]) (v : IVec (shape1 n) 32) (i : Fin n) :
    broadcastInDim (shape2 n 1) ![0] h v (ix2 i (0 : Fin 1)) = v (ix1 i) := by
  unfold broadcastInDim
  refine congrArg v (funext fun a => Fin.ext ?_)
  obtain rfl : a = 0 := Subsingleton.elim _ _
  have hi := i.isLt
  split
  · next e =>
    have e' : n = 1 := e
    show 0 = i.val
    omega
  · rfl

/-- The table's `q`-th word. -/
def wordOf (D : (shape2 16384 2).Idx → BitVec 32) (q : Fin 32768) : BitVec 32 :=
  D (ix2 ⟨q.val / 2, by omega⟩ ⟨q.val % 2, by omega⟩)

theorem flat_apply (D : (shape2 16384 2).Idx → BitVec 32) (h : (shape2 16384 2).ShapeCasts (shape1 32768)) (q : Fin 32768) :
    shapeCast (shape1 32768) D h (ix1 q) = wordOf D q :=
  cast21 D h _ _ _ (by show q.val = q.val / 2 * 2 + q.val % 2; omega)

theorem slotOf_eq (D : Cert.DispatchIdeal.S16384x2.Idx → BitVec 32) (q : Fin 32768) : slotOf D q.val = (wordOf D q).toNat :=
  dif_pos q.isLt

/-! ## The precondition -/

theorem all_of_and {s : Shape} (x y z : IVec s 1) (i : s.Idx) (h : andi (andi x y) z i = 1#1) :
    x i = 1#1 ∧ y i = 1#1 ∧ z i = 1#1 := by
  have one (p q : BitVec 1) : IntOp.andi p q = 1#1 → p = 1#1 ∧ q = 1#1 := by revert p q; decide
  obtain ⟨h1, h2⟩ := one _ _ h
  obtain ⟨h3, h4⟩ := one _ _ h1
  exact ⟨h3, h4, h2⟩

theorem of_bool_one {p : Bool} (h : BitVec.ofBool p = 1#1) : p = true := by cases p <;> revert h <;> decide

theorem of_sge {s : Shape} (x z : IVec s 32) (i : s.Idx) (h : cmpi .sge x z i = 1#1) : (z i).toInt ≤ (x i).toInt := by
  have e : (z i).sle (x i) = true := of_bool_one h
  simpa only [BitVec.sle, decide_eq_true_eq] using e

theorem of_slt {s : Shape} (x z : IVec s 32) (i : s.Idx) (h : cmpi .slt x z i = 1#1) : (x i).toInt < (z i).toInt := by
  have e : (x i).slt (z i) = true := of_bool_one h
  simpa only [BitVec.slt, decide_eq_true_eq] using e

theorem of_eq {s : Shape} (x z : IVec s 32) (i : s.Idx) (h : cmpi .eq x z i = 1#1) : x i = z i :=
  beq_iff_eq.mp (of_bool_one h)

section
open Cert.Pre_dest_names_distinct_slots Cert.Pre_dest_names_distinct_slots.Gen
variable {F : FTy → Type} [FloatOps F]

/-- The table's words in a row, and those words as a column of places to write at and read at. -/
def preFlat (D : (shape2 16384 2).Idx → BitVec 32) : IVec S32768 32 := shapeCast S32768 D shapeCasts_S16384x2_S32768
def preZero : IVec S32768 32 := broadcastInDim S32768 ![] bcast_S_S32768 (constantI S_ 32 0#32)
def preSlots : IVec S32768 32 := broadcastInDim S32768 ![] bcast_S_S32768 (constantI S_ 32 40960#32)
def preColumn (D : (shape2 16384 2).Idx → BitVec 32) : IVec S32768x1 32 :=
  broadcastInDim S32768x1 ![0] bcast_S32768_S32768x1_0
    (select (cmpi .slt (preFlat D) preZero) (addi (preFlat D) preSlots) (preFlat D))

/-- The array the entries' own numbers are set into. -/
def preBack (D : (shape2 16384 2).Idx → BitVec 32) : IVec S40960 32 :=
  Host.scatter scatter_S40960_S32768x1_S32768_n_0_0_1 (fun _ b => b)
    (broadcastInDim S40960 ![] bcast_S_S40960 (constantI S_ 32 0#32)) (preColumn D) (iotaInDim S32768 32 0)

theorem pre_eq (H : FVec F S16384x2048 .f32) (D : (shape2 16384 2).Idx → BitVec 32) :
    fn (F := F) H D = andi (andi (cmpi .sge (preFlat D) preZero) (cmpi .slt (preFlat D) preSlots))
      (cmpi .eq (Host.gather gather_S40960_S32768x1_S32768_n_0_n_n_0_1_1 (preBack D) (preColumn D)) (iotaInDim S32768 32 0)) := rfl

/-- The precondition's three conditions on one entry of the table: it is not negative, it is below the slot count, and
    reading at it, off the array the entries' own numbers were set into, gives the entry's number. -/
theorem pre_decode (H : FVec F S16384x2048 .f32) (D : (shape2 16384 2).Idx → BitVec 32)
    (h : fn (F := F) H D = fun _ => 1#1) (q : Fin 32768) :
    0 ≤ (wordOf D q).toInt ∧ (wordOf D q).toInt < 40960
      ∧ ∀ (x : Fin 40960), (wordOf D q).toInt = (x.val : Int) → preBack D (ix1 x) = BitVec.ofNat 32 q.val := by
  rw [pre_eq] at h
  obtain ⟨f0, f1, f2⟩ := all_of_and _ _ _ _ (congrFun h (ix1 q))
  have w : preFlat D (ix1 q) = wordOf D q := flat_apply D shapeCasts_S16384x2_S32768 q
  have g0 := of_sge _ _ _ f0
  have g1 := of_slt _ _ _ f1
  rw [w] at g0 g1
  have z : preZero (ix1 q) = 0#32 := rfl
  have g0' : 0 ≤ (wordOf D q).toInt := by rw [z] at g0; exact g0
  refine ⟨g0', g1, fun x hx => ?_⟩
  refine Eq.trans ?_ (of_eq _ _ _ f2)
  refine (gather_take1 gather_S40960_S32768x1_S32768_n_0_n_n_0_1_1 rfl rfl rfl rfl (preBack D) (preColumn D) q x ?_ (by decide)).symm
  refine (column_at bcast_S32768_S32768x1_0 _ q).trans ((wrap_apply (preFlat D) preZero preSlots (ix1 q) z (by rw [w]; exact g0')).trans ?_)
  rw [w]
  apply BitVec.eq_of_toInt_eq
  rw [hx, StableHlo.Predicate.toInt_ofNat_small _ (by omega)]

theorem toInt_eq_toNat {w : BitVec 32} (h : 0 ≤ w.toInt) : w.toInt = (w.toNat : Int) := by
  rw [BitVec.toInt_eq_toNat_cond] at *
  split at h <;> split <;> omega

/-- Under the precondition every entry of the table names a slot, and no two the same. -/
theorem table_ok (H : FVec F S16384x2048 .f32) (D : (shape2 16384 2).Idx → BitVec 32)
    (h : fn (F := F) H D = fun _ => 1#1) : TableOK D := by
  have hb := pre_decode H D h
  have nat (q : Fin 32768) := toInt_eq_toNat (hb q).1
  constructor
  · intro q hq
    have e := slotOf_eq D ⟨q, hq⟩
    have := nat ⟨q, hq⟩
    have := (hb ⟨q, hq⟩).2.1
    simp only at e
    omega
  · intro q hq q' hq' e
    have e1 := slotOf_eq D ⟨q, hq⟩
    have e2 := slotOf_eq D ⟨q', hq'⟩
    have n1 := nat ⟨q, hq⟩
    have n2 := nat ⟨q', hq'⟩
    have l1 := (hb ⟨q, hq⟩).2.1
    simp only at e1 e2
    have r1 := (hb ⟨q, hq⟩).2.2 ⟨(wordOf D ⟨q, hq⟩).toNat, by omega⟩ n1
    have r2 := (hb ⟨q', hq'⟩).2.2 ⟨(wordOf D ⟨q, hq⟩).toNat, by omega⟩ (n2.trans (congrArg Nat.cast (by
      show (wordOf D ⟨q', hq'⟩).toNat = (wordOf D ⟨q, hq⟩).toNat
      omega)))
    have r := congrArg BitVec.toNat (r1.symm.trans r2)
    simp only [BitVec.toNat_ofNat] at r
    omega

end

/-! ## The reference -/

section
open Cert.DispatchRefIdeal Cert.DispatchRefIdeal.Gen
variable {F : FTy → Type} [FloatOps F]

/-- The token each slot holds, as the reference makes it: token numbers set at the table's entries, 16384 elsewhere. -/
def slotTok (D : (shape2 16384 2).Idx → BitVec 32) : IVec S40960 32 :=
  Host.scatter scatter_S40960_S32768x1_S32768_n_0_0_1 (fun _ b => b)
    (broadcastInDim S40960 ![] bcast_S_S40960 (constantI S_ 32 16384#32))
    (broadcastInDim S32768x1 ![0] bcast_S32768_S32768x1_0
      (select (cmpi .slt (shapeCast _ D shapeCasts_S16384x2_S32768) (broadcastInDim S32768 ![] bcast_S_S32768 (constantI S_ 32 0#32)))
        (addi (shapeCast _ D shapeCasts_S16384x2_S32768) (broadcastInDim S32768 ![] bcast_S_S32768 (constantI S_ 32 40960#32)))
        (shapeCast _ D shapeCasts_S16384x2_S32768)))
    (shapeCast _ (broadcastInDim S16384x2 ![0] bcast_S16384_S16384x2_0 (iotaInDim S16384 32 0)) shapeCasts_S16384x2_S32768)

/-- The tokens with one row of zeros after the last. -/
abbrev padded (H : S16384x2048.Idx → Elt F .f32) : S16385x2048.Idx → Elt F .f32 :=
  concatenate S16385x2048 0 [⟨S16384x2048, H⟩, ⟨S1x2048, broadcastInDim S1x2048 ![] bcast_S_S1x2048 (constant S_ .f32 0x00000000#32)⟩]
    concatenates_S16384x2048_S1x2048_S16385x2048_d0

/-- The reference's result. -/
abbrev refOf (D : (shape2 16384 2).Idx → BitVec 32) (H : S16384x2048.Idx → Elt F .f32) : S40960x2048.Idx → Elt F .f32 :=
  Host.gather gather_S16385x2048_S40960x1_S40960x2048_1_0_n_n_0_1_12048 (padded H)
    (broadcastInDim S40960x1 ![0] bcast_S40960_S40960x1_0
      (select (cmpi .slt (slotTok D) (broadcastInDim S40960 ![] bcast_S_S40960 (constantI S_ 32 0#32)))
        (addi (slotTok D) (broadcastInDim S40960 ![] bcast_S_S40960 (constantI S_ 32 16385#32))) (slotTok D)))

variable {D : (shape2 16384 2).Idx → BitVec 32}

/-- The scatter's index column at an entry is the entry's word, where that is not negative. -/
theorem column_apply (hD : TableOK D) (q : Fin 32768) :
    (broadcastInDim S32768x1 ![0] bcast_S32768_S32768x1_0
      (select (cmpi .slt (shapeCast _ D shapeCasts_S16384x2_S32768) (broadcastInDim S32768 ![] bcast_S_S32768 (constantI S_ 32 0#32)))
        (addi (shapeCast _ D shapeCasts_S16384x2_S32768) (broadcastInDim S32768 ![] bcast_S_S32768 (constantI S_ 32 40960#32)))
        (shapeCast _ D shapeCasts_S16384x2_S32768)) (ix2 q (0 : Fin 1))).toInt = (slotOf D q.val : Int) := by
  have w := flat_apply D shapeCasts_S16384x2_S32768 q
  have r := hD.range q.val q.isLt
  have e := slotOf_eq D q
  have ti : (wordOf D q).toInt = (slotOf D q.val : Int) := by
    rw [BitVec.toInt_eq_toNat_cond]
    split <;> omega
  have h := wrap_apply (shapeCast S32768 D shapeCasts_S16384x2_S32768) (broadcastInDim S32768 ![] bcast_S_S32768 (constantI S_ 32 0#32))
    (broadcastInDim S32768 ![] bcast_S_S32768 (constantI S_ 32 40960#32)) (ix1 q) rfl (by rw [w, ti]; omega)
  exact (congrArg BitVec.toInt (h.trans w)).trans ti

/-- A slot some entry names holds the entry's token. -/
theorem slotTok_hit (hD : TableOK D) (q : Fin 32768) (x : Fin 40960) (e : slotOf D q.val = x.val) :
    slotTok D (ix1 x) = BitVec.ofNat 32 (q.val / 2) := by
  refine (set_hit scatter_S40960_S32768x1_S32768_n_0_0_1 rfl rfl rfl _ _ _ x q ?_ fun j hj => ?_).trans ?_
  · rw [column_apply hD]; omega
  · rw [column_apply hD] at hj
    exact Fin.ext (hD.inj _ j.isLt _ q.isLt (by omega))
  · exact cast21 _ shapeCasts_S16384x2_S32768 ⟨q.val / 2, by omega⟩ ⟨q.val % 2, by omega⟩ q (by show q.val = q.val / 2 * 2 + q.val % 2; omega)

/-- A slot no entry names holds the number of the row of zeros. -/
theorem slotTok_miss (hD : TableOK D) (x : Fin 40960) (e : ∀ q : Fin 32768, slotOf D q.val ≠ x.val) :
    slotTok D (ix1 x) = 16384#32 :=
  set_miss scatter_S40960_S32768x1_S32768_n_0_0_1 rfl rfl rfl _ _ _ x fun j hj => by
    rw [column_apply hD] at hj
    exact e j (by omega)

/-- Where a slot holds token number `b`, the result's row is the padded tokens' row `b`. -/
theorem refOf_apply (H : S16384x2048.Idx → Elt F .f32) (x : Fin 40960) (y : Fin 2048) (b : Fin 16385)
    (h : slotTok D (ix1 x) = BitVec.ofNat 32 b.val) : refOf D H (ix2 x y) = padded H (ix2 b y) := by
  have hb := b.isLt
  refine gather_row gather_S16385x2048_S40960x1_S40960x2048_1_0_n_n_0_1_12048 rfl rfl rfl rfl rfl _ _ x y b ?_ (by decide)
  have e : (slotTok D (ix1 x)).toInt = (b.val : Int) :=
    (congrArg BitVec.toInt h).trans (StableHlo.Predicate.toInt_ofNat_small _ (by omega))
  exact (column_at bcast_S40960_S40960x1_0 _ x).trans <| (wrap_apply (slotTok D) _ _ (ix1 x) rfl ((Int.natCast_nonneg b.val).trans_eq e.symm)).trans h

theorem padded_row (H : S16384x2048.Idx → Elt F .f32) (b : Fin 16384) (y : Fin 2048) :
    padded H (ix2 ⟨b.val, by omega⟩ y) = H (ix2 b y) :=
  concatenate_pair_apply_left 0 H _ concatenates_S16384x2048_S1x2048_S16385x2048_d0 _ rfl (ix2 b y) fun a => by
    match a with
    | ⟨0, _⟩ => rfl
    | ⟨1, _⟩ => rfl

theorem padded_zero (H : S16384x2048.Idx → Elt F .f32) (y : Fin 2048) :
    padded H (ix2 ⟨16384, by decide⟩ y) = FloatOps.ofBits .f32 0#32 :=
  concatenate_pair_apply_right 0 H (broadcastInDim S1x2048 ![] bcast_S_S1x2048 (constant S_ .f32 0x00000000#32))
    concatenates_S16384x2048_S1x2048_S16385x2048_d0 _ rfl rfl (ix2 0 y)
    (fun a ha => by
      match a with
      | ⟨0, _⟩ => exact absurd rfl ha
      | ⟨1, _⟩ => rfl)
    rfl

/-- On a table of distinct slots the reference's result is the contents the dispatch's 32 grid points leave over zeros. -/
theorem refOf_eq (hD : TableOK D) (H : S16384x2048.Idx → Elt F .f32) : refOf D H = upTo D H zeros 32 := by
  funext i
  obtain ⟨x, y, rfl⟩ : ∃ (x : Fin 40960) (y : Fin 2048), i = ix2 x y := ⟨i 0, i 1, by
    funext a
    match a with
    | ⟨0, _⟩ => rfl
    | ⟨1, _⟩ => rfl⟩
  by_cases h : ∃ q : Fin 32768, slotOf D q.val = x.val
  · obtain ⟨q, hq⟩ := h
    rw [upTo_hit hD H zeros (q := q.val) (by have := q.isLt; omega) q.isLt (ix2 x y) hq]
    exact (refOf_apply H x y ⟨q.val / 2, by have := q.isLt; omega⟩ (slotTok_hit hD q x hq)).trans
      (padded_row H ⟨q.val / 2, by have := q.isLt; omega⟩ y)
  · rw [upTo_miss D H zeros 32 (ix2 x y) fun q _ hq e => h ⟨⟨q, hq⟩, e⟩]
    exact (refOf_apply H x y ⟨16384, by decide⟩ (slotTok_miss hD x fun q e => h ⟨q, e⟩)).trans (padded_zero H y)

end

end Cert.DispatchProof
-- ==== Proof.MergePoint.lean ====
/- What one grid point of the merge call leaves in its buffers: the block of merged rows (`blockOf`), written over the
   point's input blocks and the two tables of weights the kernel keeps in scratch between points. -/
module

public import proofs.«01_k».proof.Proof.Gen.MergeIdeal.Value

@[expose] public section

noncomputable section

namespace Cert.MergeProof

open Cert.MergeIdeal Cert.MergeIdeal.Gen Cert.MergeIdeal.Value Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The block a grid point computes from its rows `x0`, the four branches' rows, the biases `x6` and the two weight
    tables held in scratch: member `br` of a table belongs to branch `br`. -/
def blockOf (x0 : Vec F S1024x2048 .bf16) (x1 x2 x3 x4 : Vec F S1024x512 .bf16) (x6 : Vec F S4x1x256 .f32)
    (g : Vec F S4x2048x256 .bf16) (u : Vec F S4x512x256 .bf16) : Vec F S1024x256 .bf16 :=
  k0_pay6 x0
    (k0_pay3 x0 (View.ld g (Rect.unit (s := S4x2048x256) ![0, 0, 0] S1x2048x256.size inb_S4x2048x256_S1x2048x256_0_0_0))
      (View.ld x6 (Rect.unit (s := S4x1x256) ![0, 0, 0] S1x1x256.size inb_S4x1x256_S1x1x256_0_0_0)) x1
      (View.ld u (Rect.unit (s := S4x512x256) ![0, 0, 0] S1x512x256.size inb_S4x512x256_S1x512x256_0_0_0)))
    (k0_pay4 x0 (View.ld g (Rect.unit (s := S4x2048x256) ![1, 0, 0] S1x2048x256.size inb_S4x2048x256_S1x2048x256_1_0_0))
      (View.ld x6 (Rect.unit (s := S4x1x256) ![1, 0, 0] S1x1x256.size inb_S4x1x256_S1x1x256_1_0_0)))
    x2
    (k0_pay5 (View.ld u (Rect.unit (s := S4x512x256) ![1, 0, 0] S1x512x256.size inb_S4x512x256_S1x512x256_1_0_0)))
    (View.ld g (Rect.unit (s := S4x2048x256) ![2, 0, 0] S1x2048x256.size inb_S4x2048x256_S1x2048x256_2_0_0))
    (View.ld x6 (Rect.unit (s := S4x1x256) ![2, 0, 0] S1x1x256.size inb_S4x1x256_S1x1x256_2_0_0))
    x3
    (View.ld u (Rect.unit (s := S4x512x256) ![2, 0, 0] S1x512x256.size inb_S4x512x256_S1x512x256_2_0_0))
    (View.ld g (Rect.unit (s := S4x2048x256) ![3, 0, 0] S1x2048x256.size inb_S4x2048x256_S1x2048x256_3_0_0))
    (View.ld x6 (Rect.unit (s := S4x1x256) ![3, 0, 0] S1x1x256.size inb_S4x1x256_S1x1x256_3_0_0))
    x4
    (View.ld u (Rect.unit (s := S4x512x256) ![3, 0, 0] S1x512x256.size inb_S4x512x256_S1x512x256_3_0_0))

/-- A load of a box of a buffer whose last store was of the whole of it reads that box of what was stored. -/
theorem readCov_whole {s : Shape} {e : EltTy} {sp : Space} (v : View sig .tc sp s e) {off : Fin s.rank → Nat} (h : off = fun _ => 0)
    (inb : ∀ a, off a + s.size a ≤ s.size a) (w : s.Idx → Elt F e) (r : Rect s) :
    v.readCov [⟨Rect.unit off s.size inb, w⟩] r.toLoadRect = View.ld w r := by
  rw [View.readCov_eq_canon']
  funext j
  rw [View.canon_unit_zero h]

variable (c : Dev nD) (i : grid0.Coords)
  (arg2 : Memref sig .tc .vmem S1024x2048 .bf16) (harg2 : arg2.IsWhole) (arg3 : Memref sig .tc .vmem S1024x512 .bf16) (harg3 : arg3.IsWhole)
  (arg4 : Memref sig .tc .vmem S1024x512 .bf16) (harg4 : arg4.IsWhole) (arg5 : Memref sig .tc .vmem S1024x512 .bf16) (harg5 : arg5.IsWhole)
  (arg6 : Memref sig .tc .vmem S1024x512 .bf16) (harg6 : arg6.IsWhole) (arg7 : Memref sig .tc .vmem S1x4x2048x256 .f32) (harg7 : arg7.IsWhole)
  (arg8 : Memref sig .tc .vmem S4x1x256 .f32) (harg8 : arg8.IsWhole) (arg9 : Memref sig .tc .vmem S1x4x512x256 .f32) (harg9 : arg9.IsWhole)
  (arg10 : Memref sig .tc .vmem S1024x256 .bf16) (harg10 : arg10.IsWhole) (arg11 : Memref sig .tc .vmem S4x2048x256 .bf16) (harg11 : arg11.IsWhole)
  (arg12 : Memref sig .tc .vmem S4x512x256 .bf16) (harg12 : arg12.IsWhole)
  (x0 : Vec F S1024x2048 .bf16) (x1 x2 x3 x4 : Vec F S1024x512 .bf16) (x5 : Vec F S1x4x2048x256 .f32) (x6 : Vec F S4x1x256 .f32)
  (x7 : Vec F S1x4x512x256 .f32) (xs0 : Vec F S4x2048x256 .bf16) (xs1 : Vec F S4x512x256 .bf16)

/-- A later point of a column tile computes its block from what the scratch holds. -/
theorem later_block (hc0 : ¬cond0_0 i) :
    out0_B_8 c i arg2 harg2 arg3 harg3 arg4 harg4 arg5 harg5 arg6 harg6 arg7 harg7 arg8 harg8 arg9 harg9 arg10 harg10 arg11 harg11 arg12 harg12
      hc0 x0 x1 x2 x3 x4 x5 x6 x7 xs0 xs1 = blockOf x0 x1 x2 x3 x4 x6 xs0 xs1 := by
  unfold out0_B_8
  rw [View.read_writes_junk_eq_canon]
  unfold kernelRun0_B
  dsimp only
  sl_unfold_words
  rw [View.canon_unit_zero zero2]
  simp only [View.readAt_eq_ld, harg2.read_unread, harg3.read_unread, harg4.read_unread, harg5.read_unread, harg6.read_unread,
    harg8.read_unread, harg11.read_unread, harg12.read_unread, View.ld_unit_zero (S := S1024x2048) zero2, View.ld_unit_zero (S := S1024x512) zero2]
  rfl

/-- The first point of a column tile fills the gate table with its block of the gate weights. -/
theorem first_gates (hc0 : cond0_0 i) :
    sout0_A_0 c i arg2 harg2 arg3 harg3 arg4 harg4 arg5 harg5 arg6 harg6 arg7 harg7 arg8 harg8 arg9 harg9 arg10 harg10 arg11 harg11 arg12 harg12
      hc0 x0 x1 x2 x3 x4 x5 x6 x7 = k0_pay1 x5 := by
  unfold sout0_A_0
  rw [View.read_writes_junk_eq_canon]
  unfold kernelRun0_A
  dsimp only
  sl_unfold_words
  rw [View.canon_unit_zero zero3]
  simp only [View.readAt_eq_ld, harg7.read_unread, View.ld_unit_zero (S := S1x4x2048x256) zero4]

/-- … and the other table with its block of the up-projection weights. -/
theorem first_ups (hc0 : cond0_0 i) :
    sout0_A_1 c i arg2 harg2 arg3 harg3 arg4 harg4 arg5 harg5 arg6 harg6 arg7 harg7 arg8 harg8 arg9 harg9 arg10 harg10 arg11 harg11 arg12 harg12
      hc0 x0 x1 x2 x3 x4 x5 x6 x7 = k0_pay2 x7 := by
  unfold sout0_A_1
  rw [View.read_writes_junk_eq_canon]
  unfold kernelRun0_A
  dsimp only
  sl_unfold_words
  rw [View.canon_unit_zero zero3]
  simp only [View.readAt_eq_ld, harg9.read_unread, View.ld_unit_zero (S := S1x4x512x256) zero4]

/-- The first point then computes its block from the two tables it has just filled. -/
theorem first_block (hc0 : cond0_0 i) :
    out0_A_8 c i arg2 harg2 arg3 harg3 arg4 harg4 arg5 harg5 arg6 harg6 arg7 harg7 arg8 harg8 arg9 harg9 arg10 harg10 arg11 harg11 arg12 harg12
      hc0 x0 x1 x2 x3 x4 x5 x6 x7 = blockOf x0 x1 x2 x3 x4 x6 (k0_pay1 x5) (k0_pay2 x7) := by
  unfold out0_A_8
  rw [View.read_writes_junk_eq_canon]
  unfold kernelRun0_A
  dsimp only
  sl_unfold_words
  rw [View.canon_unit_zero zero2]
  simp only [readCov_whole (s := S4x2048x256) _ zero3, readCov_whole (s := S4x512x256) _ zero3, View.readAt_eq_ld, harg2.read_unread, harg3.read_unread, harg4.read_unread, harg5.read_unread, harg6.read_unread,
    harg7.read_unread, harg8.read_unread, harg9.read_unread, View.ld_unit_zero (S := S1024x2048) zero2, View.ld_unit_zero (S := S1024x512) zero2,
    View.ld_unit_zero (S := S1x4x2048x256) zero4, View.ld_unit_zero (S := S1x4x512x256) zero4]
  rfl

end Cert.MergeProof

end
-- ==== Proof.MergeSpec.lean ====
/- The merge call's result over the extended reals, as one sum per entry (`merged`), and the reference's run read as it. -/
module

public import proofs.«01_k».proof.Proof.Gen.MergeRefIdeal.Run
public import Idealize.ShloMosaic.Lib.ValueIdxCore
public import Idealize.ShloMosaic.Lib.StackMember
public import Idealize.ShloMosaic.Lib.IdealHost

@[expose] public section

noncomputable section

namespace Cert.MergeProof

open Idealize.ShloMosaic Idealize.ShloMosaic.TcCoe Idealize.SL.Sem Idealize.ShloMosaic.ValueIdx

section Spec

variable (h : FVec Ideal ⟨2, ![16384, 2048]⟩ .bf16) (xa xb xc xd : FVec Ideal ⟨2, ![16384, 512]⟩ .bf16)
  (wg : FVec Ideal ⟨4, ![4, 4, 2048, 2048]⟩ .f32) (bg : FVec Ideal ⟨3, ![4, 4, 2048]⟩ .f32)
  (wu : FVec Ideal ⟨4, ![4, 4, 512, 2048]⟩ .f32)

/-- Branch `b`'s gate at row `i`, column `j`: the logistic of the row's product with the column of the layer's gate weights,
    plus the bias. -/
def gateAt (b : Fin 4) (i : Fin 16384) (j : Fin 2048) : EReal :=
  Ideal.logistic ((∑ k : Fin 2048, h (ix2 i k) * wg (ix4 1 b k j)) + bg (ix3 1 b j))

/-- A branch's up-projection at row `i`, column `j`. -/
def upAt (x : FVec Ideal ⟨2, ![16384, 512]⟩ .bf16) (b : Fin 4) (i : Fin 16384) (j : Fin 2048) : EReal :=
  ∑ k : Fin 512, x (ix2 i k) * wu (ix4 1 b k j)

/-- The merged rows: each entry the sum over the four branches of gate times up-projection. -/
def merged : FVec Ideal ⟨2, ![16384, 2048]⟩ .bf16 := fun y =>
  ((gateAt h wg bg 0 (y 0) (y 1) * upAt wu xa 0 (y 0) (y 1) + gateAt h wg bg 1 (y 0) (y 1) * upAt wu xb 1 (y 0) (y 1))
    + gateAt h wg bg 2 (y 0) (y 1) * upAt wu xc 2 (y 0) (y 1)) + gateAt h wg bg 3 (y 0) (y 1) * upAt wu xd 3 (y 0) (y 1)

end Spec

open Cert.MergeRefIdeal Cert.MergeRefIdeal.Gen Idealize.ShloMosaic.StackMember

section Slices

variable {α : Type}

/-- The gate weights of branch `b` of the layer, as the reference slices them out. -/
theorem gate_slice_apply (w : S4x4x2048x2048.Idx → α) {b : ℕ} (hb : b < 4) (h : S4x2048x2048.Slices ![b, 0, 0] S1x2048x2048) (k j : Fin 2048) :
    shapeCast S2048x2048 (extractStridedSlice S1x2048x2048 ![b, 0, 0] (shapeCast S4x2048x2048
      (extractStridedSlice S1x4x2048x2048 ![1, 0, 0, 0] w slices_S4x4x2048x2048_S1x4x2048x2048_1_0_0_0) shapeCasts_S1x4x2048x2048_S4x2048x2048) h)
      shapeCasts_S1x2048x2048_S2048x2048 (ix2 k j) = w (ix4 1 ⟨b, hb⟩ k j) := by
  refine (shapeCast_apply _ _ _ (ix3 (0 : Fin 1) k j : S1x2048x2048.Idx) ?_).trans
    ((extractStridedSlice_apply _ _ _ _ (ix3 (⟨b, hb⟩ : Fin 4) k j : S4x2048x2048.Idx) ?_).trans
      ((shapeCast_apply _ _ _ (ix4 (0 : Fin 1) (⟨b, hb⟩ : Fin 4) k j : S1x4x2048x2048.Idx) ?_).trans
        (extractStridedSlice_apply _ _ _ _ (ix4 (1 : Fin 4) (⟨b, hb⟩ : Fin 4) k j : S4x4x2048x2048.Idx) ?_)))
  · refine (Shape.rowMajor_val_three (d := ![1, 2048, 2048]) _).trans ((?_ : _ = _).trans (Shape.rowMajor_val_two (d := ![2048, 2048]) _).symm)
    show (0 * 2048 + k.val) * 2048 + j.val = k.val * 2048 + j.val
    omega
  · intro a
    match a with
    | ⟨0, _⟩ => rfl
    | ⟨1, _⟩ => exact (Nat.zero_add _).symm
    | ⟨2, _⟩ => exact (Nat.zero_add _).symm
  · refine (Shape.rowMajor_val_four (d := ![1, 4, 2048, 2048]) _).trans ((?_ : _ = _).trans (Shape.rowMajor_val_three (d := ![4, 2048, 2048]) _).symm)
    show ((0 * 4 + b) * 2048 + k.val) * 2048 + j.val = (b * 2048 + k.val) * 2048 + j.val
    omega
  · intro a
    match a with
    | ⟨0, _⟩ => rfl
    | ⟨1, _⟩ => exact (Nat.zero_add _).symm
    | ⟨2, _⟩ => exact (Nat.zero_add _).symm
    | ⟨3, _⟩ => exact (Nat.zero_add _).symm

/-- The up-projection weights of branch `b` of the layer. -/
theorem up_slice_apply (w : S4x4x512x2048.Idx → α) {b : ℕ} (hb : b < 4) (h : S4x512x2048.Slices ![b, 0, 0] S1x512x2048) (k : Fin 512) (j : Fin 2048) :
    shapeCast S512x2048 (extractStridedSlice S1x512x2048 ![b, 0, 0] (shapeCast S4x512x2048
      (extractStridedSlice S1x4x512x2048 ![1, 0, 0, 0] w slices_S4x4x512x2048_S1x4x512x2048_1_0_0_0) shapeCasts_S1x4x512x2048_S4x512x2048) h)
      shapeCasts_S1x512x2048_S512x2048 (ix2 k j) = w (ix4 1 ⟨b, hb⟩ k j) := by
  refine (shapeCast_apply _ _ _ (ix3 (0 : Fin 1) k j : S1x512x2048.Idx) ?_).trans
    ((extractStridedSlice_apply _ _ _ _ (ix3 (⟨b, hb⟩ : Fin 4) k j : S4x512x2048.Idx) ?_).trans
      ((shapeCast_apply _ _ _ (ix4 (0 : Fin 1) (⟨b, hb⟩ : Fin 4) k j : S1x4x512x2048.Idx) ?_).trans
        (extractStridedSlice_apply _ _ _ _ (ix4 (1 : Fin 4) (⟨b, hb⟩ : Fin 4) k j : S4x4x512x2048.Idx) ?_)))
  · refine (Shape.rowMajor_val_three (d := ![1, 512, 2048]) _).trans ((?_ : _ = _).trans (Shape.rowMajor_val_two (d := ![512, 2048]) _).symm)
    show (0 * 512 + k.val) * 2048 + j.val = k.val * 2048 + j.val
    omega
  · intro a
    match a with
    | ⟨0, _⟩ => rfl
    | ⟨1, _⟩ => exact (Nat.zero_add _).symm
    | ⟨2, _⟩ => exact (Nat.zero_add _).symm
  · refine (Shape.rowMajor_val_four (d := ![1, 4, 512, 2048]) _).trans ((?_ : _ = _).trans (Shape.rowMajor_val_three (d := ![4, 512, 2048]) _).symm)
    show ((0 * 4 + b) * 512 + k.val) * 2048 + j.val = (b * 512 + k.val) * 2048 + j.val
    omega
  · intro a
    match a with
    | ⟨0, _⟩ => rfl
    | ⟨1, _⟩ => exact (Nat.zero_add _).symm
    | ⟨2, _⟩ => exact (Nat.zero_add _).symm
    | ⟨3, _⟩ => exact (Nat.zero_add _).symm

/-- The gate bias of branch `b` of the layer, spread over the rows. -/
theorem bias_slice_apply (w : S4x4x2048.Idx → α) {b : ℕ} (hb : b < 4) (h : S4x2048.Slices ![b, 0] S1x2048) (i : Fin 16384) (j : Fin 2048) :
    broadcastInDim S16384x2048 ![0, 1] bcast_S1x2048_S16384x2048_0_1 (broadcastInDim S1x2048 ![1] bcast_S2048_S1x2048_1
      (shapeCast S2048 (extractStridedSlice S1x2048 ![b, 0] (shapeCast S4x2048
        (extractStridedSlice S1x4x2048 ![1, 0, 0] w slices_S4x4x2048_S1x4x2048_1_0_0) shapeCasts_S1x4x2048_S4x2048) h)
        shapeCasts_S1x2048_S2048)) (ix2 i j) = w (ix3 1 ⟨b, hb⟩ j) := by
  refine (broadcastInDim_apply _ _ _ _ (ix2 (0 : Fin 1) j : S1x2048.Idx) ?_).trans
    ((broadcastInDim_apply _ _ _ _ (ix1 j : S2048.Idx) ?_).trans
    ((shapeCast_apply _ _ _ (ix2 (0 : Fin 1) j : S1x2048.Idx) ?_).trans
    ((extractStridedSlice_apply _ _ _ _ (ix2 (⟨b, hb⟩ : Fin 4) j : S4x2048.Idx) ?_).trans
      ((shapeCast_apply _ _ _ (ix3 (0 : Fin 1) (⟨b, hb⟩ : Fin 4) j : S1x4x2048.Idx) ?_).trans
        (extractStridedSlice_apply _ _ _ _ (ix3 (1 : Fin 4) (⟨b, hb⟩ : Fin 4) j : S4x4x2048.Idx) ?_)))))
  · intro a
    match a with
    | ⟨0, _⟩ => rfl
    | ⟨1, _⟩ => rfl
  · intro a
    match a with
    | ⟨0, _⟩ => rfl
  · refine (Shape.rowMajor_val_two (d := ![1, 2048]) _).trans ((?_ : _ = _).trans (Shape.rowMajor_val_one (d := ![2048]) _).symm)
    show 0 * 2048 + j.val = j.val
    omega
  · intro a
    match a with
    | ⟨0, _⟩ => rfl
    | ⟨1, _⟩ => exact (Nat.zero_add _).symm
  · refine (Shape.rowMajor_val_three (d := ![1, 4, 2048]) _).trans ((?_ : _ = _).trans (Shape.rowMajor_val_two (d := ![4, 2048]) _).symm)
    show (0 * 4 + b) * 2048 + j.val = b * 2048 + j.val
    omega
  · intro a
    match a with
    | ⟨0, _⟩ => rfl
    | ⟨1, _⟩ => exact (Nat.zero_add _).symm
    | ⟨2, _⟩ => exact (Nat.zero_add _).symm

end Slices

/-- The constant one the reference's logistic divides, spread over the result. -/
abbrev refOne : FVec Ideal S16384x2048 .f32 := broadcastInDim S16384x2048 ![] bcast_S_S16384x2048 (constant S_ .f32 0x3F800000#32)

/-- One branch's term of the reference: the logistic gate times the up-projection. -/
def refTerm (h : FVec Ideal S16384x2048 .bf16) (w : FVec Ideal S2048x2048 .f32) (bias : FVec Ideal S16384x2048 .f32)
    (x : FVec Ideal S16384x512 .bf16) (u : FVec Ideal S512x2048 .f32) : FVec Ideal S16384x2048 .f32 :=
  mulf (Host.divf refOne (addf refOne (Host.exp (Host.negf (addf
    (Host.dotGeneral dot_S16384x2048_S2048x2048_S16384x2048_1_0_0_1_n_n none (extf .f32 h bitsLt_bf16_f32) w) bias)))))
    (Host.dotGeneral dot_S16384x512_S512x2048_S16384x2048_1_0_0_1_n_n none (extf .f32 x bitsLt_bf16_f32) u)

theorem refOne_apply (y : S16384x2048.Idx) : refOne y = 1 :=
  (broadcastInDim_scalar_apply _ _ _).trans Ideal.ofBits_one_f32

theorem refTerm_apply (h : FVec Ideal S16384x2048 .bf16) (w : FVec Ideal S2048x2048 .f32) (bias : FVec Ideal S16384x2048 .f32)
    (x : FVec Ideal S16384x512 .bf16) (u : FVec Ideal S512x2048 .f32) (i : Fin 16384) (j : Fin 2048) :
    refTerm h w bias x u (ix2 i j)
      = Ideal.logistic ((∑ k : Fin 2048, h (ix2 i k) * w (ix2 k j)) + bias (ix2 i j)) * ∑ k : Fin 512, x (ix2 i k) * u (ix2 k j) := by
  have e1 := dotGeneral_plain_apply (m := 16384) (k := 2048) (n := 2048) none (extf .f32 h bitsLt_bf16_f32) w i j
  have e2 := dotGeneral_plain_apply (m := 16384) (k := 512) (n := 2048) none (extf .f32 x bitsLt_bf16_f32) u i j
  have e3 := refOne_apply (ix2 i j)
  show Ideal.div (refOne (ix2 i j)) (refOne (ix2 i j) + Ideal.exp (-(Host.dotGeneral (DotDims.plain 16384 2048 2048) none (extf .f32 h bitsLt_bf16_f32) w (ix2 i j) + bias (ix2 i j))))
    * Host.dotGeneral (DotDims.plain 16384 512 2048) none (extf .f32 x bitsLt_bf16_f32) u (ix2 i j) = _
  rw [e1, e2, e3]
  rfl

/-- A branch's term over the layer's slices of the weights is its gate times its up-projection. -/
theorem refTerm_slices (h : FVec Ideal S16384x2048 .bf16) (x : FVec Ideal S16384x512 .bf16) (wg : FVec Ideal S4x4x2048x2048 .f32)
    (bg : FVec Ideal S4x4x2048 .f32) (wu : FVec Ideal S4x4x512x2048 .f32) {b : ℕ} (hb : b < 4)
    (hg : S4x2048x2048.Slices ![b, 0, 0] S1x2048x2048) (hbias : S4x2048.Slices ![b, 0] S1x2048) (hu : S4x512x2048.Slices ![b, 0, 0] S1x512x2048)
    (i : Fin 16384) (j : Fin 2048) :
    refTerm h
      (shapeCast S2048x2048 (extractStridedSlice S1x2048x2048 ![b, 0, 0] (shapeCast S4x2048x2048
        (extractStridedSlice S1x4x2048x2048 ![1, 0, 0, 0] wg slices_S4x4x2048x2048_S1x4x2048x2048_1_0_0_0) shapeCasts_S1x4x2048x2048_S4x2048x2048) hg)
        shapeCasts_S1x2048x2048_S2048x2048)
      (broadcastInDim S16384x2048 ![0, 1] bcast_S1x2048_S16384x2048_0_1 (broadcastInDim S1x2048 ![1] bcast_S2048_S1x2048_1
        (shapeCast S2048 (extractStridedSlice S1x2048 ![b, 0] (shapeCast S4x2048
          (extractStridedSlice S1x4x2048 ![1, 0, 0] bg slices_S4x4x2048_S1x4x2048_1_0_0) shapeCasts_S1x4x2048_S4x2048) hbias)
          shapeCasts_S1x2048_S2048)))
      x
      (shapeCast S512x2048 (extractStridedSlice S1x512x2048 ![b, 0, 0] (shapeCast S4x512x2048
        (extractStridedSlice S1x4x512x2048 ![1, 0, 0, 0] wu slices_S4x4x512x2048_S1x4x512x2048_1_0_0_0) shapeCasts_S1x4x512x2048_S4x512x2048) hu)
        shapeCasts_S1x512x2048_S512x2048) (ix2 i j)
      = gateAt h wg bg ⟨b, hb⟩ i j * upAt wu x ⟨b, hb⟩ i j := by
  rw [refTerm_apply, bias_slice_apply bg hb]
  unfold gateAt upAt
  simp only [gate_slice_apply wg hb, up_slice_apply wu hb]

variable (m : (ℓ : Loc nD τ sig) → Buf (Elt Ideal) ℓ)

/-- The reference's result is the merged rows of its arguments. -/
theorem ref_merged (c : Dev nD) :
    Value.res_main_v106 m c = merged (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  have hz : ∀ y : S16384x2048.Idx, broadcastInDim S16384x2048 ![] bcast_S_S16384x2048 (constant (F := Ideal) S_ .f32 0x00000000#32) y = (0 : EReal) :=
    fun y => (broadcastInDim_scalar_apply _ _ _).trans Ideal.ofBits_zero_f32
  funext y
  obtain ⟨i, j, rfl⟩ : ∃ i j, y = ix2 i j := ⟨_, _, eq_ix2 y⟩
  unfold Value.res_main_v106
  refine congrArg₂ (fun p q : EReal => p + q) (congrArg₂ (fun p q : EReal => p + q) (congrArg₂ (fun p q : EReal => p + q)
    (Eq.trans (congrArg₂ (fun p q : EReal => p + q) (hz (ix2 i j)) ?_) (zero_add _)) ?_) ?_) ?_
  · exact refTerm_slices (m ((c.tc : Thread nD τ).loc main_arg0)) (m ((c.tc : Thread nD τ).loc main_arg1)) _ _ _ (by omega : 0 < 4) _ _ _ i j
  · exact refTerm_slices (m ((c.tc : Thread nD τ).loc main_arg0)) (m ((c.tc : Thread nD τ).loc main_arg2)) _ _ _ (by omega : 1 < 4) _ _ _ i j
  · exact refTerm_slices (m ((c.tc : Thread nD τ).loc main_arg0)) (m ((c.tc : Thread nD τ).loc main_arg3)) _ _ _ (by omega : 2 < 4) _ _ _ i j
  · exact refTerm_slices (m ((c.tc : Thread nD τ).loc main_arg0)) (m ((c.tc : Thread nD τ).loc main_arg4)) _ _ _ (by omega : 3 < 4) _ _ _ i j

end Cert.MergeProof
-- ==== Proof.MergeValue.lean ====
/- The merge call's value: every block the kernel writes back is that block of the merged rows (`merged`), so its result
   array is the merged rows. -/
module

public import proofs.«01_k».proof.Proof.MergePoint
public import proofs.«01_k».proof.Proof.MergeSpec
public import Idealize.ShloMosaic.Lib.MatmulPlain
public import Idealize.ShloMosaic.Lib.ValueLayout
public import Idealize.ShloMosaic.Lib.Pipeline.ValueKit.Tiles

@[expose] public section

noncomputable section

namespace Cert.MergeProof

open Cert.MergeIdeal Cert.MergeIdeal.Gen Cert.MergeIdeal.Value Idealize.ShloMosaic Idealize.ShloMosaic.TcCoe Idealize.SL.Sem Idealize.ShloMosaic.ValueIdx

/-! ## The block computed at a point, entry by entry -/

/-- A branch's gate as the kernel computes it. -/
def gateVec (x : FVec Ideal S1024x2048 .bf16) (g : FVec Ideal S1x2048x256 .bf16) (b : FVec Ideal S1x1x256 .f32) : FVec Ideal S1024x256 .f32 :=
  logistic (addf (matmul dot_S1024x2048_S2048x256_S1024x256_1_0_0_1_n_n none x (shapeCast S2048x256 g shapeCasts_S1x2048x256_S2048x256)
    (constant S1024x256 .f32 0x00000000#32)) (broadcastTo S1024x256 (shapeCast S1x256 b shapeCasts_S1x1x256_S1x256) broadcasts_S1x256_S1024x256))

/-- A branch's up-projection as the kernel computes it. -/
def upVec (x : FVec Ideal S1024x512 .bf16) (u : FVec Ideal S1x512x256 .bf16) : FVec Ideal S1024x256 .f32 :=
  matmul dot_S1024x512_S512x256_S1024x256_1_0_0_1_n_n none x (shapeCast S512x256 u shapeCasts_S1x512x256_S512x256) (constant S1024x256 .f32 0x00000000#32)

theorem gateVec_apply (x : FVec Ideal S1024x2048 .bf16) (g : FVec Ideal S1x2048x256 .bf16) (b : FVec Ideal S1x1x256 .f32) (p : Fin 1024) (q : Fin 256) :
    gateVec x g b (ix2 p q) = Ideal.logistic ((∑ k : Fin 2048, x (ix2 p k) * g (ix3 0 k q)) + b (ix3 0 0 q)) := by
  have e := Ideal.matmul_plain_apply (M := 1024) (K := 2048) (N := 256) none x (shapeCast S2048x256 g shapeCasts_S1x2048x256_S2048x256)
    (constant S1024x256 .f32 0x00000000#32) p q
  have eg : ∀ k : Fin 2048, shapeCast S2048x256 g shapeCasts_S1x2048x256_S2048x256 (ix2 k q) = g (ix3 0 k q) := fun k => by
    refine shapeCast_apply _ _ _ (ix3 (0 : Fin 1) k q : S1x2048x256.Idx) ?_
    refine (Shape.rowMajor_val_three (d := ![1, 2048, 256]) _).trans ((?_ : _ = _).trans (Shape.rowMajor_val_two (d := ![2048, 256]) _).symm)
    show (0 * 2048 + k.val) * 256 + q.val = k.val * 256 + q.val
    omega
  have eb : broadcastTo S1024x256 (shapeCast S1x256 b shapeCasts_S1x1x256_S1x256) broadcasts_S1x256_S1024x256 (ix2 p q) = b (ix3 0 0 q) := by
    refine (broadcastTo_1b_ab_apply (a := 1024) (b := 256) (shapeCast S1x256 b shapeCasts_S1x1x256_S1x256) broadcasts_S1x256_S1024x256 p q).trans
      (shapeCast_apply _ _ _ (ix3 (0 : Fin 1) (0 : Fin 1) q : S1x1x256.Idx) ?_)
    refine (Shape.rowMajor_val_three (d := ![1, 1, 256]) _).trans ((?_ : _ = _).trans (Shape.rowMajor_val_two (d := ![1, 256]) _).symm)
    show (0 * 1 + 0) * 256 + q.val = 0 * 256 + q.val
    omega
  have ez : (constant (F := Ideal) S1024x256 .f32 0x00000000#32) (ix2 p q) = (0 : EReal) := Ideal.ofBits_zero_f32
  refine congrArg Ideal.logistic (congrArg₂ (fun a b : EReal => a + b) (e.trans ?_) eb)
  rw [ez, zero_add]
  exact Finset.sum_congr rfl fun k _ => congrArg (fun z : EReal => x (ix2 p k) * z) (eg k)

theorem upVec_apply (x : FVec Ideal S1024x512 .bf16) (u : FVec Ideal S1x512x256 .bf16) (p : Fin 1024) (q : Fin 256) :
    upVec x u (ix2 p q) = ∑ k : Fin 512, x (ix2 p k) * u (ix3 0 k q) := by
  have e := Ideal.matmul_plain_apply (M := 1024) (K := 512) (N := 256) none x (shapeCast S512x256 u shapeCasts_S1x512x256_S512x256)
    (constant S1024x256 .f32 0x00000000#32) p q
  have eu : ∀ k : Fin 512, shapeCast S512x256 u shapeCasts_S1x512x256_S512x256 (ix2 k q) = u (ix3 0 k q) := fun k => by
    refine shapeCast_apply _ _ _ (ix3 (0 : Fin 1) k q : S1x512x256.Idx) ?_
    refine (Shape.rowMajor_val_three (d := ![1, 512, 256]) _).trans ((?_ : _ = _).trans (Shape.rowMajor_val_two (d := ![512, 256]) _).symm)
    show (0 * 512 + k.val) * 256 + q.val = k.val * 256 + q.val
    omega
  have ez : (constant (F := Ideal) S1024x256 .f32 0x00000000#32) (ix2 p q) = (0 : EReal) := Ideal.ofBits_zero_f32
  refine e.trans ?_
  rw [ez, zero_add]
  exact Finset.sum_congr rfl fun k _ => congrArg (fun z : EReal => x (ix2 p k) * z) (eu k)

/-- Branch `b`'s term of a point's block, over the weight tables and the biases. -/
def termAt (x0 : FVec Ideal S1024x2048 .bf16) (x : FVec Ideal S1024x512 .bf16) (b6 : FVec Ideal S4x1x256 .f32) (g : FVec Ideal S4x2048x256 .bf16)
    (u : FVec Ideal S4x512x256 .bf16) (b : Fin 4) (p : Fin 1024) (q : Fin 256) : EReal :=
  Ideal.logistic ((∑ k : Fin 2048, x0 (ix2 p k) * g (ix3 b k q)) + b6 (ix3 b 0 q)) * ∑ k : Fin 512, x (ix2 p k) * u (ix3 b k q)

theorem term_eq (x0 : FVec Ideal S1024x2048 .bf16) (x : FVec Ideal S1024x512 .bf16) (b6 : FVec Ideal S4x1x256 .f32) (g : FVec Ideal S4x2048x256 .bf16)
    (u : FVec Ideal S4x512x256 .bf16) {b : ℕ} (hb : b < 4) (hg : ∀ a, (![b, 0, 0] : Fin 3 → ℕ) a + S1x2048x256.size a ≤ S4x2048x256.size a)
    (h6 : ∀ a, (![b, 0, 0] : Fin 3 → ℕ) a + S1x1x256.size a ≤ S4x1x256.size a) (hu : ∀ a, (![b, 0, 0] : Fin 3 → ℕ) a + S1x512x256.size a ≤ S4x512x256.size a)
    (p : Fin 1024) (q : Fin 256) :
    gateVec x0 (View.ld (Val := Elt Ideal) (e' := .bf16) g (Rect.unit (s := S4x2048x256) ![b, 0, 0] S1x2048x256.size hg))
        (View.ld (Val := Elt Ideal) (e' := .f32) b6 (Rect.unit (s := S4x1x256) ![b, 0, 0] S1x1x256.size h6)) (ix2 p q)
      * upVec x (View.ld (Val := Elt Ideal) (e' := .bf16) u (Rect.unit (s := S4x512x256) ![b, 0, 0] S1x512x256.size hu)) (ix2 p q)
      = termAt x0 x b6 g u ⟨b, hb⟩ p q := by
  have eg : ∀ k : Fin 2048, View.ld (Val := Elt Ideal) (e' := .bf16) g (Rect.unit (s := S4x2048x256) ![b, 0, 0] S1x2048x256.size hg) (ix3 0 k q)
      = g (ix3 ⟨b, hb⟩ k q) := fun k => View.ld_unit_apply_of (Val := Elt Ideal) (e := .bf16) (S := S4x2048x256) g ![b, 0, 0] S1x2048x256.size hg (ix3 0 k q) (ix3 ⟨b, hb⟩ k q) fun a => by
    match a with
    | ⟨0, _⟩ => rfl
    | ⟨1, _⟩ => exact (Nat.zero_add _).symm
    | ⟨2, _⟩ => exact (Nat.zero_add _).symm
  have e6 : View.ld (Val := Elt Ideal) (e' := .f32) b6 (Rect.unit (s := S4x1x256) ![b, 0, 0] S1x1x256.size h6) (ix3 0 0 q)
      = b6 (ix3 ⟨b, hb⟩ 0 q) := View.ld_unit_apply_of (Val := Elt Ideal) (e := .f32) (S := S4x1x256) b6 ![b, 0, 0] S1x1x256.size h6 (ix3 0 0 q) (ix3 ⟨b, hb⟩ 0 q) fun a => by
    match a with
    | ⟨0, _⟩ => rfl
    | ⟨1, _⟩ => exact (Nat.zero_add _).symm
    | ⟨2, _⟩ => exact (Nat.zero_add _).symm
  have eu : ∀ k : Fin 512, View.ld (Val := Elt Ideal) (e' := .bf16) u (Rect.unit (s := S4x512x256) ![b, 0, 0] S1x512x256.size hu) (ix3 0 k q)
      = u (ix3 ⟨b, hb⟩ k q) := fun k => View.ld_unit_apply_of (Val := Elt Ideal) (e := .bf16) (S := S4x512x256) u ![b, 0, 0] S1x512x256.size hu (ix3 0 k q) (ix3 ⟨b, hb⟩ k q) fun a => by
    match a with
    | ⟨0, _⟩ => rfl
    | ⟨1, _⟩ => exact (Nat.zero_add _).symm
    | ⟨2, _⟩ => exact (Nat.zero_add _).symm
  rw [gateVec_apply, upVec_apply]
  unfold termAt
  simp only [eg, e6, eu]

/-- A point's block is the sum of the four branches' terms. -/
theorem blockOf_apply (x0 : FVec Ideal S1024x2048 .bf16) (x1 x2 x3 x4 : FVec Ideal S1024x512 .bf16) (b6 : FVec Ideal S4x1x256 .f32)
    (g : FVec Ideal S4x2048x256 .bf16) (u : FVec Ideal S4x512x256 .bf16) (p : Fin 1024) (q : Fin 256) :
    blockOf (F := Ideal) x0 x1 x2 x3 x4 b6 g u (ix2 p q)
      = ((termAt x0 x1 b6 g u 0 p q + termAt x0 x2 b6 g u 1 p q) + termAt x0 x3 b6 g u 2 p q) + termAt x0 x4 b6 g u 3 p q := by
  refine congrArg₂ (fun a b : EReal => a + b) (congrArg₂ (fun a b : EReal => a + b) (congrArg₂ (fun a b : EReal => a + b) ?_ ?_) ?_) ?_
  · exact term_eq x0 x1 b6 g u (by omega : 0 < 4) _ _ _ p q
  · exact term_eq x0 x2 b6 g u (by omega : 1 < 4) _ _ _ p q
  · exact term_eq x0 x3 b6 g u (by omega : 2 < 4) _ _ _ p q
  · exact term_eq x0 x4 b6 g u (by omega : 3 < 4) _ _ _ p q

/-! ## The blocks a point reads -/

variable (m : (ℓ : Loc nD τ sig) → Buf (Elt Ideal) ℓ)

/-- Point `t` takes row tile `t % 16` and column tile `t / 16`. -/
theorem index_rows : ∀ t : Fin grid0.N, win0_0.index t (0 : Fin 2) = t.val % 16 ∧ win0_0.index t (1 : Fin 2) = 0
    ∧ win0_1.index t (0 : Fin 2) = t.val % 16 ∧ win0_1.index t (1 : Fin 2) = 0 ∧ win0_2.index t (0 : Fin 2) = t.val % 16 ∧ win0_2.index t (1 : Fin 2) = 0
    ∧ win0_3.index t (0 : Fin 2) = t.val % 16 ∧ win0_3.index t (1 : Fin 2) = 0 ∧ win0_4.index t (0 : Fin 2) = t.val % 16 ∧ win0_4.index t (1 : Fin 2) = 0
    ∧ win0_8.index t (0 : Fin 2) = t.val % 16 ∧ win0_8.index t (1 : Fin 2) = t.val / 16 := by
  decide +kernel

theorem index_weights : ∀ t : Fin grid0.N, win0_5.index t (0 : Fin 4) = 1 ∧ win0_5.index t (1 : Fin 4) = 0 ∧ win0_5.index t (2 : Fin 4) = 0
    ∧ win0_5.index t (3 : Fin 4) = t.val / 16 ∧ win0_7.index t (0 : Fin 4) = 1 ∧ win0_7.index t (1 : Fin 4) = 0 ∧ win0_7.index t (2 : Fin 4) = 0
    ∧ win0_7.index t (3 : Fin 4) = t.val / 16 ∧ win0_6.index t (0 : Fin 3) = 0 ∧ win0_6.index t (1 : Fin 3) = 0 ∧ win0_6.index t (2 : Fin 3) = t.val / 16 := by
  decide +kernel

/-- The row of the arguments that row `p` of point `t`'s blocks is. -/
def rowOf (t : Fin cfg0.N) (p : Fin 1024) : Fin 16384 := ⟨1024 * (t.val % 16) + p.val, by omega⟩
/-- The column that column `q` of point `t`'s blocks is. -/
def colOf (t : Fin cfg0.N) (q : Fin 256) : Fin 2048 := ⟨256 * (t.val / 16) + q.val, by have : t.val < 128 := lt_of_lt_of_eq t.isLt N_0; omega⟩

theorem iblk_0 (c : Dev nD) (t : Fin cfg0.N) (p : Fin 1024) (k : Fin 2048) :
    iblk m c 0 t (ix2 p k) = m ((c : Thread nD τ).loc main_arg0) (ix2 (rowOf t p) k) := by
  have e : ((cfg0.win 0).blk t).view.emb (ix2 p k) = (ix2 (rowOf t p) k : S16384x2048.Idx) := by
    funext a
    refine Fin.ext ?_
    match a with
    | ⟨0, _⟩ => show win0_0.index t (0 : Fin 2) * 1024 + 1 * p.val = 1024 * (t.val % 16) + p.val; have := index_rows t; omega
    | ⟨1, _⟩ => show win0_0.index t (1 : Fin 2) * 2048 + 1 * k.val = k.val; have := index_rows t; omega
  exact (congrArg (V m c main_arg0) e).trans (congrFun (V_main_arg0 m c) _)

/-- An index of a branch's rows in the block of row tile `t % 16`, by its coordinates. -/
theorem branch_index (t : Fin cfg0.N) (p : Fin 1024) (k : Fin 512) {r s : ℕ} (hr : r = t.val % 16) (hs : s = 0) (y : S16384x512.Idx)
    (h0 : (y 0).val = r * 1024 + 1 * p.val) (h1 : (y 1).val = s * 512 + 1 * k.val) : y = ix2 (rowOf t p) k := by
  funext a
  refine Fin.ext ?_
  match a with
  | ⟨0, _⟩ => exact h0.trans (by show r * 1024 + 1 * p.val = 1024 * (t.val % 16) + p.val; omega)
  | ⟨1, _⟩ => exact h1.trans (by show s * 512 + 1 * k.val = k.val; omega)

theorem iblk_1 (c : Dev nD) (t : Fin cfg0.N) (p : Fin 1024) (k : Fin 512) :
    iblk m c 1 t (ix2 p k) = m ((c : Thread nD τ).loc main_arg1) (ix2 (rowOf t p) k) :=
  (congrArg (V m c main_arg1) (branch_index t p k (index_rows t).2.2.1 (index_rows t).2.2.2.1 _ rfl rfl)).trans (congrFun (V_main_arg1 m c) _)

theorem iblk_2 (c : Dev nD) (t : Fin cfg0.N) (p : Fin 1024) (k : Fin 512) :
    iblk m c 2 t (ix2 p k) = m ((c : Thread nD τ).loc main_arg2) (ix2 (rowOf t p) k) :=
  (congrArg (V m c main_arg2) (branch_index t p k (index_rows t).2.2.2.2.1 (index_rows t).2.2.2.2.2.1 _ rfl rfl)).trans (congrFun (V_main_arg2 m c) _)

theorem iblk_3 (c : Dev nD) (t : Fin cfg0.N) (p : Fin 1024) (k : Fin 512) :
    iblk m c 3 t (ix2 p k) = m ((c : Thread nD τ).loc main_arg3) (ix2 (rowOf t p) k) :=
  (congrArg (V m c main_arg3) (branch_index t p k (index_rows t).2.2.2.2.2.2.1 (index_rows t).2.2.2.2.2.2.2.1 _ rfl rfl)).trans (congrFun (V_main_arg3 m c) _)

theorem iblk_4 (c : Dev nD) (t : Fin cfg0.N) (p : Fin 1024) (k : Fin 512) :
    iblk m c 4 t (ix2 p k) = m ((c : Thread nD τ).loc main_arg4) (ix2 (rowOf t p) k) :=
  (congrArg (V m c main_arg4) (branch_index t p k (index_rows t).2.2.2.2.2.2.2.2.1 (index_rows t).2.2.2.2.2.2.2.2.2.1 _ rfl rfl)).trans (congrFun (V_main_arg4 m c) _)

/-- Point `t`'s block of the layer's gate weights. -/
theorem iblk_5 (c : Dev nD) (t : Fin cfg0.N) (b : Fin 4) (k : Fin 2048) (q : Fin 256) :
    iblk m c 5 t (ix4 0 b k q) = m ((c : Thread nD τ).loc main_arg5) (ix4 1 b k (colOf t q)) := by
  have e : ((cfg0.win 5).blk t).view.emb (ix4 (0 : Fin 1) b k q) = (ix4 1 b k (colOf t q) : S4x4x2048x2048.Idx) := by
    funext a
    refine Fin.ext ?_
    match a with
    | ⟨0, _⟩ => show win0_5.index t (0 : Fin 4) * 1 + 1 * 0 = 1; have := index_weights t; omega
    | ⟨1, _⟩ => show win0_5.index t (1 : Fin 4) * 4 + 1 * b.val = b.val; have := index_weights t; omega
    | ⟨2, _⟩ => show win0_5.index t (2 : Fin 4) * 2048 + 1 * k.val = k.val; have := index_weights t; omega
    | ⟨3, _⟩ => show win0_5.index t (3 : Fin 4) * 256 + 1 * q.val = 256 * (t.val / 16) + q.val; have := index_weights t; omega
  exact (congrArg (V m c main_arg5) e).trans (congrFun (V_main_arg5 m c) _)

/-- Point `t`'s block of the layer's up-projection weights. -/
theorem iblk_7 (c : Dev nD) (t : Fin cfg0.N) (b : Fin 4) (k : Fin 512) (q : Fin 256) :
    iblk m c 7 t (ix4 0 b k q) = m ((c : Thread nD τ).loc main_arg7) (ix4 1 b k (colOf t q)) := by
  have e : ((cfg0.win 7).blk t).view.emb (ix4 (0 : Fin 1) b k q) = (ix4 1 b k (colOf t q) : S4x4x512x2048.Idx) := by
    funext a
    refine Fin.ext ?_
    match a with
    | ⟨0, _⟩ => show win0_7.index t (0 : Fin 4) * 1 + 1 * 0 = 1; have := index_weights t; omega
    | ⟨1, _⟩ => show win0_7.index t (1 : Fin 4) * 4 + 1 * b.val = b.val; have := index_weights t; omega
    | ⟨2, _⟩ => show win0_7.index t (2 : Fin 4) * 512 + 1 * k.val = k.val; have := index_weights t; omega
    | ⟨3, _⟩ => show win0_7.index t (3 : Fin 4) * 256 + 1 * q.val = 256 * (t.val / 16) + q.val; have := index_weights t; omega
  exact (congrArg (V m c main_arg7) e).trans (congrFun (V_main_arg7 m c) _)

/-- The biases as the host prepares them: the layer's, one row to a branch. -/
theorem V_main_v2 (c : Dev nD) (b : Fin 4) (j : Fin 2048) :
    V m c main_v2 (ix3 b 0 j) = m ((c : Thread nD τ).loc main_arg6) (ix3 1 b j) := by
  unfold V; after_results
  refine (shapeCast_apply (t := S4x1x2048) _ shapeCasts_S4x2048_S4x1x2048 _ (ix2 b j : S4x2048.Idx) ?_).trans
    ((shapeCast_apply _ shapeCasts_S1x4x2048_S4x2048 _ (ix3 (0 : Fin 1) b j : S1x4x2048.Idx) ?_).trans
      (extractStridedSlice_apply _ _ _ _ (ix3 (1 : Fin 4) b j : S4x4x2048.Idx) ?_))
  · refine (Shape.rowMajor_val_two (d := ![4, 2048]) _).trans ((?_ : _ = _).trans (Shape.rowMajor_val_three (d := ![4, 1, 2048]) _).symm)
    show b.val * 2048 + j.val = (b.val * 1 + 0) * 2048 + j.val
    omega
  · refine (Shape.rowMajor_val_three (d := ![1, 4, 2048]) _).trans ((?_ : _ = _).trans (Shape.rowMajor_val_two (d := ![4, 2048]) _).symm)
    show (0 * 4 + b.val) * 2048 + j.val = b.val * 2048 + j.val
    omega
  · intro a
    match a with
    | ⟨0, _⟩ => rfl
    | ⟨1, _⟩ => exact (Nat.zero_add _).symm
    | ⟨2, _⟩ => exact (Nat.zero_add _).symm

/-- Point `t`'s block of the biases. -/
theorem iblk_6 (c : Dev nD) (t : Fin cfg0.N) (b : Fin 4) (q : Fin 256) :
    iblk m c 6 t (ix3 b 0 q) = m ((c : Thread nD τ).loc main_arg6) (ix3 1 b (colOf t q)) := by
  have e : ((cfg0.win 6).blk t).view.emb (ix3 b (0 : Fin 1) q) = (ix3 b 0 (colOf t q) : S4x1x2048.Idx) := by
    funext a
    refine Fin.ext ?_
    match a with
    | ⟨0, _⟩ => show win0_6.index t (0 : Fin 3) * 4 + 1 * b.val = b.val; have := index_weights t; omega
    | ⟨1, _⟩ => show win0_6.index t (1 : Fin 3) * 1 + 1 * 0 = 0; have := index_weights t; omega
    | ⟨2, _⟩ => show win0_6.index t (2 : Fin 3) * 256 + 1 * q.val = 256 * (t.val / 16) + q.val; have := index_weights t; omega
  exact (congrArg (V m c main_v2) e).trans (V_main_v2 m c b _)

/-! ## The tables the scratch holds -/

/-- A gate table filled from a block of the gate weights holds that block. -/
theorem gates_apply (x : FVec Ideal S1x4x2048x256 .f32) (b : Fin 4) (k : Fin 2048) (q : Fin 256) :
    k0_pay1 (F := Ideal) x (ix3 b k q) = x (ix4 0 b k q) := by
  refine (shapeCast_apply (truncf .bf16 (shapeCast S4x2048x256 x shapeCasts_S1x4x2048x256_S4x2048x256) bitsLt_bf16_f32)
    shapeCasts_S4x2048x256_S4x2048x256 _ (ix3 b k q : S4x2048x256.Idx) rfl).trans
    (shapeCast_apply x shapeCasts_S1x4x2048x256_S4x2048x256 _ (ix4 (0 : Fin 1) b k q : S1x4x2048x256.Idx) ?_)
  refine (Shape.rowMajor_val_four (d := ![1, 4, 2048, 256]) _).trans ((?_ : _ = _).trans (Shape.rowMajor_val_three (d := ![4, 2048, 256]) _).symm)
  show ((0 * 4 + b.val) * 2048 + k.val) * 256 + q.val = (b.val * 2048 + k.val) * 256 + q.val
  omega

/-- The other table likewise. -/
theorem ups_apply (x : FVec Ideal S1x4x512x256 .f32) (b : Fin 4) (k : Fin 512) (q : Fin 256) :
    k0_pay2 (F := Ideal) x (ix3 b k q) = x (ix4 0 b k q) := by
  refine (shapeCast_apply (truncf .bf16 (shapeCast S4x512x256 x shapeCasts_S1x4x512x256_S4x512x256) bitsLt_bf16_f32)
    shapeCasts_S4x512x256_S4x512x256 _ (ix3 b k q : S4x512x256.Idx) rfl).trans
    (shapeCast_apply x shapeCasts_S1x4x512x256_S4x512x256 _ (ix4 (0 : Fin 1) b k q : S1x4x512x256.Idx) ?_)
  refine (Shape.rowMajor_val_four (d := ![1, 4, 512, 256]) _).trans ((?_ : _ = _).trans (Shape.rowMajor_val_three (d := ![4, 512, 256]) _).symm)
  show ((0 * 4 + b.val) * 512 + k.val) * 256 + q.val = (b.val * 512 + k.val) * 256 + q.val
  omega

/-- What the scratch tables hold after point `n`: the layer's weights, at the column tile of the point. -/
def Tables (c : Dev nD) (t : Fin cfg0.N) (g : FVec Ideal S4x2048x256 .bf16) (u : FVec Ideal S4x512x256 .bf16) : Prop :=
  (∀ b k q, g (ix3 b k q) = m ((c : Thread nD τ).loc main_arg5) (ix4 1 b k (colOf t q)))
    ∧ ∀ b k q, u (ix3 b k q) = m ((c : Thread nD τ).loc main_arg7) (ix4 1 b k (colOf t q))

theorem tables_first (c : Dev nD) (t : Fin cfg0.N) : Tables m c t (k0_pay1 (iblk m c 5 t)) (k0_pay2 (iblk m c 7 t)) :=
  ⟨fun b k q => (gates_apply _ b k q).trans (iblk_5 m c t b k q), fun b k q => (ups_apply _ b k q).trans (iblk_7 m c t b k q)⟩

/-- Every point leaves the tables at its column tile's weights, and its block computed from them. -/
theorem outs_tables (c : Dev nD) (n : ℕ) : ∀ hn : n < cfg0.N,
    Tables m c ⟨n, hn⟩ (outsAt0 m c n hn).2.1 (outsAt0 m c n hn).2.2
    ∧ (outsAt0 m c n hn).1 = blockOf (iblk m c 0 ⟨n, hn⟩) (iblk m c 1 ⟨n, hn⟩) (iblk m c 2 ⟨n, hn⟩) (iblk m c 3 ⟨n, hn⟩) (iblk m c 4 ⟨n, hn⟩)
        (iblk m c 6 ⟨n, hn⟩) (outsAt0 m c n hn).2.1 (outsAt0 m c n hn).2.2 := by
  induction n with
  | zero =>
    intro hn
    have e := outsAt0_A m c ⟨0, hn⟩ (Nat.zero_mod _)
    rw [first_gates, first_ups, first_block] at e
    rw [e]
    exact ⟨tables_first m c ⟨0, hn⟩, rfl⟩
  | succ n ih =>
    intro hn
    by_cases h0 : (n + 1) % 16 = 0
    · have e := outsAt0_A m c ⟨n + 1, hn⟩ h0
      rw [first_gates, first_ups, first_block] at e
      rw [e]
      exact ⟨tables_first m c ⟨n + 1, hn⟩, rfl⟩
    · have hp : n < cfg0.N := by omega
      have e := outsAt0_B m c ⟨n + 1, hn⟩ h0
      rw [later_block] at e
      have eg : (outsAt0 m c (n + 1) hn).2.1 = (outsAt0 m c n hp).2.1 := congrArg (fun z => z.2.1) e
      have eu : (outsAt0 m c (n + 1) hn).2.2 = (outsAt0 m c n hp).2.2 := congrArg (fun z => z.2.2) e
      have eo := congrArg (fun z => z.1) e
      have ec : ∀ q, colOf ⟨n + 1, hn⟩ q = colOf ⟨n, hp⟩ q := fun q => Fin.ext (by
        show 256 * ((n + 1) / 16) + q.val = 256 * (n / 16) + q.val
        have : (n + 1) / 16 = n / 16 := by omega
        rw [this])
      rw [eg, eu]
      refine ⟨⟨fun b k q => ?_, fun b k q => ?_⟩, eo⟩
      · rw [ec]; exact (ih hp).1.1 b k q
      · rw [ec]; exact (ih hp).1.2 b k q

/-! ## The result array -/

/-- The merged rows of the call's arguments. -/
abbrev mergedOf (c : Dev nD) : S16384x2048.Idx → Elt Ideal .bf16 :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A branch's term of point `t`'s block is that branch's term of the merged rows. -/
theorem term_merged (c : Dev nD) (t : Fin cfg0.N) (g : FVec Ideal S4x2048x256 .bf16) (u : FVec Ideal S4x512x256 .bf16) (h : Tables m c t g u)
    (x : FVec Ideal S1024x512 .bf16) (X : FVec Ideal ⟨2, ![16384, 512]⟩ .bf16) (hx : ∀ p k, x (ix2 p k) = X (ix2 (rowOf t p) k))
    (b : Fin 4) (p : Fin 1024) (q : Fin 256) :
    termAt (iblk m c 0 t) x (iblk m c 6 t) g u b p q
      = gateAt (m ((c : Thread nD τ).loc main_arg0)) (m ((c : Thread nD τ).loc main_arg5)) (m ((c : Thread nD τ).loc main_arg6)) b (rowOf t p) (colOf t q)
        * upAt (m ((c : Thread nD τ).loc main_arg7)) X b (rowOf t p) (colOf t q) := by
  refine congrArg₂ (fun a b : EReal => a * b) (congrArg Ideal.logistic (congrArg₂ (fun a b : EReal => a + b) ?_ (iblk_6 m c t b q))) ?_
  · exact Finset.sum_congr rfl fun k _ => congrArg₂ (fun a b : EReal => a * b) (iblk_0 m c t p k) (h.1 b k q)
  · exact Finset.sum_congr rfl fun k _ => congrArg₂ (fun a b : EReal => a * b) (hx p k) (h.2 b k q)

/-- What a point would write back is its block of the merged rows. -/
theorem flushed_merged (c : Dev nD) (t : Fin cfg0.N) :
    (dats m 0 c).flushed 8 t = ((cfg0.win 8).blk t).view.read (Elt Ideal) (mergedOf m c) := by
  rw [flushed8]
  obtain ⟨hT, hB⟩ := outs_tables m c t.val t.isLt
  rw [hB]
  funext y
  obtain ⟨p, q, rfl⟩ : ∃ (p : Fin 1024) (q : Fin 256), y = ix2 p q := ⟨_, _, eq_ix2 y⟩
  have e : ((cfg0.win 8).blk t).view.emb (ix2 p q) = (ix2 (rowOf t p) (colOf t q) : S16384x2048.Idx) := by
    funext a
    refine Fin.ext ?_
    match a with
    | ⟨0, _⟩ => show win0_8.index t (0 : Fin 2) * 1024 + 1 * p.val = 1024 * (t.val % 16) + p.val; have := index_rows t; omega
    | ⟨1, _⟩ => show win0_8.index t (1 : Fin 2) * 256 + 1 * q.val = 256 * (t.val / 16) + q.val; have := index_rows t; omega
  refine Eq.trans ?_ (congrArg (mergedOf m c) e).symm
  refine (blockOf_apply _ _ _ _ _ _ _ _ p q).trans ?_
  refine congrArg₂ (fun a b : EReal => a + b) (congrArg₂ (fun a b : EReal => a + b) (congrArg₂ (fun a b : EReal => a + b) ?_ ?_) ?_) ?_
  · exact term_merged m c t _ _ hT _ _ (iblk_1 m c t) 0 p q
  · exact term_merged m c t _ _ hT _ _ (iblk_2 m c t) 1 p q
  · exact term_merged m c t _ _ hT _ _ (iblk_3 m c t) 2 p q
  · exact term_merged m c t _ _ hT _ _ (iblk_4 m c t) 3 p q

/-- The result array after the run is the merged rows. -/
theorem final_merged (c : Dev nD) : (dats m 0 c).arrAt 8 cfg0.N = mergedOf m c :=
  (dats m 0 c).arrAt_eq_of_cover 8 _ (fun t _ => flushed_merged m c t) (fun i => (covered_iff8 i).2 (by
    have h0 : (i 0).val < 16384 := (i 0).isLt; have h1 : (i 1).val < 2048 := (i 1).isLt; omega))

end Cert.MergeProof
-- ==== Proof.ProjectSpec.lean ====
/- The input projections over the extended reals: every column of a projection's result is either the rows' product with one
   column of the layer's input weights or zero (a padding column), and the operations that lay those columns out, read entry by entry. -/
module

public import Idealize.ShloMosaic.Lib.ValueIdxCore
public import Idealize.ShloMosaic.Lib.StackMember
public import Idealize.ShloMosaic.Lib.IdealHost
public import Idealize.ShloMosaic.Lib.MatmulPlain
public import Idealize.ShloMosaic.Lib.ValueLayout
public import Idealize.ShloMosaic.Lib.KernelVsHost
public import Idealize.ShloMosaic.Lib.Pipeline.Value
public import Idealize.ShloMosaic.Lib.Pipeline.ValueKit.Tiles

@[expose] public section

noncomputable section

namespace Cert.ProjectProof

open Idealize.ShloMosaic Idealize.ShloMosaic.ValueIdx Idealize.ShloMosaic.StackMember

/-! ## The results -/

/-- Entry `k` of a column a projection multiplies with: of column `o` of layer 1's input weights, or zero for a padding column. -/
def pick (w : FVec Ideal ⟨3, ![4, 2048, 6672]⟩ .f32) (k : Fin 2048) (o : Option (Fin 6672)) : EReal :=
  o.elim 0 fun c => w (ix3 1 k c)

/-- Row `i`'s product with a column of the layer's input weights. -/
def along (h : FVec Ideal ⟨2, ![16384, 2048]⟩ .bf16) (w : FVec Ideal ⟨3, ![4, 2048, 6672]⟩ .f32) (i : Fin 16384) (o : Option (Fin 6672)) : EReal :=
  ∑ k : Fin 2048, h (ix2 i k) * pick w k o

/-- The projection whose column `j` is taken along the input weights' column `col j`. -/
def projected {n : ℕ} (h : FVec Ideal ⟨2, ![16384, 2048]⟩ .bf16) (w : FVec Ideal ⟨3, ![4, 2048, 6672]⟩ .f32)
    (col : Fin n → Option (Fin 6672)) : FVec Ideal ⟨2, ![16384, n]⟩ .f32 := fun y => along h w (y 0) (col (y 1))

/-- A padding column's product is zero. -/
theorem along_none (h : FVec Ideal ⟨2, ![16384, 2048]⟩ .bf16) (w : FVec Ideal ⟨3, ![4, 2048, 6672]⟩ .f32) (i : Fin 16384) : along h w i none = 0 :=
  Finset.sum_eq_zero fun k _ => mul_zero (h (ix2 i k))

/-- The first branch's projection takes columns 0 … 1023. -/
def colA (j : Fin 1024) : Option (Fin 6672) := some ⟨j.val, by omega⟩
/-- The second branch's: columns 1024 … 2567, padding to a whole number of lanes, then each of the eight columns from 2560 on 64 times. -/
def colB (j : Fin 2176) : Option (Fin 6672) :=
  if j.val < 1544 then some ⟨1024 + j.val % 1544, by omega⟩ else if j.val < 1664 then none else some ⟨2560 + (j.val - 1664) / 64, by omega⟩
/-- The third branch's: columns 2568 … 4111, padding to a whole number of lanes, then columns 4112 … 4623. -/
def colC (j : Fin 2176) : Option (Fin 6672) :=
  if j.val < 1544 then some ⟨2568 + j.val % 1544, by omega⟩ else if j.val < 1664 then none else some ⟨2448 + j.val, by omega⟩
/-- The fourth branch's: columns 4624 … 6671. -/
def colD (j : Fin 2048) : Option (Fin 6672) := some ⟨4624 + j.val, by omega⟩

theorem colB_low (j : Fin 2176) (h : j.val < 1544) (c : Fin 6672) (hc : c.val = 1024 + j.val) : colB j = some c := by
  unfold colB; rw [if_pos h]; exact congrArg some (Fin.ext (by show 1024 + j.val % 1544 = c.val; omega))
theorem colB_pad (j : Fin 2176) (h : ¬j.val < 1544) (h' : j.val < 1664) : colB j = none := by
  unfold colB; rw [if_neg h, if_pos h']
theorem colB_high (j : Fin 2176) (h : ¬j.val < 1664) (c : Fin 6672) (hc : c.val = 2560 + (j.val - 1664) / 64) : colB j = some c := by
  unfold colB; rw [if_neg (by omega), if_neg h]; exact congrArg some (Fin.ext hc.symm)
theorem colC_low (j : Fin 2176) (h : j.val < 1544) (c : Fin 6672) (hc : c.val = 2568 + j.val) : colC j = some c := by
  unfold colC; rw [if_pos h]; exact congrArg some (Fin.ext (by show 2568 + j.val % 1544 = c.val; omega))
theorem colC_pad (j : Fin 2176) (h : ¬j.val < 1544) (h' : j.val < 1664) : colC j = none := by
  unfold colC; rw [if_neg h, if_pos h']
theorem colC_high (j : Fin 2176) (h : ¬j.val < 1664) (c : Fin 6672) (hc : c.val = 2448 + j.val) : colC j = some c := by
  unfold colC; rw [if_neg (by omega), if_neg h]; exact congrArg some (Fin.ext hc.symm)

/-! ## Laying columns out -/

section Layout

variable {α : Type} {R : ℕ}

/-- A slice of columns from `off` on. -/
theorem cols_apply {n N off : ℕ} (x : (⟨2, ![R, N]⟩ : Shape).Idx → α) (h : (⟨2, ![R, N]⟩ : Shape).Slices ![0, off] ⟨2, ![R, n]⟩)
    (r : Fin R) (j : Fin n) (c : Fin N) (hc : c.val = off + j.val) :
    extractStridedSlice ⟨2, ![R, n]⟩ ![0, off] x h (ix2 r j) = x (ix2 r c) := by
  refine extractStridedSlice_apply _ _ _ _ (ix2 r c) ?_
  intro a
  match a with
  | ⟨0, _⟩ => exact (Nat.zero_add _).symm
  | ⟨1, _⟩ => exact hc

/-- Arrays set side by side, read in the columns of the `k`-th, which start at `pre`. -/
theorem side_apply {n N : ℕ} (xs : List ((s : Shape) × (s.Idx → α))) (h : Shape.Concatenates (xs.map (·.1)) ⟨2, ![R, N]⟩ 1)
    (r : Fin R) (j : Fin N) (k : ℕ) (hk : k < xs.length) (x : (⟨2, ![R, n]⟩ : Shape).Idx → α) (hx : xs[k] = ⟨⟨2, ![R, n]⟩, x⟩) (pre : ℕ)
    (hpre : (((xs.take k).map (·.1)).map fun s => if h : s.rank = (⟨2, ![R, N]⟩ : Shape).rank then s.size ((1 : Fin 2).cast h.symm) else 0).sum = pre)
    (c : Fin n) (hc : pre + c.val = j.val) :
    concatenate ⟨2, ![R, N]⟩ 1 xs h (ix2 r j) = x (ix2 r c) := by
  refine concatenate_apply_piece (t := ⟨2, ![R, N]⟩) 1 xs h (ix2 r j) k hk ⟨2, ![R, n]⟩ x hx rfl pre hpre (ix2 r c) ?_ hc
  intro b hb
  match b with
  | ⟨0, _⟩ => rfl
  | ⟨1, _⟩ => exact absurd rfl hb

/-- Eight columns padded to 128: in the eight. -/
theorem pad_cols_inside (x : (⟨2, ![R, 8]⟩ : Shape).Idx → α) {u : Shape} (v : u.Idx → α) (h : (⟨2, ![R, 8]⟩ : Shape).Pads ![0, 0] ![0, 120] ![0, 0] ⟨2, ![R, 128]⟩)
    (hu : 0 < u.numel) (r : Fin R) (j : Fin 128) (c : Fin 8) (hc : j.val = c.val) :
    pad ⟨2, ![R, 128]⟩ ![0, 0] ![0, 120] ![0, 0] x v h hu (ix2 r j) = x (ix2 r c) := by
  refine pad_apply_of_inside _ _ _ x v h hu _ (ix2 r c) ?_
  intro a
  match a with
  | ⟨0, _⟩ => show r.val = 0 + r.val * (0 + 1); omega
  | ⟨1, _⟩ => show j.val = 0 + c.val * (0 + 1); omega

/-- Past the eight, the padding value. -/
theorem pad_cols_outside (x : (⟨2, ![R, 8]⟩ : Shape).Idx → α) {u : Shape} (v : u.Idx → α) (h : (⟨2, ![R, 8]⟩ : Shape).Pads ![0, 0] ![0, 120] ![0, 0] ⟨2, ![R, 128]⟩)
    (hu : 0 < u.numel) (r : Fin R) (j : Fin 128) (hj : ¬j.val < 8) :
    pad ⟨2, ![R, 128]⟩ ![0, 0] ![0, 120] ![0, 0] x v h hu (ix2 r j) = v (Shape.Idx.first hu) := by
  refine pad_apply_of_not_inside _ _ _ x v h hu _ (1 : Fin 2) ?_
  rintro ⟨-, -, h3⟩
  have h4 : (j.val - 0) / (0 + 1) < 8 := h3
  omega

/-- Each of eight columns 64 times. -/
theorem repeat_cols (hR : R ≠ 1) (x : (⟨2, ![R, 8]⟩ : Shape).Idx → α) (hb : Shape.BroadcastsInDim ⟨2, ![R, 8]⟩ ⟨3, ![R, 8, 64]⟩ ![0, 1])
    (hs : (⟨3, ![R, 8, 64]⟩ : Shape).ShapeCasts ⟨2, ![R, 512]⟩) (r : Fin R) (j : Fin 512) :
    shapeCast ⟨2, ![R, 512]⟩ (broadcastInDim ⟨3, ![R, 8, 64]⟩ ![0, 1] hb x) hs (ix2 r j) = x (ix2 r ⟨j.val / 64, by omega⟩) := by
  refine (shapeCast_apply _ _ _ (ix3 r (⟨j.val / 64, by omega⟩ : Fin 8) (⟨j.val % 64, by omega⟩ : Fin 64) : (⟨3, ![R, 8, 64]⟩ : Shape).Idx) ?_).trans
    (broadcastInDim_apply _ _ _ _ (ix2 r (⟨j.val / 64, by omega⟩ : Fin 8)) ?_)
  · refine (Shape.rowMajor_val_three (d := ![R, 8, 64]) _).trans ((?_ : _ = _).trans (Shape.rowMajor_val_two (d := ![R, 512]) _).symm)
    show (r.val * 8 + j.val / 64) * 64 + j.val % 64 = r.val * 512 + j.val
    omega
  · intro a
    match a with
    | ⟨0, _⟩ => exact (if_neg hR).symm
    | ⟨1, _⟩ => rfl

end Layout

/-- Over the extended reals a narrowing cast changes nothing. -/
theorem truncf_ideal {s : Shape} {φ : FTy} (φ' : FTy) (x : FVec Ideal s φ) (h : φ'.bits < φ.bits) (y : s.Idx) : truncf φ' x h y = x y := rfl

/-- The padding value: an integer zero made a float. -/
theorem pad_zero (y : (⟨0, ![]⟩ : Shape).Idx) : sitofp (F := Ideal) .f32 (constantI ⟨0, ![]⟩ 32 0#32) y = (0 : EReal) := by
  show (((0#32 : BitVec 32).toInt : ℝ) : EReal) = 0
  simp

/-! ## The weights and the products -/

/-- The layer's input weights, as both sides take them out of the layers' stack. -/
def layerOf (w : FVec Ideal ⟨3, ![4, 2048, 6672]⟩ .f32) : FVec Ideal ⟨2, ![2048, 6672]⟩ .f32 := fun y => w (ix3 1 (y 0) (y 1))

theorem layer_eq (w : FVec Ideal ⟨3, ![4, 2048, 6672]⟩ .f32) (h : (⟨3, ![4, 2048, 6672]⟩ : Shape).Slices ![1, 0, 0] ⟨3, ![1, 2048, 6672]⟩)
    (hs : (⟨3, ![1, 2048, 6672]⟩ : Shape).ShapeCasts ⟨2, ![2048, 6672]⟩) :
    shapeCast ⟨2, ![2048, 6672]⟩ (extractStridedSlice ⟨3, ![1, 2048, 6672]⟩ ![1, 0, 0] w h) hs = layerOf w := by
  funext y
  obtain ⟨k, j, rfl⟩ : ∃ k j, y = ix2 k j := ⟨_, _, eq_ix2 y⟩
  refine (shapeCast_apply _ _ _ (ix3 (0 : Fin 1) k j : (⟨3, ![1, 2048, 6672]⟩ : Shape).Idx) ?_).trans
    (extractStridedSlice_apply _ _ _ _ (ix3 (1 : Fin 4) k j : (⟨3, ![4, 2048, 6672]⟩ : Shape).Idx) ?_)
  · refine (Shape.rowMajor_val_three (d := ![1, 2048, 6672]) _).trans ((?_ : _ = _).trans (Shape.rowMajor_val_two (d := ![2048, 6672]) _).symm)
    show (0 * 2048 + k.val) * 6672 + j.val = k.val * 6672 + j.val
    omega
  · intro a
    match a with
    | ⟨0, _⟩ => rfl
    | ⟨1, _⟩ => exact (Nat.zero_add _).symm
    | ⟨2, _⟩ => exact (Nat.zero_add _).symm

/-- The same, read at an entry of a column. -/
theorem layer_apply (w : FVec Ideal ⟨3, ![4, 2048, 6672]⟩ .f32) (h : (⟨3, ![4, 2048, 6672]⟩ : Shape).Slices ![1, 0, 0] ⟨3, ![1, 2048, 6672]⟩)
    (hs : (⟨3, ![1, 2048, 6672]⟩ : Shape).ShapeCasts ⟨2, ![2048, 6672]⟩) (k : Fin 2048) (c : Fin 6672) :
    shapeCast ⟨2, ![2048, 6672]⟩ (extractStridedSlice ⟨3, ![1, 2048, 6672]⟩ ![1, 0, 0] w h) hs (ix2 k c) = pick w k (some c) :=
  congrFun (layer_eq w h hs) (ix2 k c)

/-- A run of the layer's columns at an index: the entry of the weights that the branch takes there. -/
theorem piece_apply {n off : ℕ} (w : FVec Ideal ⟨3, ![4, 2048, 6672]⟩ .f32) (h : (⟨3, ![4, 2048, 6672]⟩ : Shape).Slices ![1, 0, 0] ⟨3, ![1, 2048, 6672]⟩)
    (hs : (⟨3, ![1, 2048, 6672]⟩ : Shape).ShapeCasts ⟨2, ![2048, 6672]⟩) (hsl : (⟨2, ![2048, 6672]⟩ : Shape).Slices ![0, off] ⟨2, ![2048, n]⟩)
    (k : Fin 2048) (j : Fin n) (c : Fin 6672) (hc : c.val = off + j.val) {o : Option (Fin 6672)} (ho : o = some c) :
    extractStridedSlice ⟨2, ![2048, n]⟩ ![0, off] (shapeCast ⟨2, ![2048, 6672]⟩ (extractStridedSlice ⟨3, ![1, 2048, 6672]⟩ ![1, 0, 0] w h) hs) hsl (ix2 k j)
      = pick w k o :=
  (cols_apply _ _ k j c hc).trans ((layer_apply w h hs k c).trans (congrArg (pick w k) ho.symm))

/-- The reference's product of all rows with all columns. -/
def productOf (h : FVec Ideal ⟨2, ![16384, 2048]⟩ .bf16) (w : FVec Ideal ⟨3, ![4, 2048, 6672]⟩ .f32) : FVec Ideal ⟨2, ![16384, 6672]⟩ .f32 :=
  fun y => along h w (y 0) (some (y 1))

theorem product_eq (h : FVec Ideal ⟨2, ![16384, 2048]⟩ .bf16) (w : FVec Ideal ⟨3, ![4, 2048, 6672]⟩ .f32) (hb : FTy.bf16.bits < FTy.f32.bits) :
    Host.dotGeneral (DotDims.plain 16384 2048 6672) none (extf .f32 h hb) (layerOf w) = productOf h w := by
  funext y
  obtain ⟨i, j, rfl⟩ : ∃ i j, y = ix2 i j := ⟨_, _, eq_ix2 y⟩
  exact dotGeneral_plain_apply (m := 16384) (k := 2048) (n := 6672) none (extf .f32 h hb) (layerOf w) i j

theorem ref_product_eq (h : FVec Ideal ⟨2, ![16384, 2048]⟩ .bf16) (w : FVec Ideal ⟨3, ![4, 2048, 6672]⟩ .f32) (hb : FTy.bf16.bits < FTy.f32.bits)
    (hl : (⟨3, ![4, 2048, 6672]⟩ : Shape).Slices ![1, 0, 0] ⟨3, ![1, 2048, 6672]⟩) (hs : (⟨3, ![1, 2048, 6672]⟩ : Shape).ShapeCasts ⟨2, ![2048, 6672]⟩) :
    Host.dotGeneral (DotDims.plain 16384 2048 6672) none (extf .f32 h hb)
      (shapeCast ⟨2, ![2048, 6672]⟩ (extractStridedSlice ⟨3, ![1, 2048, 6672]⟩ ![1, 0, 0] w hl) hs) = productOf h w := by
  rw [layer_eq]; exact product_eq h w hb

/-! ## Row tiles -/

/-- Row `p` of the `t`-th tile of 512 rows. -/
def tileRow {t : ℕ} (ht : t < 32) (p : Fin 512) : Fin 16384 := ⟨512 * t + p.val, by omega⟩

/-- An index in the block of row tile `t`, by its coordinates. -/
theorem tile_index {n t : ℕ} (ht : t < 32) (p : Fin 512) (q : Fin n) {r s : ℕ} (hr : r = t) (hs : s = 0) (y : (⟨2, ![16384, n]⟩ : Shape).Idx)
    (h0 : (y 0).val = r * 512 + 1 * p.val) (h1 : (y 1).val = s * n + 1 * q.val) : y = ix2 (tileRow ht p) q := by
  subst hr hs
  funext a
  refine Fin.ext ?_
  match a with
  | ⟨0, _⟩ => exact h0.trans (by show r * 512 + 1 * p.val = 512 * r + p.val; omega)
  | ⟨1, _⟩ => exact h1.trans (by show 0 * n + 1 * q.val = q.val; omega)

/-- An index in a block that is the whole array. -/
theorem whole_index {k n : ℕ} (p : Fin k) (q : Fin n) {r s : ℕ} (hr : r = 0) (hs : s = 0) (y : (⟨2, ![k, n]⟩ : Shape).Idx)
    (h0 : (y 0).val = r * k + 1 * p.val) (h1 : (y 1).val = s * n + 1 * q.val) : y = ix2 p q := by
  subst hr hs
  funext a
  refine Fin.ext ?_
  match a with
  | ⟨0, _⟩ => exact h0.trans (by show 0 * k + 1 * p.val = p.val; omega)
  | ⟨1, _⟩ => exact h1.trans (by show 0 * n + 1 * q.val = q.val; omega)

/-- An array entry lies in the block of the row tile that holds its row. -/
theorem in_tile {n : ℕ} (i : (⟨2, ![16384, n]⟩ : Shape).Idx) (idx : Fin 2 → ℕ) (h0 : idx 0 = (i 0).val / 512) (h1 : idx 1 = 0) (a : Fin 2) :
    idx a * (⟨2, ![512, n]⟩ : Shape).size a ≤ (i a).val ∧ (i a).val < idx a * (⟨2, ![512, n]⟩ : Shape).size a + (⟨2, ![512, n]⟩ : Shape).size a := by
  match a with
  | ⟨0, _⟩ => show idx 0 * 512 ≤ (i 0).val ∧ (i 0).val < idx 0 * 512 + 512; rw [h0]; omega
  | ⟨1, _⟩ =>
    have hn : (i 1).val < n := (i 1).isLt
    show idx 1 * n ≤ (i 1).val ∧ (i 1).val < idx 1 * n + n
    rw [h1]; omega

/-- A tile of rows times a projection's weights, from a zero accumulator, is that tile of the projection. -/
theorem tile_apply {n t : ℕ} (ht : t < 32) (h : FVec Ideal ⟨2, ![16384, 2048]⟩ .bf16) (w : FVec Ideal ⟨3, ![4, 2048, 6672]⟩ .f32)
    (col : Fin n → Option (Fin 6672)) (x : FVec Ideal ⟨2, ![512, 2048]⟩ .bf16) (v : FVec Ideal ⟨2, ![2048, n]⟩ .bf16)
    (hs : (⟨2, ![2048, n]⟩ : Shape).ShapeCasts ⟨2, ![2048, n]⟩) (hx : ∀ p k, x (ix2 p k) = h (ix2 (tileRow ht p) k))
    (hv : ∀ k q, v (ix2 k q) = pick w k (col q)) (p : Fin 512) (q : Fin n) :
    matmul (DotDims.plain 512 2048 n) none x (shapeCast ⟨2, ![2048, n]⟩ v hs) (constant ⟨2, ![512, n]⟩ .f32 0x00000000#32) (ix2 p q)
      = projected h w col (ix2 (tileRow ht p) q) := by
  refine (Ideal.matmul_plain_apply (M := 512) (K := 2048) (N := n) none x (shapeCast ⟨2, ![2048, n]⟩ v hs) (constant ⟨2, ![512, n]⟩ .f32 0x00000000#32) p q).trans ?_
  have ez : (constant (F := Ideal) ⟨2, ![512, n]⟩ .f32 0x00000000#32) (ix2 p q) = (0 : EReal) := Ideal.ofBits_zero_f32
  rw [ez, zero_add]
  exact Finset.sum_congr rfl fun k _ => congrArg₂ (fun a b : EReal => a * b) (hx p k) ((shapeCast_apply v hs _ (ix2 k q) rfl).trans (hv k q))

/-- Offsets zero on both axes. -/
theorem zero2 : (![0, 0] : Fin 2 → ℕ) = fun _ => 0 := by funext a; fin_cases a <;> rfl

end Cert.ProjectProof
-- ==== Proof.ProjectAValue.lean ====
/- The first branch's input projection: the kernel's result array and the reference's are the same projection (`projected`). -/
module

public import proofs.«01_k».proof.Proof.Gen.ProjectAIdeal.Value
public import proofs.«01_k».proof.Proof.Gen.ProjectARefIdeal.Run
public import proofs.«01_k».proof.Proof.ProjectSpec

@[expose] public section

noncomputable section

namespace Cert.ProjectProof.A

open Idealize.ShloMosaic Idealize.ShloMosaic.TcCoe Idealize.SL.Sem Idealize.ShloMosaic.ValueIdx

section Reference

open Cert.ProjectARefIdeal Cert.ProjectARefIdeal.Gen

/-- The reference's result is the projection of its arguments. -/
theorem ref_projected (h : FVec Ideal S16384x2048 .bf16) (w : FVec Ideal S4x2048x6672 .f32) :
    extractStridedSlice S16384x1024 ![0, 0] (Host.dotGeneral dot_S16384x2048_S2048x6672_S16384x6672_1_0_0_1_n_n none (extf .f32 h bitsLt_bf16_f32)
      (shapeCast S2048x6672 (extractStridedSlice S1x2048x6672 ![1, 0, 0] w slices_S4x2048x6672_S1x2048x6672_1_0_0) shapeCasts_S1x2048x6672_S2048x6672))
      slices_S16384x6672_S16384x1024_0_0 = projected h w colA := by
  rw [show Host.dotGeneral dot_S16384x2048_S2048x6672_S16384x6672_1_0_0_1_n_n none (extf .f32 h bitsLt_bf16_f32) _ = _ from ref_product_eq h w _ _ _]
  funext y
  obtain ⟨i, j, rfl⟩ : ∃ i j, y = ix2 i j := ⟨_, _, eq_ix2 y⟩
  exact cols_apply _ _ i j (⟨j.val, by omega⟩ : Fin 6672) (Nat.zero_add _).symm

end Reference

open Cert.ProjectAIdeal Cert.ProjectAIdeal.Gen Cert.ProjectAIdeal.Value

variable (m : (ℓ : Loc nD τ sig) → Buf (Elt Ideal) ℓ)

/-- The weights the call is given are the layer's columns that the branch takes. -/
theorem weights_apply (c : Dev nD) (k : Fin 2048) (j : Fin 1024) :
    V m c main_v28 (ix2 k j) = pick (m ((c : Thread nD τ).loc main_arg1)) k (colA j) := by
  unfold V
  simp only [hostOps0, hostOps0_1, hostOps0_2, hostOps0_3, hostOps0_4, List.flatten_cons, List.flatten_nil, List.append_nil, List.cons_append, List.nil_append]
  after_results
  refine (truncf_ideal (φ := .f32) .bf16 _ bitsLt_bf16_f32 _).trans ?_
  by_cases h : j.val < 512
  · refine (side_apply _ _ k j 0 (by exact (by decide : 0 < 2)) _ (by rfl) 0 (by rfl) (⟨j.val, h⟩ : Fin 512) (Nat.zero_add _)).trans ?_
    refine (cols_apply (n := 512) _ _ k _ (⟨j.val, by omega⟩ : Fin 6672) (Nat.zero_add _).symm).trans ?_
    exact layer_apply (m ((c : Thread nD τ).loc main_arg1)) slices_S4x2048x6672_S1x2048x6672_1_0_0 shapeCasts_S1x2048x6672_S2048x6672 k _
  · refine (side_apply _ _ k j 1 (by exact (by decide : 1 < 2)) _ (by rfl) 512 (by rfl) (⟨j.val - 512, by omega⟩ : Fin 512) (by show 512 + (j.val - 512) = j.val; omega)).trans ?_
    refine (cols_apply (n := 512) _ _ k _ (⟨j.val, by omega⟩ : Fin 6672) (by show j.val = 512 + (j.val - 512); omega)).trans ?_
    exact layer_apply (m ((c : Thread nD τ).loc main_arg1)) slices_S4x2048x6672_S1x2048x6672_1_0_0 shapeCasts_S1x2048x6672_S2048x6672 k _

/-- Point `t` takes row tile `t`, and all the weights. -/
theorem index_facts : ∀ t : Fin grid0.N, t.val < 32 ∧ win0_0.index t (0 : Fin 2) = t.val ∧ win0_0.index t (1 : Fin 2) = 0
    ∧ win0_1.index t (0 : Fin 2) = 0 ∧ win0_1.index t (1 : Fin 2) = 0 ∧ win0_2.index t (0 : Fin 2) = t.val ∧ win0_2.index t (1 : Fin 2) = 0 := by
  decide +kernel

theorem rows_apply (c : Dev nD) (t : Fin cfg0.N) (p : Fin 512) (k : Fin 2048) :
    iblk m c 0 t (ix2 p k) = m ((c : Thread nD τ).loc main_arg0) (ix2 (tileRow (index_facts t).1 p) k) :=
  (congrArg (V m c main_arg0) (tile_index (index_facts t).1 p k (index_facts t).2.1 (index_facts t).2.2.1 _ rfl rfl)).trans (congrFun (V_main_arg0 m c) _)

theorem columns_apply (c : Dev nD) (t : Fin cfg0.N) (k : Fin 2048) (q : Fin 1024) :
    iblk m c 1 t (ix2 k q) = pick (m ((c : Thread nD τ).loc main_arg1)) k (colA q) :=
  (congrArg (V m c main_v28) (whole_index k q (index_facts t).2.2.2.1 (index_facts t).2.2.2.2.1 _ rfl rfl)).trans (weights_apply m c k q)

/-- The projection of the call's arguments. -/
abbrev projectedOf (c : Dev nD) : S16384x1024.Idx → Elt Ideal .f32 :=
  projected (m ((c : Thread nD τ).loc main_arg0)) (m ((c : Thread nD τ).loc main_arg1)) colA

/-- What a point writes back is its block of the projection. -/
theorem flushed_projected (c : Dev nD) (t : Fin cfg0.N) :
    (dats m 0 c).flushed 2 t = ((cfg0.win 2).blk t).view.read (Elt Ideal) (projectedOf m c) := by
  rw [flushed2]
  unfold out0_2
  rw [View.canon_unit_zero zero2, View.ld_unit_zero (S := S512x2048) zero2, View.ld_unit_zero (S := S2048x1024) zero2]
  funext y
  obtain ⟨p, q, rfl⟩ : ∃ (p : Fin 512) (q : Fin 1024), y = ix2 p q := ⟨_, _, eq_ix2 y⟩
  exact (tile_apply (index_facts t).1 _ _ colA (iblk m c 0 t) (iblk m c 1 t) _ (rows_apply m c t) (columns_apply m c t) p q).trans
    (congrArg (projectedOf m c) (tile_index (index_facts t).1 p q (index_facts t).2.2.2.2.2.1 (index_facts t).2.2.2.2.2.2 _ rfl rfl)).symm

/-- Every entry of the array is in some point's block. -/
theorem covered (i : S16384x1024.Idx) : ∃ t : Fin cfg0.N, (cfg0.win 2).flush t = true ∧ i ∈ ((cfg0.win 2).blk t).view.set := by
  have h0 : (i 0).val < 16384 := (i 0).isLt
  let t : Fin cfg0.N := ⟨(i 0).val / 512, by rw [show cfg0.N = 32 from N_0]; omega⟩
  refine ⟨t, flush0_2 t, ?_⟩
  show i ∈ ((View.whole main_v32).slice (win0_2.rect t)).set
  rw [View.set_slice_whole, Rect.mem_set_unit]
  exact in_tile i (win0_2.index t) (index_facts t).2.2.2.2.2.1 (index_facts t).2.2.2.2.2.2

/-- The result array after the run is the projection. -/
theorem final_projected (c : Dev nD) : (dats m 0 c).arrAt 2 cfg0.N = projectedOf m c :=
  (dats m 0 c).arrAt_eq_of_cover 2 _ (fun t _ => flushed_projected m c t) covered

end Cert.ProjectProof.A
-- ==== Proof.ProjectBValue.lean ====
/- The second branch's input projection: the kernel's result array and the reference's are the same projection (`projected`). -/
module

public import proofs.«01_k».proof.Proof.Gen.ProjectBIdeal.Value
public import proofs.«01_k».proof.Proof.Gen.ProjectBRefIdeal.Run
public import proofs.«01_k».proof.Proof.ProjectSpec

@[expose] public section

noncomputable section

namespace Cert.ProjectProof.B

open Idealize.ShloMosaic Idealize.ShloMosaic.TcCoe Idealize.SL.Sem Idealize.ShloMosaic.ValueIdx

section Reference

open Cert.ProjectBRefIdeal Cert.ProjectBRefIdeal.Gen

/-- The reference's result, from its product of the rows and the layer's weights. -/
theorem ref_projected (h : FVec Ideal S16384x2048 .bf16) (w : FVec Ideal S4x2048x6672 .f32) (r : FVec Ideal S16384x6672 .f32)
    (hr : r = productOf h w) :
    concatenate S16384x2176 1
      [⟨S16384x1536, extractStridedSlice S16384x1536 ![0, 1024] r slices_S16384x6672_S16384x1536_0_1024⟩,
        ⟨S16384x128, pad S16384x128 ![0, 0] ![0, 120] ![0, 0] (extractStridedSlice S16384x8 ![0, 2560] r slices_S16384x6672_S16384x8_0_2560)
          (sitofp (F := Ideal) .f32 (constantI S_ 32 0#32)) pads_S16384x8_S16384x128_000_01200 h_S_⟩,
        ⟨S16384x512, shapeCast S16384x512 (broadcastInDim S16384x8x64 ![0, 1] bcast_S16384x8_S16384x8x64_0_1
          (extractStridedSlice S16384x8 ![0, 2560] r slices_S16384x6672_S16384x8_0_2560)) shapeCasts_S16384x8x64_S16384x512⟩]
      concatenates_S16384x1536_S16384x128_S16384x512_S16384x2176_d1 = projected h w colB := by
  subst hr
  funext y
  obtain ⟨i, j, rfl⟩ : ∃ i j, y = ix2 i j := ⟨_, _, eq_ix2 y⟩
  show _ = along h w i (colB j)
  by_cases h1 : j.val < 1536
  · refine (side_apply _ _ i j 0 (by exact (by decide : 0 < 3)) _ (by rfl) 0 (by rfl) (⟨j.val, h1⟩ : Fin 1536) (Nat.zero_add _)).trans ?_
    refine (cols_apply (n := 1536) _ _ i _ (⟨1024 + j.val, by omega⟩ : Fin 6672) rfl).trans ?_
    exact congrArg (along h w i) (colB_low j (by omega) _ rfl).symm
  by_cases h2 : j.val < 1664
  · refine (side_apply _ _ i j 1 (by exact (by decide : 1 < 3)) _ (by rfl) 1536 (by rfl) (⟨j.val - 1536, by omega⟩ : Fin 128) (by show 1536 + (j.val - 1536) = j.val; omega)).trans ?_
    by_cases h3 : j.val < 1544
    · refine (pad_cols_inside _ _ _ _ i (⟨j.val - 1536, by omega⟩ : Fin 128) (⟨j.val - 1536, by omega⟩ : Fin 8) rfl).trans ?_
      refine (cols_apply (n := 8) (off := 2560) _ _ i (⟨j.val - 1536, by omega⟩ : Fin 8) (⟨1024 + j.val, by omega⟩ : Fin 6672) (by show 1024 + j.val = 2560 + (j.val - 1536); omega)).trans ?_
      exact congrArg (along h w i) (colB_low j h3 _ rfl).symm
    · refine (pad_cols_outside _ _ _ _ i (⟨j.val - 1536, by omega⟩ : Fin 128) (by show ¬j.val - 1536 < 8; omega)).trans ((pad_zero _).trans ?_)
      rw [colB_pad j h3 h2]; exact (along_none h w i).symm
  · refine (side_apply _ _ i j 2 (by exact (by decide : 2 < 3)) _ (by rfl) 1664 (by rfl) (⟨j.val - 1664, by omega⟩ : Fin 512) (by show 1664 + (j.val - 1664) = j.val; omega)).trans ?_
    refine (repeat_cols (by decide) _ _ _ i (⟨j.val - 1664, by omega⟩ : Fin 512)).trans ?_
    refine (cols_apply (n := 8) _ _ i _ (⟨2560 + (j.val - 1664) / 64, by omega⟩ : Fin 6672) rfl).trans ?_
    exact congrArg (along h w i) (colB_high j h2 _ rfl).symm

end Reference

open Cert.ProjectBIdeal Cert.ProjectBIdeal.Gen Cert.ProjectBIdeal.Value

variable (m : (ℓ : Loc nD τ sig) → Buf (Elt Ideal) ℓ)

/-- The weights the call is given are the layer's columns that the branch takes. -/
theorem weights_apply (c : Dev nD) (k : Fin 2048) (j : Fin 2176) :
    V m c main_v29 (ix2 k j) = pick (m ((c : Thread nD τ).loc main_arg1)) k (colB j) := by
  unfold V
  simp only [hostOps0, hostOps0_1, hostOps0_2, hostOps0_3, hostOps0_4, List.flatten_cons, List.flatten_nil, List.append_nil, List.cons_append, List.nil_append]
  after_results
  refine (truncf_ideal (φ := .f32) .bf16 _ bitsLt_bf16_f32 _).trans ?_
  by_cases h0 : j.val < 512
  · refine (side_apply _ _ k j 0 (by exact (by decide : 0 < 6)) _ (by rfl) 0 (by rfl) (⟨j.val, by omega⟩ : Fin 512) (Nat.zero_add _)).trans ?_
    dsimp only [Matrix.cons_val]
    after_results_simp
    exact piece_apply (n := 512) (off := 1024) (m ((c : Thread nD τ).loc main_arg1)) _ shapeCasts_S1x2048x6672_S2048x6672 _ k (⟨j.val, by omega⟩ : Fin 512) (⟨1024 + j.val, by omega⟩ : Fin 6672) rfl
      (colB_low j (by omega) _ rfl)
  by_cases h1 : j.val < 1024
  · refine (side_apply _ _ k j 1 (by exact (by decide : 1 < 6)) _ (by rfl) 512 (by rfl) (⟨j.val - 512, by omega⟩ : Fin 512) (by show 512 + (j.val - 512) = j.val; omega)).trans ?_
    dsimp only [Matrix.cons_val]
    after_results_simp
    exact piece_apply (n := 512) (off := 1536) (m ((c : Thread nD τ).loc main_arg1)) _ shapeCasts_S1x2048x6672_S2048x6672 _ k (⟨j.val - 512, by omega⟩ : Fin 512) (⟨1024 + j.val, by omega⟩ : Fin 6672) (by show 1024 + j.val = 1536 + (j.val - 512); omega)
      (colB_low j (by omega) _ rfl)
  by_cases h2 : j.val < 1280
  · refine (side_apply _ _ k j 2 (by exact (by decide : 2 < 6)) _ (by rfl) 1024 (by rfl) (⟨j.val - 1024, by omega⟩ : Fin 256) (by show 1024 + (j.val - 1024) = j.val; omega)).trans ?_
    dsimp only [Matrix.cons_val]
    after_results_simp
    exact piece_apply (n := 256) (off := 2048) (m ((c : Thread nD τ).loc main_arg1)) _ shapeCasts_S1x2048x6672_S2048x6672 _ k (⟨j.val - 1024, by omega⟩ : Fin 256) (⟨1024 + j.val, by omega⟩ : Fin 6672) (by show 1024 + j.val = 2048 + (j.val - 1024); omega)
      (colB_low j (by omega) _ rfl)
  by_cases h3 : j.val < 1536
  · refine (side_apply _ _ k j 3 (by exact (by decide : 3 < 6)) _ (by rfl) 1280 (by rfl) (⟨j.val - 1280, by omega⟩ : Fin 256) (by show 1280 + (j.val - 1280) = j.val; omega)).trans ?_
    dsimp only [Matrix.cons_val]
    after_results_simp
    exact piece_apply (n := 256) (off := 2304) (m ((c : Thread nD τ).loc main_arg1)) _ shapeCasts_S1x2048x6672_S2048x6672 _ k (⟨j.val - 1280, by omega⟩ : Fin 256) (⟨1024 + j.val, by omega⟩ : Fin 6672) (by show 1024 + j.val = 2304 + (j.val - 1280); omega)
      (colB_low j (by omega) _ rfl)
  by_cases h4 : j.val < 1664
  · refine (side_apply _ _ k j 4 (by exact (by decide : 4 < 6)) _ (by rfl) 1536 (by rfl) (⟨j.val - 1536, by omega⟩ : Fin 128) (by show 1536 + (j.val - 1536) = j.val; omega)).trans ?_
    dsimp only [Matrix.cons_val]
    after_results_simp
    simp only [StableHlo.TRef.ofBuf, StableHlo.TRef.toBuf, cast_eq]
    by_cases h5 : j.val < 1544
    · refine (pad_cols_inside _ _ pads_S2048x8_S2048x128_000_01200 h_S_ k (⟨j.val - 1536, by omega⟩ : Fin 128) (⟨j.val - 1536, by omega⟩ : Fin 8) rfl).trans ?_
      exact piece_apply (n := 8) (off := 2560) (m ((c : Thread nD τ).loc main_arg1)) _ shapeCasts_S1x2048x6672_S2048x6672 _ k (⟨j.val - 1536, by omega⟩ : Fin 8) (⟨1024 + j.val, by omega⟩ : Fin 6672) (by show 1024 + j.val = 2560 + (j.val - 1536); omega)
        (colB_low j (by omega) _ rfl)
    · refine (pad_cols_outside _ _ pads_S2048x8_S2048x128_000_01200 h_S_ k (⟨j.val - 1536, by omega⟩ : Fin 128) (by show ¬j.val - 1536 < 8; omega)).trans ((pad_zero _).trans ?_)
      exact congrArg (pick (m ((c : Thread nD τ).loc main_arg1)) k) (colB_pad j h5 h4).symm
  · refine (side_apply _ _ k j 5 (by exact (by decide : 5 < 6)) _ (by rfl) 1664 (by rfl) (⟨j.val - 1664, by omega⟩ : Fin 512) (by show 1664 + (j.val - 1664) = j.val; omega)).trans ?_
    dsimp only [Matrix.cons_val]
    after_results_simp
    refine (repeat_cols (by decide) _ _ _ k (⟨j.val - 1664, by omega⟩ : Fin 512)).trans ?_
    refine (cols_apply (n := 8) _ _ k _ (⟨2560 + (j.val - 1664) / 64, by omega⟩ : Fin 6672) rfl).trans ?_
    exact (layer_apply (m ((c : Thread nD τ).loc main_arg1)) slices_S4x2048x6672_S1x2048x6672_1_0_0 shapeCasts_S1x2048x6672_S2048x6672 k _).trans (congrArg (pick (m ((c : Thread nD τ).loc main_arg1)) k) (colB_high j h4 _ rfl).symm)

/-- Point `t` takes row tile `t`, and all the weights. -/
theorem index_facts : ∀ t : Fin grid0.N, t.val < 32 ∧ win0_0.index t (0 : Fin 2) = t.val ∧ win0_0.index t (1 : Fin 2) = 0
    ∧ win0_1.index t (0 : Fin 2) = 0 ∧ win0_1.index t (1 : Fin 2) = 0 ∧ win0_2.index t (0 : Fin 2) = t.val ∧ win0_2.index t (1 : Fin 2) = 0 := by
  decide +kernel

theorem rows_apply (c : Dev nD) (t : Fin cfg0.N) (p : Fin 512) (k : Fin 2048) :
    iblk m c 0 t (ix2 p k) = m ((c : Thread nD τ).loc main_arg0) (ix2 (tileRow (index_facts t).1 p) k) :=
  (congrArg (V m c main_arg0) (tile_index (index_facts t).1 p k (index_facts t).2.1 (index_facts t).2.2.1 _ rfl rfl)).trans (congrFun (V_main_arg0 m c) _)

theorem columns_apply (c : Dev nD) (t : Fin cfg0.N) (k : Fin 2048) (q : Fin 2176) :
    iblk m c 1 t (ix2 k q) = pick (m ((c : Thread nD τ).loc main_arg1)) k (colB q) :=
  (congrArg (V m c main_v29) (whole_index k q (index_facts t).2.2.2.1 (index_facts t).2.2.2.2.1 _ rfl rfl)).trans (weights_apply m c k q)

/-- The projection of the call's arguments. -/
abbrev projectedOf (c : Dev nD) : S16384x2176.Idx → Elt Ideal .f32 :=
  projected (m ((c : Thread nD τ).loc main_arg0)) (m ((c : Thread nD τ).loc main_arg1)) colB

/-- What a point writes back is its block of the projection. -/
theorem flushed_projected (c : Dev nD) (t : Fin cfg0.N) :
    (dats m 0 c).flushed 2 t = ((cfg0.win 2).blk t).view.read (Elt Ideal) (projectedOf m c) := by
  rw [flushed2]
  unfold out0_2
  rw [View.canon_unit_zero zero2, View.ld_unit_zero (S := S512x2048) zero2, View.ld_unit_zero (S := S2048x2176) zero2]
  funext y
  obtain ⟨p, q, rfl⟩ : ∃ (p : Fin 512) (q : Fin 2176), y = ix2 p q := ⟨_, _, eq_ix2 y⟩
  exact (tile_apply (index_facts t).1 _ _ colB (iblk m c 0 t) (iblk m c 1 t) _ (rows_apply m c t) (columns_apply m c t) p q).trans
    (congrArg (projectedOf m c) (tile_index (index_facts t).1 p q (index_facts t).2.2.2.2.2.1 (index_facts t).2.2.2.2.2.2 _ rfl rfl)).symm

/-- Every entry of the array is in some point's block. -/
theorem covered (i : S16384x2176.Idx) : ∃ t : Fin cfg0.N, (cfg0.win 2).flush t = true ∧ i ∈ ((cfg0.win 2).blk t).view.set := by
  have h0 : (i 0).val < 16384 := (i 0).isLt
  let t : Fin cfg0.N := ⟨(i 0).val / 512, by rw [show cfg0.N = 32 from N_0]; omega⟩
  refine ⟨t, flush0_2 t, ?_⟩
  show i ∈ ((View.whole main_v32).slice (win0_2.rect t)).set
  rw [View.set_slice_whole, Rect.mem_set_unit]
  exact in_tile i (win0_2.index t) (index_facts t).2.2.2.2.2.1 (index_facts t).2.2.2.2.2.2

/-- The result array after the run is the projection. -/
theorem final_projected (c : Dev nD) : (dats m 0 c).arrAt 2 cfg0.N = projectedOf m c :=
  (dats m 0 c).arrAt_eq_of_cover 2 _ (fun t _ => flushed_projected m c t) covered

end Cert.ProjectProof.B
-- ==== Proof.ProjectCValue.lean ====
/- The third branch's input projection: the kernel's result array and the reference's are the same projection (`projected`). -/
module

public import proofs.«01_k».proof.Proof.Gen.ProjectCIdeal.Value
public import proofs.«01_k».proof.Proof.Gen.ProjectCRefIdeal.Run
public import proofs.«01_k».proof.Proof.ProjectSpec

@[expose] public section

noncomputable section

namespace Cert.ProjectProof.C

open Idealize.ShloMosaic Idealize.ShloMosaic.TcCoe Idealize.SL.Sem Idealize.ShloMosaic.ValueIdx

section Reference

open Cert.ProjectCRefIdeal Cert.ProjectCRefIdeal.Gen

/-- The reference's result, from its product of the rows and the layer's weights. -/
theorem ref_projected (h : FVec Ideal S16384x2048 .bf16) (w : FVec Ideal S4x2048x6672 .f32) (r : FVec Ideal S16384x6672 .f32)
    (hr : r = productOf h w) :
    concatenate S16384x2176 1
      [⟨S16384x1536, extractStridedSlice S16384x1536 ![0, 2568] r slices_S16384x6672_S16384x1536_0_2568⟩,
        ⟨S16384x128, pad S16384x128 ![0, 0] ![0, 120] ![0, 0] (extractStridedSlice S16384x8 ![0, 4104] r slices_S16384x6672_S16384x8_0_4104)
          (sitofp (F := Ideal) .f32 (constantI S_ 32 0#32)) pads_S16384x8_S16384x128_000_01200 h_S_⟩,
        ⟨S16384x512, extractStridedSlice S16384x512 ![0, 4112] r slices_S16384x6672_S16384x512_0_4112⟩]
      concatenates_S16384x1536_S16384x128_S16384x512_S16384x2176_d1 = projected h w colC := by
  subst hr
  funext y
  obtain ⟨i, j, rfl⟩ : ∃ i j, y = ix2 i j := ⟨_, _, eq_ix2 y⟩
  show _ = along h w i (colC j)
  by_cases h1 : j.val < 1536
  · refine (side_apply _ _ i j 0 (by exact (by decide : 0 < 3)) _ (by rfl) 0 (by rfl) (⟨j.val, h1⟩ : Fin 1536) (Nat.zero_add _)).trans ?_
    refine (cols_apply (n := 1536) _ _ i _ (⟨2568 + j.val, by omega⟩ : Fin 6672) rfl).trans ?_
    exact congrArg (along h w i) (colC_low j (by omega) _ rfl).symm
  by_cases h2 : j.val < 1664
  · refine (side_apply _ _ i j 1 (by exact (by decide : 1 < 3)) _ (by rfl) 1536 (by rfl) (⟨j.val - 1536, by omega⟩ : Fin 128) (by show 1536 + (j.val - 1536) = j.val; omega)).trans ?_
    by_cases h3 : j.val < 1544
    · refine (pad_cols_inside _ _ _ _ i (⟨j.val - 1536, by omega⟩ : Fin 128) (⟨j.val - 1536, by omega⟩ : Fin 8) rfl).trans ?_
      refine (cols_apply (n := 8) (off := 4104) _ _ i (⟨j.val - 1536, by omega⟩ : Fin 8) (⟨2568 + j.val, by omega⟩ : Fin 6672) (by show 2568 + j.val = 4104 + (j.val - 1536); omega)).trans ?_
      exact congrArg (along h w i) (colC_low j h3 _ rfl).symm
    · refine (pad_cols_outside _ _ _ _ i (⟨j.val - 1536, by omega⟩ : Fin 128) (by show ¬j.val - 1536 < 8; omega)).trans ((pad_zero _).trans ?_)
      rw [colC_pad j h3 h2]; exact (along_none h w i).symm
  · refine (side_apply _ _ i j 2 (by exact (by decide : 2 < 3)) _ (by rfl) 1664 (by rfl) (⟨j.val - 1664, by omega⟩ : Fin 512) (by show 1664 + (j.val - 1664) = j.val; omega)).trans ?_
    refine (cols_apply (n := 512) (off := 4112) _ _ i (⟨j.val - 1664, by omega⟩ : Fin 512) (⟨2448 + j.val, by omega⟩ : Fin 6672) (by show 2448 + j.val = 4112 + (j.val - 1664); omega)).trans ?_
    exact congrArg (along h w i) (colC_high j h2 _ rfl).symm

end Reference

open Cert.ProjectCIdeal Cert.ProjectCIdeal.Gen Cert.ProjectCIdeal.Value

variable (m : (ℓ : Loc nD τ sig) → Buf (Elt Ideal) ℓ)

/-- The weights the call is given are the layer's columns that the branch takes. -/
theorem weights_apply (c : Dev nD) (k : Fin 2048) (j : Fin 2176) :
    V m c main_v30 (ix2 k j) = pick (m ((c : Thread nD τ).loc main_arg1)) k (colC j) := by
  unfold V
  simp only [hostOps0, hostOps0_1, hostOps0_2, hostOps0_3, hostOps0_4, List.flatten_cons, List.flatten_nil, List.append_nil, List.cons_append, List.nil_append]
  after_results
  refine (truncf_ideal (φ := .f32) .bf16 _ bitsLt_bf16_f32 _).trans ?_
  by_cases h0 : j.val < 512
  · refine (side_apply _ _ k j 0 (by exact (by decide : 0 < 5)) _ (by rfl) 0 (by rfl) (⟨j.val, by omega⟩ : Fin 512) (Nat.zero_add _)).trans ?_
    dsimp only [Matrix.cons_val]
    after_results_simp
    exact piece_apply (n := 512) (off := 2568) (m ((c : Thread nD τ).loc main_arg1)) _ shapeCasts_S1x2048x6672_S2048x6672 _ k (⟨j.val, by omega⟩ : Fin 512) (⟨2568 + j.val, by omega⟩ : Fin 6672) rfl
      (colC_low j (by omega) _ rfl)
  by_cases h1 : j.val < 1024
  · refine (side_apply _ _ k j 1 (by exact (by decide : 1 < 5)) _ (by rfl) 512 (by rfl) (⟨j.val - 512, by omega⟩ : Fin 512) (by show 512 + (j.val - 512) = j.val; omega)).trans ?_
    dsimp only [Matrix.cons_val]
    after_results_simp
    exact piece_apply (n := 512) (off := 3080) (m ((c : Thread nD τ).loc main_arg1)) _ shapeCasts_S1x2048x6672_S2048x6672 _ k (⟨j.val - 512, by omega⟩ : Fin 512) (⟨2568 + j.val, by omega⟩ : Fin 6672) (by show 2568 + j.val = 3080 + (j.val - 512); omega)
      (colC_low j (by omega) _ rfl)
  by_cases h2 : j.val < 1536
  · refine (side_apply _ _ k j 2 (by exact (by decide : 2 < 5)) _ (by rfl) 1024 (by rfl) (⟨j.val - 1024, by omega⟩ : Fin 512) (by show 1024 + (j.val - 1024) = j.val; omega)).trans ?_
    dsimp only [Matrix.cons_val]
    after_results_simp
    exact piece_apply (n := 512) (off := 3592) (m ((c : Thread nD τ).loc main_arg1)) _ shapeCasts_S1x2048x6672_S2048x6672 _ k (⟨j.val - 1024, by omega⟩ : Fin 512) (⟨2568 + j.val, by omega⟩ : Fin 6672) (by show 2568 + j.val = 3592 + (j.val - 1024); omega)
      (colC_low j (by omega) _ rfl)
  by_cases h3 : j.val < 1664
  · refine (side_apply _ _ k j 3 (by exact (by decide : 3 < 5)) _ (by rfl) 1536 (by rfl) (⟨j.val - 1536, by omega⟩ : Fin 128) (by show 1536 + (j.val - 1536) = j.val; omega)).trans ?_
    dsimp only [Matrix.cons_val]
    after_results_simp
    simp only [StableHlo.TRef.ofBuf, StableHlo.TRef.toBuf, cast_eq]
    by_cases h4 : j.val < 1544
    · refine (pad_cols_inside _ _ pads_S2048x8_S2048x128_000_01200 h_S_ k (⟨j.val - 1536, by omega⟩ : Fin 128) (⟨j.val - 1536, by omega⟩ : Fin 8) rfl).trans ?_
      by_cases h6 : j.val < 1540
      · refine (side_apply _ _ k (⟨j.val - 1536, by omega⟩ : Fin 8) 0 (by exact (by decide : 0 < 2)) _ (by rfl) 0 (by rfl) (⟨j.val - 1536, by omega⟩ : Fin 4) (Nat.zero_add _)).trans ?_
        after_results_simp
        exact piece_apply (n := 4) (off := 4104) (m ((c : Thread nD τ).loc main_arg1)) _ shapeCasts_S1x2048x6672_S2048x6672 _ k (⟨j.val - 1536, by omega⟩ : Fin 4) (⟨2568 + j.val, by omega⟩ : Fin 6672) (by show 2568 + j.val = 4104 + (j.val - 1536); omega)
          (colC_low j (by omega) _ rfl)
      · refine (side_apply _ _ k (⟨j.val - 1536, by omega⟩ : Fin 8) 1 (by exact (by decide : 1 < 2)) _ (by rfl) 4 (by rfl) (⟨j.val - 1540, by omega⟩ : Fin 4) (by show 4 + (j.val - 1540) = j.val - 1536; omega)).trans ?_
        after_results_simp
        exact piece_apply (n := 4) (off := 4108) (m ((c : Thread nD τ).loc main_arg1)) _ shapeCasts_S1x2048x6672_S2048x6672 _ k (⟨j.val - 1540, by omega⟩ : Fin 4) (⟨2568 + j.val, by omega⟩ : Fin 6672) (by show 2568 + j.val = 4108 + (j.val - 1540); omega)
          (colC_low j (by omega) _ rfl)
    · refine (pad_cols_outside _ _ pads_S2048x8_S2048x128_000_01200 h_S_ k (⟨j.val - 1536, by omega⟩ : Fin 128) (by show ¬j.val - 1536 < 8; omega)).trans ((pad_zero _).trans ?_)
      exact congrArg (pick (m ((c : Thread nD τ).loc main_arg1)) k) (colC_pad j h4 h3).symm
  · refine (side_apply _ _ k j 4 (by exact (by decide : 4 < 5)) _ (by rfl) 1664 (by rfl) (⟨j.val - 1664, by omega⟩ : Fin 512) (by show 1664 + (j.val - 1664) = j.val; omega)).trans ?_
    dsimp only [Matrix.cons_val]
    after_results_simp
    exact piece_apply (n := 512) (off := 4112) (m ((c : Thread nD τ).loc main_arg1)) _ shapeCasts_S1x2048x6672_S2048x6672 _ k (⟨j.val - 1664, by omega⟩ : Fin 512) (⟨2448 + j.val, by omega⟩ : Fin 6672) (by show 2448 + j.val = 4112 + (j.val - 1664); omega)
      (colC_high j h3 _ rfl)

/-- Point `t` takes row tile `t`, and all the weights. -/
theorem index_facts : ∀ t : Fin grid0.N, t.val < 32 ∧ win0_0.index t (0 : Fin 2) = t.val ∧ win0_0.index t (1 : Fin 2) = 0
    ∧ win0_1.index t (0 : Fin 2) = 0 ∧ win0_1.index t (1 : Fin 2) = 0 ∧ win0_2.index t (0 : Fin 2) = t.val ∧ win0_2.index t (1 : Fin 2) = 0 := by
  decide +kernel

theorem rows_apply (c : Dev nD) (t : Fin cfg0.N) (p : Fin 512) (k : Fin 2048) :
    iblk m c 0 t (ix2 p k) = m ((c : Thread nD τ).loc main_arg0) (ix2 (tileRow (index_facts t).1 p) k) :=
  (congrArg (V m c main_arg0) (tile_index (index_facts t).1 p k (index_facts t).2.1 (index_facts t).2.2.1 _ rfl rfl)).trans (congrFun (V_main_arg0 m c) _)

theorem columns_apply (c : Dev nD) (t : Fin cfg0.N) (k : Fin 2048) (q : Fin 2176) :
    iblk m c 1 t (ix2 k q) = pick (m ((c : Thread nD τ).loc main_arg1)) k (colC q) :=
  (congrArg (V m c main_v30) (whole_index k q (index_facts t).2.2.2.1 (index_facts t).2.2.2.2.1 _ rfl rfl)).trans (weights_apply m c k q)

/-- The projection of the call's arguments. -/
abbrev projectedOf (c : Dev nD) : S16384x2176.Idx → Elt Ideal .f32 :=
  projected (m ((c : Thread nD τ).loc main_arg0)) (m ((c : Thread nD τ).loc main_arg1)) colC

/-- What a point writes back is its block of the projection. -/
theorem flushed_projected (c : Dev nD) (t : Fin cfg0.N) :
    (dats m 0 c).flushed 2 t = ((cfg0.win 2).blk t).view.read (Elt Ideal) (projectedOf m c) := by
  rw [flushed2]
  unfold out0_2
  rw [View.canon_unit_zero zero2, View.ld_unit_zero (S := S512x2048) zero2, View.ld_unit_zero (S := S2048x2176) zero2]
  funext y
  obtain ⟨p, q, rfl⟩ : ∃ (p : Fin 512) (q : Fin 2176), y = ix2 p q := ⟨_, _, eq_ix2 y⟩
  exact (tile_apply (index_facts t).1 _ _ colC (iblk m c 0 t) (iblk m c 1 t) _ (rows_apply m c t) (columns_apply m c t) p q).trans
    (congrArg (projectedOf m c) (tile_index (index_facts t).1 p q (index_facts t).2.2.2.2.2.1 (index_facts t).2.2.2.2.2.2 _ rfl rfl)).symm

/-- Every entry of the array is in some point's block. -/
theorem covered (i : S16384x2176.Idx) : ∃ t : Fin cfg0.N, (cfg0.win 2).flush t = true ∧ i ∈ ((cfg0.win 2).blk t).view.set := by
  have h0 : (i 0).val < 16384 := (i 0).isLt
  let t : Fin cfg0.N := ⟨(i 0).val / 512, by rw [show cfg0.N = 32 from N_0]; omega⟩
  refine ⟨t, flush0_2 t, ?_⟩
  show i ∈ ((View.whole main_v32).slice (win0_2.rect t)).set
  rw [View.set_slice_whole, Rect.mem_set_unit]
  exact in_tile i (win0_2.index t) (index_facts t).2.2.2.2.2.1 (index_facts t).2.2.2.2.2.2

/-- The result array after the run is the projection. -/
theorem final_projected (c : Dev nD) : (dats m 0 c).arrAt 2 cfg0.N = projectedOf m c :=
  (dats m 0 c).arrAt_eq_of_cover 2 _ (fun t _ => flushed_projected m c t) covered

end Cert.ProjectProof.C
-- ==== Proof.ProjectDValue.lean ====
/- The fourth branch's input projection: the kernel's result array and the reference's are the same projection (`projected`). -/
module

public import proofs.«01_k».proof.Proof.Gen.ProjectDIdeal.Value
public import proofs.«01_k».proof.Proof.Gen.ProjectDRefIdeal.Run
public import proofs.«01_k».proof.Proof.ProjectSpec

@[expose] public section

noncomputable section

namespace Cert.ProjectProof.D

open Idealize.ShloMosaic Idealize.ShloMosaic.TcCoe Idealize.SL.Sem Idealize.ShloMosaic.ValueIdx

section Reference

open Cert.ProjectDRefIdeal Cert.ProjectDRefIdeal.Gen

/-- The reference's result is the projection of its arguments. -/
theorem ref_projected (h : FVec Ideal S16384x2048 .bf16) (w : FVec Ideal S4x2048x6672 .f32) :
    extractStridedSlice S16384x2048 ![0, 4624] (Host.dotGeneral dot_S16384x2048_S2048x6672_S16384x6672_1_0_0_1_n_n none (extf .f32 h bitsLt_bf16_f32)
      (shapeCast S2048x6672 (extractStridedSlice S1x2048x6672 ![1, 0, 0] w slices_S4x2048x6672_S1x2048x6672_1_0_0) shapeCasts_S1x2048x6672_S2048x6672))
      slices_S16384x6672_S16384x2048_0_4624 = projected h w colD := by
  rw [show Host.dotGeneral dot_S16384x2048_S2048x6672_S16384x6672_1_0_0_1_n_n none (extf .f32 h bitsLt_bf16_f32) _ = _ from ref_product_eq h w _ _ _]
  funext y
  obtain ⟨i, j, rfl⟩ : ∃ i j, y = ix2 i j := ⟨_, _, eq_ix2 y⟩
  exact cols_apply _ _ i j (⟨4624 + j.val, by omega⟩ : Fin 6672) rfl

end Reference

open Cert.ProjectDIdeal Cert.ProjectDIdeal.Gen Cert.ProjectDIdeal.Value

variable (m : (ℓ : Loc nD τ sig) → Buf (Elt Ideal) ℓ)

/-- The weights the call is given are the layer's columns that the branch takes. -/
theorem weights_apply (c : Dev nD) (k : Fin 2048) (j : Fin 2048) :
    V m c main_v31 (ix2 k j) = pick (m ((c : Thread nD τ).loc main_arg1)) k (colD j) := by
  unfold V
  simp only [hostOps0, hostOps0_1, hostOps0_2, hostOps0_3, hostOps0_4, List.flatten_cons, List.flatten_nil, List.append_nil, List.cons_append, List.nil_append]
  after_results
  refine (truncf_ideal (φ := .f32) .bf16 _ bitsLt_bf16_f32 _).trans ?_
  by_cases h0 : j.val < 512
  · refine (side_apply _ _ k j 0 (by exact (by decide : 0 < 4)) _ (by rfl) 0 (by rfl) (⟨j.val, by omega⟩ : Fin 512) (Nat.zero_add _)).trans ?_
    dsimp only [Matrix.cons_val]
    after_results_simp
    exact piece_apply (n := 512) (off := 4624) (m ((c : Thread nD τ).loc main_arg1)) _ shapeCasts_S1x2048x6672_S2048x6672 _ k (⟨j.val, by omega⟩ : Fin 512) (⟨4624 + j.val, by omega⟩ : Fin 6672) rfl
      (rfl)
  by_cases h1 : j.val < 1024
  · refine (side_apply _ _ k j 1 (by exact (by decide : 1 < 4)) _ (by rfl) 512 (by rfl) (⟨j.val - 512, by omega⟩ : Fin 512) (by show 512 + (j.val - 512) = j.val; omega)).trans ?_
    dsimp only [Matrix.cons_val]
    after_results_simp
    exact piece_apply (n := 512) (off := 5136) (m ((c : Thread nD τ).loc main_arg1)) _ shapeCasts_S1x2048x6672_S2048x6672 _ k (⟨j.val - 512, by omega⟩ : Fin 512) (⟨4624 + j.val, by omega⟩ : Fin 6672) (by show 4624 + j.val = 5136 + (j.val - 512); omega)
      (rfl)
  by_cases h2 : j.val < 1536
  · refine (side_apply _ _ k j 2 (by exact (by decide : 2 < 4)) _ (by rfl) 1024 (by rfl) (⟨j.val - 1024, by omega⟩ : Fin 512) (by show 1024 + (j.val - 1024) = j.val; omega)).trans ?_
    dsimp only [Matrix.cons_val]
    after_results_simp
    exact piece_apply (n := 512) (off := 5648) (m ((c : Thread nD τ).loc main_arg1)) _ shapeCasts_S1x2048x6672_S2048x6672 _ k (⟨j.val - 1024, by omega⟩ : Fin 512) (⟨4624 + j.val, by omega⟩ : Fin 6672) (by show 4624 + j.val = 5648 + (j.val - 1024); omega)
      (rfl)
  · refine (side_apply _ _ k j 3 (by exact (by decide : 3 < 4)) _ (by rfl) 1536 (by rfl) (⟨j.val - 1536, by omega⟩ : Fin 512) (by show 1536 + (j.val - 1536) = j.val; omega)).trans ?_
    dsimp only [Matrix.cons_val]
    after_results_simp
    exact piece_apply (n := 512) (off := 6160) (m ((c : Thread nD τ).loc main_arg1)) _ shapeCasts_S1x2048x6672_S2048x6672 _ k (⟨j.val - 1536, by omega⟩ : Fin 512) (⟨4624 + j.val, by omega⟩ : Fin 6672) (by show 4624 + j.val = 6160 + (j.val - 1536); omega)
      (rfl)

/-- Point `t` takes row tile `t`, and all the weights. -/
theorem index_facts : ∀ t : Fin grid0.N, t.val < 32 ∧ win0_0.index t (0 : Fin 2) = t.val ∧ win0_0.index t (1 : Fin 2) = 0
    ∧ win0_1.index t (0 : Fin 2) = 0 ∧ win0_1.index t (1 : Fin 2) = 0 ∧ win0_2.index t (0 : Fin 2) = t.val ∧ win0_2.index t (1 : Fin 2) = 0 := by
  decide +kernel

theorem rows_apply (c : Dev nD) (t : Fin cfg0.N) (p : Fin 512) (k : Fin 2048) :
    iblk m c 0 t (ix2 p k) = m ((c : Thread nD τ).loc main_arg0) (ix2 (tileRow (index_facts t).1 p) k) :=
  (congrArg (V m c main_arg0) (tile_index (index_facts t).1 p k (index_facts t).2.1 (index_facts t).2.2.1 _ rfl rfl)).trans (congrFun (V_main_arg0 m c) _)

theorem columns_apply (c : Dev nD) (t : Fin cfg0.N) (k : Fin 2048) (q : Fin 2048) :
    iblk m c 1 t (ix2 k q) = pick (m ((c : Thread nD τ).loc main_arg1)) k (colD q) :=
  (congrArg (V m c main_v31) (whole_index k q (index_facts t).2.2.2.1 (index_facts t).2.2.2.2.1 _ rfl rfl)).trans (weights_apply m c k q)

/-- The projection of the call's arguments. -/
abbrev projectedOf (c : Dev nD) : S16384x2048.Idx → Elt Ideal .f32 :=
  projected (m ((c : Thread nD τ).loc main_arg0)) (m ((c : Thread nD τ).loc main_arg1)) colD

/-- What a point writes back is its block of the projection. -/
theorem flushed_projected (c : Dev nD) (t : Fin cfg0.N) :
    (dats m 0 c).flushed 2 t = ((cfg0.win 2).blk t).view.read (Elt Ideal) (projectedOf m c) := by
  rw [flushed2]
  unfold out0_2
  rw [View.canon_unit_zero zero2, View.ld_unit_zero (S := S512x2048) zero2, View.ld_unit_zero (S := S2048x2048) zero2]
  funext y
  obtain ⟨p, q, rfl⟩ : ∃ (p : Fin 512) (q : Fin 2048), y = ix2 p q := ⟨_, _, eq_ix2 y⟩
  exact (tile_apply (index_facts t).1 _ _ colD (iblk m c 0 t) (iblk m c 1 t) _ (rows_apply m c t) (columns_apply m c t) p q).trans
    (congrArg (projectedOf m c) (tile_index (index_facts t).1 p q (index_facts t).2.2.2.2.2.1 (index_facts t).2.2.2.2.2.2 _ rfl rfl)).symm

/-- Every entry of the array is in some point's block. -/
theorem covered (i : S16384x2048.Idx) : ∃ t : Fin cfg0.N, (cfg0.win 2).flush t = true ∧ i ∈ ((cfg0.win 2).blk t).view.set := by
  have h0 : (i 0).val < 16384 := (i 0).isLt
  let t : Fin cfg0.N := ⟨(i 0).val / 512, by rw [show cfg0.N = 32 from N_0]; omega⟩
  refine ⟨t, flush0_2 t, ?_⟩
  show i ∈ ((View.whole main_v32).slice (win0_2.rect t)).set
  rw [View.set_slice_whole, Rect.mem_set_unit]
  exact in_tile i (win0_2.index t) (index_facts t).2.2.2.2.2.1 (index_facts t).2.2.2.2.2.2

/-- The result array after the run is the projection. -/
theorem final_projected (c : Dev nD) : (dats m 0 c).arrAt 2 cfg0.N = projectedOf m c :=
  (dats m 0 c).arrAt_eq_of_cover 2 _ (fun t _ => flushed_projected m c t) covered

end Cert.ProjectProof.D
-- ==== Proof.OutSpec.lean ====
/- The output call's two results over the extended reals: the residual's layer norm (`normed`) and its modulation
   (`modulated`), each one expression per entry; and the reference's run read as them. -/
module

public import proofs.«01_k».proof.Proof.Gen.OutRefIdeal.Run
public import Idealize.ShloMosaic.Lib.ValueIdxCore
public import Idealize.ShloMosaic.Lib.StackMember
public import Idealize.ShloMosaic.Lib.IdealHost
public import Idealize.ShloMosaic.Lib.Pointwise.Reduce

@[expose] public section

noncomputable section

namespace Cert.OutProof

open Idealize.ShloMosaic hiding ix1 ix2 ix3 eq_ix2
open Idealize.ShloMosaic.TcCoe Idealize.SL.Sem Idealize.ShloMosaic.ValueIdx Idealize.ShloMosaic.StackMember

/-! ## The layer norm of a row -/

/-- The residual's scale: the float nearest to the fourth root of eight. -/
abbrev alpha : EReal := Ideal.ofBits .f32 0x3FD744FD#32

/-- The row's length, 2048, as a float. -/
abbrev width : EReal := Ideal.ofBits .f32 0x45000000#32

/-- The float nearest to `1e-5`. -/
abbrev eps : EReal := Ideal.ofBits .f32 0x3727C5AC#32

/-- The mean of a row. -/
def mean (f : Fin 2048 → EReal) : EReal := Ideal.div (∑ k, f k) width

/-- The variance of a row: the mean of the squared distances from the mean. -/
def variance (f : Fin 2048 → EReal) : EReal := mean fun k => (f k - mean f) * (f k - mean f)

/-- The layer norm of a row at an entry, scaled by `g` and shifted by `b`. -/
def normAt (f : Fin 2048 → EReal) (j : Fin 2048) (g b : EReal) : EReal :=
  ((f j - mean f) * Ideal.rsqrt (variance f + eps)) * g + b

/-! ## The two results -/

section Spec

variable (h : FVec Ideal ⟨2, ![16384, 2048]⟩ .bf16) (w : FVec Ideal ⟨3, ![4, 2048, 2048]⟩ .f32) (x : FVec Ideal ⟨2, ![16384, 2048]⟩ .f32)
  (ada : FVec Ideal ⟨2, ![4, 12288]⟩ .f32) (g b : FVec Ideal ⟨2, ![4, 2048]⟩ .f32)

/-- Entry `j` of the layer's modulation vector that starts at `start`. -/
def modAt {start : ℕ} (hs : start ≤ 10240) (j : Fin 2048) : EReal := ada (ix2 1 ⟨start + j.val, by omega⟩)

/-- The residual row `i`: the scaled input plus the gated product of the merged row with the layer's output weights. -/
def mixedAt (i : Fin 16384) (k : Fin 2048) : EReal :=
  alpha * x (ix2 i k) + modAt ada (start := 4096) (by decide) k * ∑ l : Fin 2048, h (ix2 i l) * w (ix3 1 l k)

/-- The first result: the layer norm of the residual rows. -/
def normed : FVec Ideal ⟨2, ![16384, 2048]⟩ .f32 := fun y =>
  normAt (mixedAt h w x ada (y 0)) (y 1) (g (ix2 1 (y 1))) (b (ix2 1 (y 1)))

/-- The second result: the first, modulated by the layer's scale and shift. -/
def modulated : FVec Ideal ⟨2, ![16384, 2048]⟩ .f32 := fun y =>
  normed h w x ada g b y * (1 + modAt ada (start := 8192) (by decide) (y 1)) + modAt ada (start := 6144) (by decide) (y 1)

end Spec

/-! ## The reference -/

section Reference

open Cert.OutRefIdeal Cert.OutRefIdeal.Gen

/-- A column spread over the rows' entries. -/
theorem spread_apply (v : FVec Ideal S16384x1 .f32) (i : Fin 16384) (j : Fin 2048) :
    broadcastInDim S16384x2048 ![0, 1] bcast_S16384x1_S16384x2048_0_1 v (ix2 i j) = v (ix2 i 0) :=
  broadcastInDim_apply _ _ _ _ (ix2 i (0 : Fin 1) : S16384x1.Idx) fun a => match a with | ⟨0, _⟩ => rfl | ⟨1, _⟩ => rfl

/-- A row spread over all rows. -/
theorem row_apply (v : FVec Ideal S1x2048 .f32) (i : Fin 16384) (j : Fin 2048) :
    broadcastInDim S16384x2048 ![0, 1] bcast_S1x2048_S16384x2048_0_1 v (ix2 i j) = v (ix2 0 j) :=
  broadcastInDim_apply _ _ _ _ (ix2 (0 : Fin 1) j : S1x2048.Idx) fun a => match a with | ⟨0, _⟩ => rfl | ⟨1, _⟩ => rfl

/-- The reference's mean of each row of `X`. -/
abbrev means (X : FVec Ideal S16384x2048 .f32) : FVec Ideal S16384x1 .f32 :=
  Host.divf (broadcastInDim S16384x1 ![0] bcast_S16384_S16384x1_0 (Host.reduceAdd X (constant S_ .f32 0x00000000#32) reducesTo_S16384x2048_S16384_d1 h_S_))
    (broadcastInDim S16384x1 ![] bcast_S_S16384x1 (constant S_ .f32 0x45000000#32))

theorem means_apply (X : FVec Ideal S16384x2048 .f32) (i : Fin 16384) : means X (ix2 i 0) = mean fun k => X (ix2 i k) := by
  refine congrArg₂ Ideal.div ?_ (broadcastInDim_scalar_apply _ _ _)
  refine (broadcastInDim_apply _ _ _ _ (ix1 i : S16384.Idx) fun a => match a with | ⟨0, _⟩ => rfl).trans ?_
  refine (hostReduceAdd_apply X _ _ _ _).trans ((Ideal.hostReduceAdd_r2_a1 _ X _ _).trans ?_)
  rw [show constant (F := Ideal) S_ .f32 0x00000000#32 (Shape.Idx.first h_S_) = (0 : EReal) from Ideal.ofBits_zero_f32, zero_add]
  rfl

/-- The reference's layer norm of the rows of `X`, scaled by the row `g` and shifted by the row `b`. -/
abbrev normRows (X : FVec Ideal S16384x2048 .f32) (g b : FVec Ideal S1x2048 .f32) : FVec Ideal S16384x2048 .f32 :=
  let D := subf X (broadcastInDim S16384x2048 ![0, 1] bcast_S16384x1_S16384x2048_0_1 (means X))
  addf (mulf (mulf D (broadcastInDim S16384x2048 ![0, 1] bcast_S16384x1_S16384x2048_0_1
      (Host.rsqrt (addf (means (mulf D D)) (broadcastInDim S16384x1 ![] bcast_S_S16384x1 (constant S_ .f32 0x3727C5AC#32))))))
    (broadcastInDim S16384x2048 ![0, 1] bcast_S1x2048_S16384x2048_0_1 g)) (broadcastInDim S16384x2048 ![0, 1] bcast_S1x2048_S16384x2048_0_1 b)

theorem normRows_apply (X : FVec Ideal S16384x2048 .f32) (g b : FVec Ideal S1x2048 .f32) (i : Fin 16384) (j : Fin 2048) :
    normRows X g b (ix2 i j) = normAt (fun k => X (ix2 i k)) j (g (ix2 0 j)) (b (ix2 0 j)) := by
  have hd : ∀ k, subf X (broadcastInDim S16384x2048 ![0, 1] bcast_S16384x1_S16384x2048_0_1 (means X)) (ix2 i k)
      = (X (ix2 i k) - mean fun k => X (ix2 i k) : EReal) := fun k =>
    congrArg (fun v : EReal => X (ix2 i k) - v) ((spread_apply _ i k).trans (means_apply X i))
  refine congrArg₂ (fun u v : EReal => u + v) (congrArg₂ (fun u v : EReal => u * v) (congrArg₂ (fun u v : EReal => u * v) (hd j) ?_)
    (row_apply g i j)) (row_apply b i j)
  refine (spread_apply _ i j).trans (congrArg Ideal.rsqrt (congrArg₂ (fun u v : EReal => u + v) ?_ (broadcastInDim_scalar_apply _ _ _)))
  refine (means_apply _ i).trans (congrArg mean (funext fun k => congrArg₂ (fun u v : EReal => u * v) (hd k) (hd k)))

/-- The layer's modulation vectors, as the reference splits them. -/
theorem split_apply {start : ℕ} (hs : start ≤ 10240) (ada : FVec Ideal S4x12288 .f32) (h : S1x12288.Slices ![0, start] S1x2048) (j : Fin 2048) :
    extractStridedSlice S1x2048 ![0, start] (broadcastInDim S1x12288 ![1] bcast_S12288_S1x12288_1
      (shapeCast S12288 (extractStridedSlice S1x12288 ![1, 0] ada slices_S4x12288_S1x12288_1_0) shapeCasts_S1x12288_S12288)) h (ix2 0 j)
      = modAt ada hs j := by
  refine (extractStridedSlice_apply _ _ _ _ (ix2 (0 : Fin 1) (⟨start + j.val, by omega⟩ : Fin 12288) : S1x12288.Idx) ?_).trans
    ((broadcastInDim_apply _ _ _ _ (ix1 (⟨start + j.val, by omega⟩ : Fin 12288) : S12288.Idx) ?_).trans
    ((shapeCast_apply _ _ _ (ix2 (0 : Fin 1) (⟨start + j.val, by omega⟩ : Fin 12288) : S1x12288.Idx) ?_).trans
    (extractStridedSlice_apply _ _ _ _ (ix2 (1 : Fin 4) (⟨start + j.val, by omega⟩ : Fin 12288) : S4x12288.Idx) ?_)))
  · intro a
    match a with
    | ⟨0, _⟩ => rfl
    | ⟨1, _⟩ => rfl
  · intro a
    match a with
    | ⟨0, _⟩ => rfl
  · refine (Shape.rowMajor_val_two (d := ![1, 12288]) _).trans ((?_ : _ = _).trans (Shape.rowMajor_val_one (d := ![12288]) _).symm)
    show 0 * 12288 + (start + j.val) = start + j.val
    omega
  · intro a
    match a with
    | ⟨0, _⟩ => rfl
    | ⟨1, _⟩ => exact (Nat.zero_add _).symm

/-- The layer's norm weights (or biases), as the reference takes them. -/
abbrev layerRow (v : FVec Ideal S4x2048 .f32) : FVec Ideal S1x2048 .f32 :=
  broadcastInDim S1x2048 ![1] bcast_S2048_S1x2048_1 (shapeCast S2048 (extractStridedSlice S1x2048 ![1, 0] v slices_S4x2048_S1x2048_1_0) shapeCasts_S1x2048_S2048)

theorem layerRow_apply (v : FVec Ideal S4x2048 .f32) (j : Fin 2048) : layerRow v (ix2 0 j) = v (ix2 1 j) := by
  refine (broadcastInDim_apply _ _ _ _ (ix1 j : S2048.Idx) fun a => match a with | ⟨0, _⟩ => rfl).trans
    ((shapeCast_apply _ _ _ (ix2 (0 : Fin 1) j : S1x2048.Idx) ?_).trans
    (extractStridedSlice_apply _ _ _ _ (ix2 (1 : Fin 4) j : S4x2048.Idx) fun a => match a with | ⟨0, _⟩ => rfl | ⟨1, _⟩ => (Nat.zero_add _).symm))
  refine (Shape.rowMajor_val_two (d := ![1, 2048]) _).trans ((?_ : _ = _).trans (Shape.rowMajor_val_one (d := ![2048]) _).symm)
  show 0 * 2048 + j.val = j.val
  omega

variable (m : (ℓ : Loc nD τ sig) → Buf (Elt Ideal) ℓ) (c : Dev nD)

/-- The layer's modulation vectors before the split. -/
abbrev modRow : FVec Ideal S1x12288 .f32 :=
  broadcastInDim S1x12288 ![1] bcast_S12288_S1x12288_1
    (shapeCast S12288 (extractStridedSlice S1x12288 ![1, 0] (m ((c.tc : Thread nD τ).loc main_arg3)) slices_S4x12288_S1x12288_1_0) shapeCasts_S1x12288_S12288)

/-- The reference's residual rows. -/
abbrev mixedRows : FVec Ideal S16384x2048 .f32 :=
  addf (mulf (broadcastInDim S16384x2048 ![] bcast_S_S16384x2048 (constant S_ .f32 0x3FD744FD#32)) (m ((c.tc : Thread nD τ).loc main_arg2)))
    (mulf (broadcastInDim S16384x2048 ![0, 1] bcast_S1x2048_S16384x2048_0_1 (extractStridedSlice S1x2048 ![0, 4096] (modRow m c) slices_S1x12288_S1x2048_0_4096))
      (Host.dotGeneral (φ₁ := .f32) (φ₂ := .f32) (DotDims.plain 16384 2048 2048) none (extf .f32 (m ((c.tc : Thread nD τ).loc main_arg0)) bitsLt_bf16_f32)
        (shapeCast S2048x2048 (extractStridedSlice S1x2048x2048 ![1, 0, 0] (m ((c.tc : Thread nD τ).loc main_arg1)) slices_S4x2048x2048_S1x2048x2048_1_0_0)
          shapeCasts_S1x2048x2048_S2048x2048)))

/-- The layer's output weights at an entry. -/
theorem weights_slice_apply (w : FVec Ideal ⟨3, ![4, 2048, 2048]⟩ .f32) (hl : (⟨3, ![4, 2048, 2048]⟩ : Shape).Slices ![1, 0, 0] ⟨3, ![1, 2048, 2048]⟩)
    (hs : (⟨3, ![1, 2048, 2048]⟩ : Shape).ShapeCasts ⟨2, ![2048, 2048]⟩) (l k : Fin 2048) :
    shapeCast ⟨2, ![2048, 2048]⟩ (extractStridedSlice ⟨3, ![1, 2048, 2048]⟩ ![1, 0, 0] w hl) hs (ix2 l k) = w (ix3 1 l k) := by
  refine (shapeCast_apply _ _ _ (ix3 (0 : Fin 1) l k : (⟨3, ![1, 2048, 2048]⟩ : Shape).Idx) ?_).trans
    (extractStridedSlice_apply _ _ _ _ (ix3 (1 : Fin 4) l k : (⟨3, ![4, 2048, 2048]⟩ : Shape).Idx) ?_)
  · refine (Shape.rowMajor_val_three (d := ![1, 2048, 2048]) _).trans ((?_ : _ = _).trans (Shape.rowMajor_val_two (d := ![2048, 2048]) _).symm)
    show (0 * 2048 + l.val) * 2048 + k.val = l.val * 2048 + k.val
    omega
  · intro a
    match a with
    | ⟨0, _⟩ => rfl
    | ⟨1, _⟩ => exact (Nat.zero_add _).symm
    | ⟨2, _⟩ => exact (Nat.zero_add _).symm

theorem mixedRows_apply (i : Fin 16384) (k : Fin 2048) :
    mixedRows m c (ix2 i k) = mixedAt (m ((c.tc : Thread nD τ).loc main_arg0)) (m ((c.tc : Thread nD τ).loc main_arg1)) (m ((c.tc : Thread nD τ).loc main_arg2))
      (m ((c.tc : Thread nD τ).loc main_arg3)) i k := by
  refine congrArg₂ (fun u v : EReal => u + v) (congrArg (fun u : EReal => u * _) (broadcastInDim_scalar_apply _ _ _))
    (congrArg₂ (fun u v : EReal => u * v) ((row_apply _ i k).trans (split_apply (by decide) _ _ k)) ?_)
  refine (dotGeneral_plain_apply (m := 16384) (k := 2048) (n := 2048) none _ _ i k).trans (Finset.sum_congr rfl fun l _ => ?_)
  exact congrArg (fun v : EReal => _ * v) (weights_slice_apply _ _ _ l k)

/-- The reference's first result. -/
theorem ref_normed : Value.res_out0 m c = normed (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  have e : Value.res_out0 m c = normRows (mixedRows m c) (layerRow (m ((c.tc : Thread nD τ).loc main_arg4))) (layerRow (m ((c.tc : Thread nD τ).loc main_arg5))) := rfl
  funext y
  obtain ⟨i, j, rfl⟩ : ∃ i j, y = ix2 i j := ⟨_, _, eq_ix2 y⟩
  rw [e, normRows_apply, layerRow_apply, layerRow_apply, funext fun k => mixedRows_apply m c i k]
  rfl

/-- The reference's second result. -/
theorem ref_modulated : Value.res_out1 m c = modulated (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  have e : Value.res_out1 m c = addf (mulf (Value.res_out0 m c) (broadcastInDim S16384x2048 ![0, 1] bcast_S1x2048_S16384x2048_0_1
        (addf (broadcastInDim S1x2048 ![] bcast_S_S1x2048 (constant S_ .f32 0x3F800000#32)) (extractStridedSlice S1x2048 ![0, 8192] (modRow m c) slices_S1x12288_S1x2048_0_8192))))
      (broadcastInDim S16384x2048 ![0, 1] bcast_S1x2048_S16384x2048_0_1 (extractStridedSlice S1x2048 ![0, 6144] (modRow m c) slices_S1x12288_S1x2048_0_6144)) := rfl
  funext y
  obtain ⟨i, j, rfl⟩ : ∃ i j, y = ix2 i j := ⟨_, _, eq_ix2 y⟩
  rw [e]
  refine congrArg₂ (fun u v : EReal => u + v) (congrArg₂ (fun u v : EReal => u * v) (congrFun (ref_normed m c) _) ?_)
    ((row_apply _ i j).trans (split_apply (by decide) _ _ j))
  exact (row_apply _ i j).trans (congrArg₂ (fun u v : EReal => u + v) ((broadcastInDim_scalar_apply _ _ _).trans Ideal.ofBits_one_f32) (split_apply (by decide) _ _ j))

end Reference

end Cert.OutProof
-- ==== Proof.OutValue.lean ====
/- The output call: the kernel's two result arrays are the layer norm of the residual rows (`normed`) and its modulation
   (`modulated`). -/
module

public import proofs.«01_k».proof.Proof.Gen.OutIdeal.Value
public import proofs.«01_k».proof.Proof.OutSpec
public import proofs.«01_k».proof.Proof.ProjectSpec

@[expose] public section

noncomputable section

namespace Cert.OutProof

open Idealize.ShloMosaic hiding ix1 ix2 ix3 eq_ix2
open Idealize.ShloMosaic.TcCoe Idealize.SL.Sem Idealize.ShloMosaic.ValueIdx
open Cert.ProjectProof (truncf_ideal whole_index zero2)
open Cert.OutIdeal Cert.OutIdeal.Gen Cert.OutIdeal.Value

/-! ## The body on a tile of rows -/

/-- A column spread over the tile's entries. -/
theorem tile_spread_apply (v : FVec Ideal S256x1 .f32) (p : Fin 256) (q : Fin 2048) :
    broadcastTo S256x2048 v broadcasts_S256x1_S256x2048 (ix2 p q) = v (ix2 p 0) :=
  broadcastTo_apply v _ _ (ix2 p (0 : Fin 1) : S256x1.Idx) fun a => match a with | ⟨0, _⟩ => rfl | ⟨1, _⟩ => rfl

/-- A row, cast to its own shape, spread over the tile's rows. -/
theorem tile_row_apply (v : FVec Ideal S1x2048 .f32) (p : Fin 256) (q : Fin 2048) :
    broadcastTo S256x2048 (shapeCast S1x2048 v shapeCasts_S1x2048_S1x2048) broadcasts_S1x2048_S256x2048 (ix2 p q) = v (ix2 0 q) :=
  (broadcastTo_1b_ab_apply _ _ p q).trans (shapeCast_apply v _ _ (ix2 (0 : Fin 1) q : S1x2048.Idx) rfl)

/-- The body's mean of each row of `X`. -/
abbrev tileMeans (X : FVec Ideal S256x2048 .f32) : FVec Ideal S256x1 .f32 :=
  divf (shapeCast S256x1 (multiReduction .add [1] S256 X 0x00000000#32 reduces_S256x2048_S256 (.inl rfl) rfl) shapeCasts_S256_S256x1)
    (broadcast S256x1 (Scalar.ofBits (F := Ideal) .f32 0x45000000#32))

theorem tileMeans_apply (X : FVec Ideal S256x2048 .f32) (p : Fin 256) : tileMeans X (ix2 p 0) = mean fun k => X (ix2 p k) := by
  refine congrArg (fun s : EReal => Ideal.div s width) ?_
  refine (shapeCast_apply _ _ _ (ix1 p : S256.Idx) ?_).trans ?_
  · refine (Shape.rowMajor_val_one (d := ![256]) _).trans ((?_ : _ = _).trans (Shape.rowMajor_val_two (d := ![256, 1]) _).symm)
    show p.val = p.val * 1 + 0
    omega
  · exact Ideal.reduceAdd_r2_a1 reduces_S256x2048_S256 X (ix1 p)

/-- The body's layer norm of the rows of `X`. -/
abbrev tileNorm (X : FVec Ideal S256x2048 .f32) (g b : FVec Ideal S1x2048 .f32) : FVec Ideal S256x2048 .f32 :=
  let D := subf X (broadcastTo S256x2048 (tileMeans X) broadcasts_S256x1_S256x2048)
  addf (mulf (mulf D (broadcastTo S256x2048 (rsqrt (addf (tileMeans (mulf D D)) (broadcast S256x1 (Scalar.ofBits (F := Ideal) .f32 0x3727C5AC#32))))
      broadcasts_S256x1_S256x2048)) (broadcastTo S256x2048 (shapeCast S1x2048 g shapeCasts_S1x2048_S1x2048) broadcasts_S1x2048_S256x2048))
    (broadcastTo S256x2048 (shapeCast S1x2048 b shapeCasts_S1x2048_S1x2048) broadcasts_S1x2048_S256x2048)

theorem tileNorm_apply (X : FVec Ideal S256x2048 .f32) (g b : FVec Ideal S1x2048 .f32) (p : Fin 256) (q : Fin 2048) :
    tileNorm X g b (ix2 p q) = normAt (fun k => X (ix2 p k)) q (g (ix2 0 q)) (b (ix2 0 q)) := by
  have hd : ∀ k, subf X (broadcastTo S256x2048 (tileMeans X) broadcasts_S256x1_S256x2048) (ix2 p k) = (X (ix2 p k) - mean fun k => X (ix2 p k) : EReal) :=
    fun k => congrArg (fun v : EReal => X (ix2 p k) - v) ((tile_spread_apply _ p k).trans (tileMeans_apply X p))
  refine congrArg₂ (fun u v : EReal => u + v) (congrArg₂ (fun u v : EReal => u * v) (congrArg₂ (fun u v : EReal => u * v) (hd q) ?_)
    (tile_row_apply g p q)) (tile_row_apply b p q)
  refine (tile_spread_apply _ p q).trans (congrArg (fun s : EReal => Ideal.rsqrt (s + eps)) ?_)
  exact (tileMeans_apply _ p).trans (congrArg mean (funext fun k => congrArg₂ (fun u v : EReal => u * v) (hd k) (hd k)))

/-- The body's residual rows. -/
abbrev tileMixed (x : FVec Ideal S256x2048 .bf16) (w : FVec Ideal S2048x2048 .bf16) (r : FVec Ideal S256x2048 .f32) (gate : FVec Ideal S1x2048 .f32) :
    FVec Ideal S256x2048 .f32 :=
  addf (mulf (broadcast S256x2048 (Scalar.ofBits (F := Ideal) .f32 0x3FD744FD#32)) r)
    (mulf (broadcastTo S256x2048 (shapeCast S1x2048 gate shapeCasts_S1x2048_S1x2048) broadcasts_S1x2048_S256x2048)
      (matmul (DotDims.plain 256 2048 2048) none x (shapeCast S2048x2048 w shapeCasts_S2048x2048_S2048x2048) (constant S256x2048 .f32 0x00000000#32)))

theorem tileMixed_apply (x : FVec Ideal S256x2048 .bf16) (w : FVec Ideal S2048x2048 .bf16) (r : FVec Ideal S256x2048 .f32) (gate : FVec Ideal S1x2048 .f32)
    (p : Fin 256) (q : Fin 2048) :
    tileMixed x w r gate (ix2 p q) = (alpha * r (ix2 p q) + gate (ix2 0 q) * ∑ l : Fin 2048, x (ix2 p l) * w (ix2 l q) : EReal) := by
  refine congrArg (fun s : EReal => alpha * r (ix2 p q) + s) (congrArg₂ (fun u v : EReal => u * v) (tile_row_apply gate p q) ?_)
  refine (Ideal.matmul_plain_apply (M := 256) (K := 2048) (N := 2048) none x (shapeCast S2048x2048 w shapeCasts_S2048x2048_S2048x2048)
    (constant S256x2048 .f32 0x00000000#32) p q).trans ?_
  have ez : (constant (F := Ideal) S256x2048 .f32 0x00000000#32) (ix2 p q) = (0 : EReal) := Ideal.ofBits_zero_f32
  rw [ez, zero_add]
  exact Finset.sum_congr rfl fun l _ => congrArg (fun v : EReal => x (ix2 p l) * v) (shapeCast_apply w _ _ (ix2 l q) rfl)

/-- What the body stores as its first result. -/
theorem first_eq (x : FVec Ideal S256x2048 .bf16) (w : FVec Ideal S2048x2048 .bf16) (r : FVec Ideal S256x2048 .f32) (gate g b : FVec Ideal S1x2048 .f32) :
    k0_pay2 x w r gate g b = tileNorm (tileMixed x w r gate) g b := rfl

/-- What the body stores as its second result, at an entry, from the first. -/
theorem second_apply (y : FVec Ideal S256x2048 .f32) (scale shift : FVec Ideal S1x2048 .f32) (p : Fin 256) (q : Fin 2048) :
    k0_pay1 y scale shift (ix2 p q) = (y (ix2 p q) * (1 + scale (ix2 0 q)) + shift (ix2 0 q) : EReal) := by
  refine congrArg₂ (fun u v : EReal => u + v) (congrArg (fun v : EReal => y (ix2 p q) * v) ?_) (tile_row_apply shift p q)
  refine (broadcastTo_1b_ab_apply _ _ p q).trans (congrArg₂ (fun u v : EReal => u + v) Ideal.ofBits_one_f32 ?_)
  exact shapeCast_apply scale _ _ (ix2 (0 : Fin 1) q : S1x2048.Idx) rfl

/-! ## What the call is given -/

/-- A run of one layer's row of a two-axis array, cast to a vector and back to a row. -/
theorem slice_row_apply {N start : ℕ} (v : FVec Ideal ⟨2, ![4, N]⟩ .f32) (h : (⟨2, ![4, N]⟩ : Shape).Slices ![1, start] S1x2048) (q : Fin 2048)
    (c : Fin N) (hc : c.val = start + q.val) :
    shapeCast S1x2048 (shapeCast S2048 (extractStridedSlice S1x2048 ![1, start] v h) shapeCasts_S1x2048_S2048) shapeCasts_S2048_S1x2048 (ix2 0 q)
      = v (ix2 1 c) := by
  refine (shapeCast_a_1a_apply _ _ 0 q).trans ((shapeCast_1a_a_apply _ _ q).trans
    (extractStridedSlice_apply _ _ _ _ (ix2 (1 : Fin 4) c : (⟨2, ![4, N]⟩ : Shape).Idx) fun a => match a with | ⟨0, _⟩ => rfl | ⟨1, _⟩ => hc))

variable (m : (ℓ : Loc nD τ sig) → Buf (Elt Ideal) ℓ)

/-- The output weights the call is given are the layer's. -/
theorem weights_given (c : Dev nD) (l k : Fin 2048) : V m c main_v2 (ix2 l k) = m ((c : Thread nD τ).loc main_arg1) (ix3 1 l k) := by
  unfold V; after_results
  exact (truncf_ideal (φ := .f32) .bf16 _ bitsLt_bf16_f32 _).trans (weights_slice_apply (m ((c : Thread nD τ).loc main_arg1)) _ _ l k)

theorem gate_given (c : Dev nD) (q : Fin 2048) : V m c main_v5 (ix2 0 q) = modAt (m ((c : Thread nD τ).loc main_arg3)) (start := 4096) (by decide) q := by
  unfold V; after_results
  exact slice_row_apply (m ((c : Thread nD τ).loc main_arg3)) _ q _ rfl

theorem norm_weights_given (c : Dev nD) (q : Fin 2048) : V m c main_v8 (ix2 0 q) = m ((c : Thread nD τ).loc main_arg4) (ix2 1 q) := by
  unfold V; after_results
  exact slice_row_apply (m ((c : Thread nD τ).loc main_arg4)) _ q _ (Nat.zero_add _).symm

theorem norm_biases_given (c : Dev nD) (q : Fin 2048) : V m c main_v11 (ix2 0 q) = m ((c : Thread nD τ).loc main_arg5) (ix2 1 q) := by
  unfold V; after_results
  exact slice_row_apply (m ((c : Thread nD τ).loc main_arg5)) _ q _ (Nat.zero_add _).symm

theorem scale_given (c : Dev nD) (q : Fin 2048) : V m c main_v14 (ix2 0 q) = modAt (m ((c : Thread nD τ).loc main_arg3)) (start := 8192) (by decide) q := by
  unfold V; after_results
  exact slice_row_apply (m ((c : Thread nD τ).loc main_arg3)) _ q _ rfl

theorem shift_given (c : Dev nD) (q : Fin 2048) : V m c main_v17 (ix2 0 q) = modAt (m ((c : Thread nD τ).loc main_arg3)) (start := 6144) (by decide) q := by
  unfold V; after_results
  exact slice_row_apply (m ((c : Thread nD τ).loc main_arg3)) _ q _ rfl

/-! ## Row tiles -/

/-- Row `p` of the `t`-th tile of 256 rows. -/
def tileRow {t : ℕ} (ht : t < 64) (p : Fin 256) : Fin 16384 := ⟨256 * t + p.val, by omega⟩

/-- An index in the block of row tile `t`, by its coordinates. -/
theorem tile_index {t : ℕ} (ht : t < 64) (p : Fin 256) (q : Fin 2048) {r s : ℕ} (hr : r = t) (hs : s = 0) (y : S16384x2048.Idx)
    (h0 : (y 0).val = r * 256 + 1 * p.val) (h1 : (y 1).val = s * 2048 + 1 * q.val) : y = ix2 (tileRow ht p) q := by
  subst hr hs
  funext a
  refine Fin.ext ?_
  match a with
  | ⟨0, _⟩ => exact h0.trans (by show r * 256 + 1 * p.val = 256 * r + p.val; omega)
  | ⟨1, _⟩ => exact h1.trans (by show 0 * 2048 + 1 * q.val = q.val; omega)

/-- An array entry lies in the block of the row tile that holds its row. -/
theorem in_tile (i : S16384x2048.Idx) (idx : Fin 2 → ℕ) (h0 : idx 0 = (i 0).val / 256) (h1 : idx 1 = 0) (a : Fin 2) :
    idx a * S256x2048.size a ≤ (i a).val ∧ (i a).val < idx a * S256x2048.size a + S256x2048.size a := by
  match a with
  | ⟨0, _⟩ => show idx 0 * 256 ≤ (i 0).val ∧ (i 0).val < idx 0 * 256 + 256; rw [h0]; omega
  | ⟨1, _⟩ =>
    have hn : (i 1).val < 2048 := (i 1).isLt
    show idx 1 * 2048 ≤ (i 1).val ∧ (i 1).val < idx 1 * 2048 + 2048
    rw [h1]; omega

/-- Point `t` takes row tile `t` of the merged rows and of the input, and writes row tile `t` of both results. -/
theorem tiled : ∀ t : Fin grid0.N, t.val < 64 ∧ (win0_0.index t (0 : Fin 2) = t.val ∧ win0_0.index t (1 : Fin 2) = 0)
    ∧ (win0_2.index t (0 : Fin 2) = t.val ∧ win0_2.index t (1 : Fin 2) = 0) ∧ (win0_8.index t (0 : Fin 2) = t.val ∧ win0_8.index t (1 : Fin 2) = 0)
    ∧ (win0_9.index t (0 : Fin 2) = t.val ∧ win0_9.index t (1 : Fin 2) = 0) := by decide +kernel

/-- Every point takes all the weights and rows. -/
theorem whole : ∀ t : Fin grid0.N, (win0_1.index t (0 : Fin 2) = 0 ∧ win0_1.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0) := by decide +kernel

theorem merged_block (c : Dev nD) (t : Fin cfg0.N) (p : Fin 256) (k : Fin 2048) :
    iblk m c 0 t (ix2 p k) = m ((c : Thread nD τ).loc main_arg0) (ix2 (tileRow (tiled t).1 p) k) :=
  (congrArg (V m c main_arg0) (tile_index (tiled t).1 p k (tiled t).2.1.1 (tiled t).2.1.2 _ rfl rfl)).trans (congrFun (V_main_arg0 m c) _)

theorem weights_block (c : Dev nD) (t : Fin cfg0.N) (l k : Fin 2048) : iblk m c 1 t (ix2 l k) = m ((c : Thread nD τ).loc main_arg1) (ix3 1 l k) :=
  (congrArg (V m c main_v2) (whole_index l k (whole t).1.1 (whole t).1.2 _ rfl rfl)).trans (weights_given m c l k)

theorem input_block (c : Dev nD) (t : Fin cfg0.N) (p : Fin 256) (k : Fin 2048) :
    iblk m c 2 t (ix2 p k) = m ((c : Thread nD τ).loc main_arg2) (ix2 (tileRow (tiled t).1 p) k) :=
  (congrArg (V m c main_arg2) (tile_index (tiled t).1 p k (tiled t).2.2.1.1 (tiled t).2.2.1.2 _ rfl rfl)).trans (congrFun (V_main_arg2 m c) _)

theorem gate_block (c : Dev nD) (t : Fin cfg0.N) (q : Fin 2048) :
    iblk m c 3 t (ix2 0 q) = modAt (m ((c : Thread nD τ).loc main_arg3)) (start := 4096) (by decide) q :=
  (congrArg (V m c main_v5) (whole_index 0 q (whole t).2.1.1 (whole t).2.1.2 _ rfl rfl)).trans (gate_given m c q)

theorem norm_weights_block (c : Dev nD) (t : Fin cfg0.N) (q : Fin 2048) : iblk m c 4 t (ix2 0 q) = m ((c : Thread nD τ).loc main_arg4) (ix2 1 q) :=
  (congrArg (V m c main_v8) (whole_index 0 q (whole t).2.2.1.1 (whole t).2.2.1.2 _ rfl rfl)).trans (norm_weights_given m c q)

theorem norm_biases_block (c : Dev nD) (t : Fin cfg0.N) (q : Fin 2048) : iblk m c 5 t (ix2 0 q) = m ((c : Thread nD τ).loc main_arg5) (ix2 1 q) :=
  (congrArg (V m c main_v11) (whole_index 0 q (whole t).2.2.2.1.1 (whole t).2.2.2.1.2 _ rfl rfl)).trans (norm_biases_given m c q)

theorem scale_block (c : Dev nD) (t : Fin cfg0.N) (q : Fin 2048) :
    iblk m c 6 t (ix2 0 q) = modAt (m ((c : Thread nD τ).loc main_arg3)) (start := 8192) (by decide) q :=
  (congrArg (V m c main_v14) (whole_index 0 q (whole t).2.2.2.2.1.1 (whole t).2.2.2.2.1.2 _ rfl rfl)).trans (scale_given m c q)

theorem shift_block (c : Dev nD) (t : Fin cfg0.N) (q : Fin 2048) :
    iblk m c 7 t (ix2 0 q) = modAt (m ((c : Thread nD τ).loc main_arg3)) (start := 6144) (by decide) q :=
  (congrArg (V m c main_v17) (whole_index 0 q (whole t).2.2.2.2.2.1 (whole t).2.2.2.2.2.2 _ rfl rfl)).trans (shift_given m c q)

/-! ## The result arrays -/

/-- The first result of the call's arguments. -/
abbrev normedOf (c : Dev nD) : S16384x2048.Idx → Elt Ideal .f32 :=
  normed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The second result of the call's arguments. -/
abbrev modulatedOf (c : Dev nD) : S16384x2048.Idx → Elt Ideal .f32 :=
  modulated (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The body's first result on a point's blocks is the tile's entry of `normed`. -/
theorem first_apply (c : Dev nD) (t : Fin cfg0.N) (p : Fin 256) (q : Fin 2048) :
    k0_pay2 (iblk m c 0 t) (iblk m c 1 t) (iblk m c 2 t) (iblk m c 3 t) (iblk m c 4 t) (iblk m c 5 t) (ix2 p q) = normedOf m c (ix2 (tileRow (tiled t).1 p) q) := by
  rw [first_eq]
  refine (tileNorm_apply _ _ _ p q).trans ?_
  rw [norm_weights_block m c t q, norm_biases_block m c t q]
  refine congrArg (fun f => normAt f q _ _) (funext fun k => ?_)
  refine (tileMixed_apply _ _ _ _ p k).trans (congrArg₂ (fun u v : EReal => u + v) (congrArg (fun v : EReal => alpha * v) (input_block m c t p k))
    (congrArg₂ (fun u v : EReal => u * v) (gate_block m c t k) (Finset.sum_congr rfl fun l _ => congrArg₂ (fun u v : EReal => u * v) (merged_block m c t p l) (weights_block m c t l k))))

/-- What a point writes back to the first result is its block of `normed`. -/
theorem flushed_normed (c : Dev nD) (t : Fin cfg0.N) : (dats m 0 c).flushed 8 t = ((cfg0.win 8).blk t).view.read (Elt Ideal) (normedOf m c) := by
  rw [flushed8]
  unfold out0_8
  rw [View.canon_unit_zero zero2, View.ld_unit_zero (S := S256x2048) zero2, View.ld_unit_zero (S := S2048x2048) zero2, View.ld_unit_zero (S := S256x2048) zero2,
    View.ld_unit_zero (S := S1x2048) zero2, View.ld_unit_zero (S := S1x2048) zero2, View.ld_unit_zero (S := S1x2048) zero2]
  funext y
  obtain ⟨p, q, rfl⟩ : ∃ (p : Fin 256) (q : Fin 2048), y = ix2 p q := ⟨_, _, eq_ix2 y⟩
  exact (first_apply m c t p q).trans (congrArg (normedOf m c) (tile_index (tiled t).1 p q (tiled t).2.2.2.1.1 (tiled t).2.2.2.1.2 _ rfl rfl)).symm

/-- What a point writes back to the second result is its block of `modulated`. -/
theorem flushed_modulated (c : Dev nD) (t : Fin cfg0.N) : (dats m 0 c).flushed 9 t = ((cfg0.win 9).blk t).view.read (Elt Ideal) (modulatedOf m c) := by
  rw [flushed9]
  unfold out0_9
  rw [View.canon_unit_zero zero2, View.ld_unit_zero (S := S256x2048) zero2, View.ld_unit_zero (S := S2048x2048) zero2, View.ld_unit_zero (S := S256x2048) zero2,
    View.ld_unit_zero (S := S1x2048) zero2, View.ld_unit_zero (S := S1x2048) zero2, View.ld_unit_zero (S := S1x2048) zero2, View.ld_unit_zero (S := S1x2048) zero2,
    View.ld_unit_zero (S := S1x2048) zero2]
  funext y
  obtain ⟨p, q, rfl⟩ : ∃ (p : Fin 256) (q : Fin 2048), y = ix2 p q := ⟨_, _, eq_ix2 y⟩
  refine ((second_apply _ _ _ p q).trans ?_).trans
    (congrArg (modulatedOf m c) (tile_index (tiled t).1 p q (tiled t).2.2.2.2.1 (tiled t).2.2.2.2.2 _ rfl rfl)).symm
  exact congrArg₂ (fun u v : EReal => u + v) (congrArg₂ (fun u v : EReal => u * (1 + v)) (first_apply m c t p q) (scale_block m c t q)) (shift_block m c t q)

/-- The point whose tile holds row `i 0`. -/
def pointOf (i : S16384x2048.Idx) : Fin cfg0.N := ⟨(i 0).val / 256, by have h0 : (i 0).val < 16384 := (i 0).isLt; rw [show cfg0.N = 64 from N_0]; omega⟩

/-- The first result's array after the run. -/
theorem final_normed (c : Dev nD) : (dats m 0 c).arrAt 8 cfg0.N = normedOf m c :=
  (dats m 0 c).arrAt_eq_of_cover 8 _ (fun t _ => flushed_normed m c t) fun i => ⟨pointOf i, flush0_8 _, by
    show i ∈ ((View.whole main_v18_0).slice (win0_8.rect (pointOf i))).set
    rw [View.set_slice_whole, Rect.mem_set_unit]
    exact in_tile i (win0_8.index (pointOf i)) (tiled _).2.2.2.1.1 (tiled _).2.2.2.1.2⟩

/-- The second result's array after the run. -/
theorem final_modulated (c : Dev nD) : (dats m 0 c).arrAt 9 cfg0.N = modulatedOf m c :=
  (dats m 0 c).arrAt_eq_of_cover 9 _ (fun t _ => flushed_modulated m c t) fun i => ⟨pointOf i, flush0_9 _, by
    show i ∈ ((View.whole main_v18_1).slice (win0_9.rect (pointOf i))).set
    rw [View.set_slice_whole, Rect.mem_set_unit]
    exact in_tile i (win0_9.index (pointOf i)) (tiled _).2.2.2.2.1 (tiled _).2.2.2.2.2⟩

end Cert.OutProof
-- ==== Proof.ExpertsBody.lean ====
/- One grid point of the experts' call: a block of 256 rows through one expert. The point's two tables say whether the block is
   used and which expert's it is; a used block whose expert is not the one before it first casts that expert's weights into
   scratch. The body is run over any float values, its three cases in one statement. -/
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Frame
public import Idealize.ShloMosaic.Lib.Ring
public import Idealize.ShloMosaic.Lib.Tactic
public import Idealize.ShloMosaic.Lib.Exec
public import Idealize.ShloMosaic.Lib.VecWindow

@[expose] public section

noncomputable section

namespace Cert.ExpertsProof

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two tables as the body is handed them: the experts of the blocks, and the number of blocks used. -/
abbrev tbE : Memref sig .tc .smem S160 .i32 := Memref.whole main_arg0
abbrev tbN : Memref sig .tc .smem S1 .i32 := Memref.whole main_arg1

/-- A table memref's contents on core `c`, and its buffer held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

section Words
variable {c : Dev nD} (i : grid0.Coords) (be : TbBuf (F := F) c tbE) (nu : TbBuf (F := F) c tbN)

/-- The words the body reads at point `i`: the number of blocks used, the expert of the block before, the block's own. -/
abbrev wN : BitVec 32 :=
  (tbN.access (Rect.unit (s := S1) ![0] S1.size inb_S1_S1_0)).read (Elt F) nu (Shape.Idx.first (numel1_S1.symm ▸ Nat.one_pos))
abbrev wP : BitVec 32 :=
  (tbE.access (Rect.unit (s := S160) (k0_off2 i) S1.size (k0_off2_inb i))).read (Elt F) be (Shape.Idx.first (numel1_S1.symm ▸ Nat.one_pos))
abbrev wH : BitVec 32 :=
  (tbE.access (Rect.unit (s := S160) (k0_off1 i) S1.size (k0_off1_inb i))).read (Elt F) be (Shape.Idx.first (numel1_S1.symm ▸ Nat.one_pos))

/-- The condition under which the body casts its expert's weights into scratch, as it computes it. -/
def loads (n p h : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne h p))) : BitVec 32) 0#32

/-- What the three scratch buffers hold after the point: the weights just cast, or what they held. -/
def heldG (n p h : BitVec 32) (g : Vec F S1x1x2048x512 .f32) (s : Vec F S2048x512 .bf16) : Vec F S2048x512 .bf16 :=
  if loads i n p h = 1#1 then k0_pay1 g else s
def heldU (n p h : BitVec 32) (u : Vec F S1x1x2048x512 .f32) (s : Vec F S2048x512 .bf16) : Vec F S2048x512 .bf16 :=
  if loads i n p h = 1#1 then k0_pay2 u else s
def heldD (n p h : BitVec 32) (d : Vec F S1x1x512x2048 .f32) (s : Vec F S512x2048 .bf16) : Vec F S512x2048 .bf16 :=
  if loads i n p h = 1#1 then k0_pay3 d else s
end Words

/-- A buffer stored whole in one case and kept in the other, read back. -/
theorem read_if {s : Shape} {e : EltTy} (v : View sig .tc .vmem s e) {P Q : Prop} [Decidable P] [Decidable Q] (hPQ : P ↔ Q)
    (f : v.ty.Contents (Elt F)) {off : Fin s.rank → ℕ} (inb : ∀ a, off a + s.size a ≤ s.size a) {w y x : s.Idx → Elt F e} (hw : w = y)
    (hx : v.read (Elt F) f = x) :
    v.read (Elt F) (if _hc : P then v.writes (Elt F) f [⟨Rect.unit off s.size inb, w⟩] else f) = if Q then y else x := by
  by_cases h : P
  · rw [dif_pos h, if_pos (hPQ.mp h), View.read_writes_full, hw]
  · rw [dif_neg h, if_neg fun q => h (hPQ.mpr q), hx]

/-- The same of a load of the whole of it. -/
theorem readAt_if {s : Shape} {e : EltTy} (v : View sig .tc .vmem s e) {P Q : Prop} [Decidable P] [Decidable Q] (hPQ : P ↔ Q)
    (f : v.ty.Contents (Elt F)) {off off' : Fin s.rank → ℕ} (inb : ∀ a, off a + s.size a ≤ s.size a) (inb' : ∀ a, off' a + s.size a ≤ s.size a)
    {w y x : s.Idx → Elt F e} (hw : w = y) (hx : v.read (Elt F) f = x) :
    v.readAt (Elt F) (Rect.unit off' s.size inb').toLoadRect (if _hc : P then v.writes (Elt F) f [⟨Rect.unit off s.size inb, w⟩] else f)
      = if Q then y else x :=
  (View.readAt_full ..).trans (read_if v hPQ f inb hw hx)

variable (c : Dev nD) (i : grid0.Coords) (be : TbBuf (F := F) c tbE) (nu : TbBuf (F := F) c tbN)
  (arg3 : Memref sig .tc .vmem S256x2048 .f32) (harg3 : arg3.IsWhole)
  (arg4 : Memref sig .tc .vmem S1x1x2048x512 .f32) (harg4 : arg4.IsWhole)
  (arg5 : Memref sig .tc .vmem S1x1x2048x512 .f32) (harg5 : arg5.IsWhole)
  (arg6 : Memref sig .tc .vmem S1x1x512x2048 .f32) (harg6 : arg6.IsWhole)
  (arg7 : Memref sig .tc .vmem S256x2048 .f32) (harg7 : arg7.IsWhole)
  (arg8 : Memref sig .tc .vmem S2048x512 .bf16) (harg8 : arg8.IsWhole)
  (arg9 : Memref sig .tc .vmem S2048x512 .bf16) (harg9 : arg9.IsWhole)
  (arg10 : Memref sig .tc .vmem S512x2048 .bf16) (harg10 : arg10.IsWhole)
  (x : Vec F S256x2048 .f32) (g u : Vec F S1x1x2048x512 .f32) (d : Vec F S1x1x512x2048 .f32)
  (sg su : Vec F S2048x512 .bf16) (sd : Vec F S512x2048 .bf16)

set_option maxHeartbeats 1000000 in
/-- A used block. -/
theorem run_used (h2 : k0_cond2 i (wN nu) = 1#1) (h3 : ¬k0_cond3 i (wN nu) = 1#1)
    (E : Set ℕ) (K : PUnit → sProp 𝕄) :
    iprop(tbPt c tbE be ∗ tbPt c tbN nu
        ∗ owns (c : Thread nD τ) arg3 fullShare x ∗ owns (c : Thread nD τ) arg4 fullShare g ∗ owns (c : Thread nD τ) arg5 fullShare u
        ∗ owns (c : Thread nD τ) arg6 fullShare d ∗ (∃ y, owns (c : Thread nD τ) arg7 fullShare y)
        ∗ owns (c : Thread nD τ) arg8 fullShare sg ∗ owns (c : Thread nD τ) arg9 fullShare su ∗ owns (c : Thread nD τ) arg10 fullShare sd
        ∗ (iprop(tbPt c tbE be ∗ tbPt c tbN nu
            ∗ owns (c : Thread nD τ) arg3 fullShare x ∗ owns (c : Thread nD τ) arg4 fullShare g ∗ owns (c : Thread nD τ) arg5 fullShare u
            ∗ owns (c : Thread nD τ) arg6 fullShare d
            ∗ owns (c : Thread nD τ) arg7 fullShare (k0_pay4 x (heldG i (wN nu) (wP i be) (wH i be) g sg)
              (heldU i (wN nu) (wP i be) (wH i be) u su) (heldD i (wN nu) (wP i be) (wH i be) d sd))
            ∗ owns (c : Thread nD τ) arg8 fullShare (heldG i (wN nu) (wP i be) (wH i be) g sg)
            ∗ owns (c : Thread nD τ) arg9 fullShare (heldU i (wN nu) (wP i be) (wH i be) u su)
            ∗ owns (c : Thread nD τ) arg10 fullShare (heldD i (wN nu) (wP i be) (wH i be) d sd)) -∗ K ⟨⟩))
      ⊢ wp frame (wpE (defs₀ (F := F)) Variants.none c none) E
          (cc0_moe_experts i tbE (Memref.isWhole_whole _) tbN (Memref.isWhole_whole _) arg3 harg3 arg4 harg4 arg5 harg5 arg6 harg6
            arg7 harg7 arg8 harg8 arg9 harg9 arg10 harg10) K := by
  simp only [cc0_moe_experts_eq_skeleton]; unfold cc0_moe_experts_skel
  unfold owns
  iintro ⟨HE, HN, ⟨%f3, %e3, H3⟩, ⟨%f4, %e4, H4⟩, ⟨%f5, %e5, H5⟩, ⟨%f6, %e6, H6⟩, ⟨%y, %f7, -, H7⟩, ⟨%f8, %e8, H8⟩, ⟨%f9, %e9, H9⟩, ⟨%f10, %e10, H10⟩, Hk⟩
  sl_exec (disch := first | sl_exact h2 | sl_exact h3)
  sl_step
  iapply Hk
  isplitl [HE]
  · iexact HE
  isplitl [HN]
  · iexact HN
  isplitl [H3]
  · iexists _; isplitr
    · ipureintro; exact e3
    iexact H3
  isplitl [H4]
  · iexists _; isplitr
    · ipureintro; exact e4
    iexact H4
  isplitl [H5]
  · iexists _; isplitr
    · ipureintro; exact e5
    iexact H5
  isplitl [H6]
  · iexists _; isplitr
    · ipureintro; exact e6
    iexact H6
  isplitl [H7]
  · iexists _; isplitr
    swap
    · iexact H7
    · ipureintro
      rw [View.read_writes_full, View.readAt_full, e3]
      exact congr (congr (congrArg (k0_pay4 x)
        (readAt_if arg8.view Iff.rfl f8 _ _ (congrArg k0_pay1 ((View.readAt_full ..).trans e4)) e8))
        (readAt_if arg9.view Iff.rfl f9 _ _ (congrArg k0_pay2 ((View.readAt_full ..).trans e5)) e9))
        (readAt_if arg10.view Iff.rfl f10 _ _ (congrArg k0_pay3 ((View.readAt_full ..).trans e6)) e10)
  isplitl [H8]
  · iexists _; isplitr
    swap
    · iexact H8
    · ipureintro; exact read_if arg8.view Iff.rfl f8 _ (congrArg k0_pay1 ((View.readAt_full ..).trans e4)) e8
  isplitl [H9]
  · iexists _; isplitr
    swap
    · iexact H9
    · ipureintro; exact read_if arg9.view Iff.rfl f9 _ (congrArg k0_pay2 ((View.readAt_full ..).trans e5)) e9
  · iexists _; isplitr
    swap
    · iexact H10
    · ipureintro; exact read_if arg10.view Iff.rfl f10 _ (congrArg k0_pay3 ((View.readAt_full ..).trans e6)) e10

set_option maxHeartbeats 1000000 in
/-- A block past the used ones: its output is cleared. -/
theorem run_unused (h2 : ¬k0_cond2 i (wN nu) = 1#1) (h3 : k0_cond3 i (wN nu) = 1#1)
    (E : Set ℕ) (K : PUnit → sProp 𝕄) :
    iprop(tbPt c tbE be ∗ tbPt c tbN nu
        ∗ owns (c : Thread nD τ) arg3 fullShare x ∗ owns (c : Thread nD τ) arg4 fullShare g ∗ owns (c : Thread nD τ) arg5 fullShare u
        ∗ owns (c : Thread nD τ) arg6 fullShare d ∗ (∃ y, owns (c : Thread nD τ) arg7 fullShare y)
        ∗ owns (c : Thread nD τ) arg8 fullShare sg ∗ owns (c : Thread nD τ) arg9 fullShare su ∗ owns (c : Thread nD τ) arg10 fullShare sd
        ∗ (iprop(tbPt c tbE be ∗ tbPt c tbN nu
            ∗ owns (c : Thread nD τ) arg3 fullShare x ∗ owns (c : Thread nD τ) arg4 fullShare g ∗ owns (c : Thread nD τ) arg5 fullShare u
            ∗ owns (c : Thread nD τ) arg6 fullShare d
            ∗ owns (c : Thread nD τ) arg7 fullShare k0_pay5
            ∗ owns (c : Thread nD τ) arg8 fullShare (heldG i (wN nu) (wP i be) (wH i be) g sg)
            ∗ owns (c : Thread nD τ) arg9 fullShare (heldU i (wN nu) (wP i be) (wH i be) u su)
            ∗ owns (c : Thread nD τ) arg10 fullShare (heldD i (wN nu) (wP i be) (wH i be) d sd)) -∗ K ⟨⟩))
      ⊢ wp frame (wpE (defs₀ (F := F)) Variants.none c none) E
          (cc0_moe_experts i tbE (Memref.isWhole_whole _) tbN (Memref.isWhole_whole _) arg3 harg3 arg4 harg4 arg5 harg5 arg6 harg6
            arg7 harg7 arg8 harg8 arg9 harg9 arg10 harg10) K := by
  simp only [cc0_moe_experts_eq_skeleton]; unfold cc0_moe_experts_skel
  unfold owns
  iintro ⟨HE, HN, ⟨%f3, %e3, H3⟩, ⟨%f4, %e4, H4⟩, ⟨%f5, %e5, H5⟩, ⟨%f6, %e6, H6⟩, ⟨%y, %f7, -, H7⟩, ⟨%f8, %e8, H8⟩, ⟨%f9, %e9, H9⟩, ⟨%f10, %e10, H10⟩, Hk⟩
  sl_exec (disch := first | sl_exact h2 | sl_exact h3)
  sl_step
  iapply Hk
  isplitl [HE]
  · iexact HE
  isplitl [HN]
  · iexact HN
  isplitl [H3]
  · iexists _; isplitr
    · ipureintro; exact e3
    iexact H3
  isplitl [H4]
  · iexists _; isplitr
    · ipureintro; exact e4
    iexact H4
  isplitl [H5]
  · iexists _; isplitr
    · ipureintro; exact e5
    iexact H5
  isplitl [H6]
  · iexists _; isplitr
    · ipureintro; exact e6
    iexact H6
  isplitl [H7]
  · iexists _; isplitr
    swap
    · iexact H7
    · ipureintro
      rw [View.read_writes_full]
  isplitl [H8]
  · iexists _; isplitr
    swap
    · iexact H8
    · ipureintro; exact read_if arg8.view Iff.rfl f8 _ (congrArg k0_pay1 ((View.readAt_full ..).trans e4)) e8
  isplitl [H9]
  · iexists _; isplitr
    swap
    · iexact H9
    · ipureintro; exact read_if arg9.view Iff.rfl f9 _ (congrArg k0_pay2 ((View.readAt_full ..).trans e5)) e9
  · iexists _; isplitr
    swap
    · iexact H10
    · ipureintro; exact read_if arg10.view Iff.rfl f10 _ (congrArg k0_pay3 ((View.readAt_full ..).trans e6)) e10

end Cert.ExpertsProof
-- ==== Proof.ExpertsBlocks.lean ====
/- The tables and blocks of the experts' call: the words each grid point reads, which blocks are used, when a point brings its
   own weights, and what each input window holds at a point — the point's own block, fetched there or kept since an earlier
   point of the same expert. -/
module

public import proofs.«01_k».proof.Proof.ExpertsBody
public import Idealize.ShloMosaic.Lib.StableHlo.Predicate
public import Idealize.ShloMosaic.Lib.WordCmp
public import Idealize.ShloMosaic.Lib.ValueLayout

@[expose] public section

noncomputable section

namespace Cert.ExpertsProof

open Cert.ExpertsIdeal Cert.ExpertsIdeal.Gen
open Idealize.ShloMosaic Idealize.ShloMosaic.TcCoe Idealize.ShloMosaic.Tactic Idealize.ShloMosaic.ValueIdx
open Idealize.ShloMosaic.StableHlo Idealize.ShloMosaic.StableHlo.Predicate
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The conditions -/

theorem cond3_iff (i : grid0.Coords) (n : BitVec 32) : k0_cond3 i n = 1#1 ↔ ¬k0_cond2 i n = 1#1 := by
  unfold k0_cond3 k0_cond2
  dsimp only
  generalize Scalar.cmpi .slt (BitVec.ofNat 32 (i 0).val) n = v
  revert v; decide

theorem cond2_iff (i : grid0.Coords) (n : BitVec 32) : k0_cond2 i n = 1#1 ↔ ((i 0).val : ℤ) < n.toInt := by
  have e : k0_cond2 i n = 1#1 ↔ IntOp.cmpi .slt (BitVec.ofNat 32 (i 0).val) n = 1#1 := by
    unfold k0_cond2
    dsimp only
    show _ ↔ Scalar.cmpi .slt (BitVec.ofNat 32 (i 0).val) n = 1#1
    generalize Scalar.cmpi .slt (BitVec.ofNat 32 (i 0).val) n = v
    revert v; decide
  have hi : (i 0).val < 160 := (i 0).isLt
  rw [e, WordCmp.cmpi_slt_eq, ofBool_eq_one_iff, decide_eq_true_iff, toInt_ofNat_small _ (by omega)]

theorem loads_iff (i : grid0.Coords) (n p h : BitVec 32) :
    loads i n p h = 1#1 ↔ k0_cond2 i n = 1#1 ∧ ((i 0).val = 0 ∨ h ≠ p) := by
  have hi : (i 0).val < 160 := (i 0).isLt
  have e0 : (i 0).val = 0 ↔ Scalar.cmpi .eq (BitVec.ofNat 32 (i 0).val) 0#32 = 1#1 := by
    refine Iff.trans ?_ (cmpi_eq_iff (a := BitVec.ofNat 32 (i 0).val) (b := 0#32)).symm
    constructor
    · intro h; rw [h]
    · intro h
      have := congrArg BitVec.toNat h
      rw [BitVec.toNat_ofNat, Nat.mod_eq_of_lt (by omega)] at this
      exact this
  have e1 : h ≠ p ↔ Scalar.cmpi .ne h p = 1#1 := by
    show h ≠ p ↔ BitVec.ofBool (h != p) = 1#1
    rw [ofBool_eq_one_iff, bne_iff_ne]
  rw [e0, e1]
  unfold loads k0_cond2
  show _ ↔ Scalar.cmpi .ne (Scalar.extui (Scalar.cmpi .slt (BitVec.ofNat 32 (i 0).val) n) : BitVec 32) 0#32 = 1#1 ∧ _
  generalize Scalar.cmpi .slt (BitVec.ofNat 32 (i 0).val) n = a
  generalize Scalar.cmpi .eq (BitVec.ofNat 32 (i 0).val) 0#32 = b
  generalize Scalar.cmpi .ne h p = d
  revert a b d; decide

/-! ## The tables -/

theorem coord_val : ∀ t : Fin grid0.N, (grid0.coords t 0).val = t.val := by decide +kernel
theorem off1_eq : ∀ t : Fin grid0.N, k0_off1 (grid0.coords t) = ![t.val] := by decide +kernel
theorem off2_eq : ∀ t : Fin grid0.N, k0_off2 (grid0.coords t) = ![t.val - 1] := by decide +kernel

theorem idxAt (o : Fin 1 → ℕ) (h : ∀ a, o a + S1.size a ≤ S160.size a) (x : S1.Idx) (n : ℕ) (hn : n < 160) (ho : o = ![n]) :
    (Rect.unit (s := S160) o S1.size h).emb x = (ix1 ⟨n, hn⟩ : S160.Idx) := by
  subst ho
  funext a; fin_cases a
  refine Fin.ext ?_
  show n + 1 * (x 0).val = n
  have : (x 0).val < 1 := (x 0).isLt
  omega

variable {c : Dev nD}

theorem wH_eq (be : TbBuf (F := F) c tbE) (t : Fin grid0.N) : wH (grid0.coords t) be = be (ix1 ⟨t.val, t.isLt.trans_eq N_0⟩ : S160.Idx) := by
  unfold wH
  exact congrArg be (idxAt _ _ _ t.val (t.isLt.trans_eq N_0) (off1_eq t))
theorem wP_eq (be : TbBuf (F := F) c tbE) (t : Fin grid0.N) :
    wP (grid0.coords t) be = be (ix1 ⟨t.val - 1, lt_of_le_of_lt (Nat.sub_le _ _) (t.isLt.trans_eq N_0)⟩ : S160.Idx) := by
  unfold wP
  exact congrArg be (idxAt _ _ _ (t.val - 1) _ (off2_eq t))

variable (m : (ℓ : Loc nD τ sig) → Buf (Elt F) ℓ)

/-- The table of the blocks' experts and the number of blocks used, as launched. -/
abbrev expt : S160.Idx → BitVec 32 := m (((0 : Dev nD) : Thread nD τ).loc main_arg0)
abbrev cnt : S1.Idx → BitVec 32 := m (((0 : Dev nD) : Thread nD τ).loc main_arg1)
/-- The tables as the call reads them. -/
def tbl : pre0.Contents (Elt F) := fun k => m (((0 : Dev nD) : Thread nD τ).loc (pre0.ref k))

/-- What the proof asks of the launch memory: every block's word names an expert. -/
def AllOK : Prop := ∀ i : S160.Idx, (expt m i).toNat < 32

theorem cnt_eq : wN (F := F) (c := (0 : Dev nD)) (cnt m) = cnt m (ix1 0) := by
  unfold wN
  refine congrArg (cnt m) ?_
  funext a; fin_cases a; exact Subsingleton.elim (α := Fin 1) _ _

theorem tbl_ok (h : AllOK m) : ok0 (F := F) (tbl m) := by
  have key : ∀ (i : grid0.Coords) (a : Fin 4) , (cc0_transform_1 k0_off1_inb numel1_S1 (tbl m) i a + 1) * S1x1x2048x512.size a ≤ S4x32x2048x512.size a := by
    intro i a
    have hw : (cc0_transform_1 k0_off1_inb numel1_S1 (tbl m) i 1) < 32 := h _
    fin_cases a
    · exact (by decide : (1 + 1) * 1 ≤ 4)
    · show (cc0_transform_1 k0_off1_inb numel1_S1 (tbl m) i 1 + 1) * 1 ≤ 32; omega
    · exact (by decide : (0 + 1) * 2048 ≤ 2048)
    · exact (by decide : (0 + 1) * 512 ≤ 512)
  refine ⟨fun i => ⟨key i, .inl rfl⟩, fun i => ⟨key i, .inl rfl⟩, fun i => ⟨fun a => ?_, .inl rfl⟩⟩
  have hw : (cc0_transform_3 k0_off1_inb numel1_S1 (tbl m) i 1) < 32 := h _
  fin_cases a
  · exact (by decide : (1 + 1) * 1 ≤ 4)
  · show (cc0_transform_3 k0_off1_inb numel1_S1 (tbl m) i 1 + 1) * 1 ≤ 32; omega
  · exact (by decide : (0 + 1) * 512 ≤ 512)
  · exact (by decide : (0 + 1) * 2048 ≤ 2048)

/-! ## The blocks -/

variable (hok : AllOK m)

abbrev adm : (pcfg0 (F := F)).Adm := ⟨tbl m, tbl_ok m hok⟩
abbrev adms : (p : Fin 1) → (pcfgs (F := F) p).Adm := fun _ => adm m hok
abbrev cfgA : Pipeline.Cfg sig Λ₀ := Pipeline.pin (pcfgs (F := F)) (adms m hok) 0

/-- The windows' arrays as launched. -/
abbrev arrs (c : Dev nD) (w : Fin (cfgA m hok).W) : Buf (Elt F) (((cfgA m hok).win w).arr.view.loc (c.tc : Thread nD τ)) :=
  m ((c.tc : Thread nD τ).loc (Pipeline.arrRef (cfgA m hok).spec w))

/-- The expert of block `t`. -/
def ex (t : Fin grid0.N) : Fin 32 := ⟨(expt m (ix1 ⟨t.val, t.isLt.trans_eq N_0⟩)).toNat, hok _⟩

theorem lt160 (t : Fin grid0.N) : t.val < 160 := t.isLt.trans_eq N_0

/-- The rows and the weights of block `t`. -/
def rowsAt (c : Dev nD) (t : Fin grid0.N) : Vec F S256x2048 .f32 := fun j =>
  (m ((c : Thread nD τ).loc main_arg2) : S40960x2048.Idx → Elt F .f32) (ix2 ⟨256 * t.val + (j 0).val, by have := lt160 t; have : (j 0).val < 256 := (j 0).isLt; omega⟩ (j 1))
def gateAt (c : Dev nD) (t : Fin grid0.N) : Vec F S1x1x2048x512 .f32 := fun j =>
  (m ((c : Thread nD τ).loc main_arg3) : S4x32x2048x512.Idx → Elt F .f32) (ix4 1 (ex m hok t) (j 2) (j 3))
def upAt (c : Dev nD) (t : Fin grid0.N) : Vec F S1x1x2048x512 .f32 := fun j =>
  (m ((c : Thread nD τ).loc main_arg4) : S4x32x2048x512.Idx → Elt F .f32) (ix4 1 (ex m hok t) (j 2) (j 3))
def downAt (c : Dev nD) (t : Fin grid0.N) : Vec F S1x1x512x2048 .f32 := fun j =>
  (m ((c : Thread nD τ).loc main_arg5) : S4x32x512x2048.Idx → Elt F .f32) (ix4 1 (ex m hok t) (j 2) (j 3))

theorem map_0 (t : Fin grid0.N) : cc0_transform_0 (grid0.coords t) = ![t.val, 0] :=
  (by decide +kernel : ∀ t : Fin grid0.N, cc0_transform_0 (grid0.coords t) = ![t.val, 0]) t
theorem map_4 (t : Fin grid0.N) : cc0_transform_4 (grid0.coords t) = ![t.val, 0] := map_0 t
theorem index_0 (t : Fin grid0.N) : ((cfgA m hok).win 0).index t = ![t.val, 0] := map_0 t

theorem word_t (t : Fin grid0.N) (n : ℕ) (hn : n < 160) (o : Fin 1 → ℕ) (ho : o = ![n]) (h) (x : S1.Idx) :
    (tbl m 0 : S160.Idx → BitVec 32) ((Rect.unit (s := S160) o S1.size h).emb x) = expt m (ix1 ⟨n, hn⟩) :=
  congrArg (expt m) (idxAt o h x n hn ho)

theorem map_1 (t : Fin grid0.N) : cc0_transform_1 k0_off1_inb numel1_S1 (tbl m) (grid0.coords t) = ![1, (ex m hok t).val, 0, 0] := by
  have hw := congrArg BitVec.toNat (word_t m t t.val (lt160 t) (k0_off1 (grid0.coords t)) (off1_eq t) (k0_off1_inb _) (Shape.Idx.first (numel1_S1.symm ▸ Nat.one_pos)))
  funext a
  fin_cases a
  · rfl
  · exact hw
  · rfl
  · rfl
theorem map_2 (t : Fin grid0.N) : cc0_transform_2 k0_off1_inb numel1_S1 (tbl m) (grid0.coords t) = ![1, (ex m hok t).val, 0, 0] := map_1 m hok t
theorem map_3 (t : Fin grid0.N) : cc0_transform_3 k0_off1_inb numel1_S1 (tbl m) (grid0.coords t) = ![1, (ex m hok t).val, 0, 0] := map_1 m hok t
theorem index_1 (t : Fin grid0.N) : ((cfgA m hok).win 1).index t = ![1, (ex m hok t).val, 0, 0] := map_1 m hok t
theorem index_2 (t : Fin grid0.N) : ((cfgA m hok).win 2).index t = ![1, (ex m hok t).val, 0, 0] := map_1 m hok t
theorem index_3 (t : Fin grid0.N) : ((cfgA m hok).win 3).index t = ![1, (ex m hok t).val, 0, 0] := map_1 m hok t

theorem emb_0 (t : Fin grid0.N) (j : S256x2048.Idx) :
    (((cfgA m hok).win 0).blk t).view.emb j
      = (ix2 ⟨256 * t.val + (j 0).val, by have := lt160 t; have : (j 0).val < 256 := (j 0).isLt; omega⟩ (j 1) : S40960x2048.Idx) := by
  funext a
  fin_cases a
  · refine Fin.ext ?_
    show cc0_transform_0 (grid0.coords t) 0 * 256 + 1 * (j 0).val = 256 * t.val + (j 0).val
    rw [map_0]; show t.val * 256 + 1 * (j 0).val = 256 * t.val + (j 0).val; omega
  · refine Fin.ext ?_
    show cc0_transform_0 (grid0.coords t) 1 * 2048 + 1 * (j 1).val = (j 1).val
    rw [map_0]; show 0 * 2048 + 1 * (j 1).val = (j 1).val; omega
theorem emb_4 (t : Fin grid0.N) (j : S256x2048.Idx) :
    (((cfgA m hok).win 4).blk t).view.emb j
      = (ix2 ⟨256 * t.val + (j 0).val, by have := lt160 t; have : (j 0).val < 256 := (j 0).isLt; omega⟩ (j 1) : S40960x2048.Idx) := by
  funext a
  fin_cases a
  · refine Fin.ext ?_
    show cc0_transform_4 (grid0.coords t) 0 * 256 + 1 * (j 0).val = 256 * t.val + (j 0).val
    rw [map_4]; show t.val * 256 + 1 * (j 0).val = 256 * t.val + (j 0).val; omega
  · refine Fin.ext ?_
    show cc0_transform_4 (grid0.coords t) 1 * 2048 + 1 * (j 1).val = (j 1).val
    rw [map_4]; show 0 * 2048 + 1 * (j 1).val = (j 1).val; omega
theorem emb_1 (t : Fin grid0.N) (j : S1x1x2048x512.Idx) :
    (((cfgA m hok).win 1).blk t).view.emb j = (ix4 1 (ex m hok t) (j 2) (j 3) : S4x32x2048x512.Idx) := by
  have h0 : (j 0).val < 1 := (j 0).isLt
  have h1 : (j 1).val < 1 := (j 1).isLt
  funext a
  fin_cases a
  · refine Fin.ext ?_
    show cc0_transform_1 k0_off1_inb numel1_S1 (tbl m) (grid0.coords t) 0 * 1 + 1 * (j 0).val = 1
    rw [map_1 m hok]; show 1 * 1 + 1 * (j 0).val = 1; omega
  · refine Fin.ext ?_
    show cc0_transform_1 k0_off1_inb numel1_S1 (tbl m) (grid0.coords t) 1 * 1 + 1 * (j 1).val = (ex m hok t).val
    rw [map_1 m hok]; show (ex m hok t).val * 1 + 1 * (j 1).val = (ex m hok t).val; omega
  · refine Fin.ext ?_
    show cc0_transform_1 k0_off1_inb numel1_S1 (tbl m) (grid0.coords t) 2 * 2048 + 1 * (j 2).val = (j 2).val
    rw [map_1 m hok]; show 0 * 2048 + 1 * (j 2).val = (j 2).val; omega
  · refine Fin.ext ?_
    show cc0_transform_1 k0_off1_inb numel1_S1 (tbl m) (grid0.coords t) 3 * 512 + 1 * (j 3).val = (j 3).val
    rw [map_1 m hok]; show 0 * 512 + 1 * (j 3).val = (j 3).val; omega

theorem emb_2 (t : Fin grid0.N) (j : S1x1x2048x512.Idx) :
    (((cfgA m hok).win 2).blk t).view.emb j = (ix4 1 (ex m hok t) (j 2) (j 3) : S4x32x2048x512.Idx) := by
  have h0 : (j 0).val < 1 := (j 0).isLt
  have h1 : (j 1).val < 1 := (j 1).isLt
  funext a
  fin_cases a
  · refine Fin.ext ?_
    show cc0_transform_2 k0_off1_inb numel1_S1 (tbl m) (grid0.coords t) 0 * 1 + 1 * (j 0).val = 1
    rw [map_2 m hok]; show 1 * 1 + 1 * (j 0).val = 1; omega
  · refine Fin.ext ?_
    show cc0_transform_2 k0_off1_inb numel1_S1 (tbl m) (grid0.coords t) 1 * 1 + 1 * (j 1).val = (ex m hok t).val
    rw [map_2 m hok]; show (ex m hok t).val * 1 + 1 * (j 1).val = (ex m hok t).val; omega
  · refine Fin.ext ?_
    show cc0_transform_2 k0_off1_inb numel1_S1 (tbl m) (grid0.coords t) 2 * 2048 + 1 * (j 2).val = (j 2).val
    rw [map_2 m hok]; show 0 * 2048 + 1 * (j 2).val = (j 2).val; omega
  · refine Fin.ext ?_
    show cc0_transform_2 k0_off1_inb numel1_S1 (tbl m) (grid0.coords t) 3 * 512 + 1 * (j 3).val = (j 3).val
    rw [map_2 m hok]; show 0 * 512 + 1 * (j 3).val = (j 3).val; omega

theorem emb_3 (t : Fin grid0.N) (j : S1x1x512x2048.Idx) :
    (((cfgA m hok).win 3).blk t).view.emb j = (ix4 1 (ex m hok t) (j 2) (j 3) : S4x32x512x2048.Idx) := by
  have h0 : (j 0).val < 1 := (j 0).isLt
  have h1 : (j 1).val < 1 := (j 1).isLt
  funext a
  fin_cases a
  · refine Fin.ext ?_
    show cc0_transform_3 k0_off1_inb numel1_S1 (tbl m) (grid0.coords t) 0 * 1 + 1 * (j 0).val = 1
    rw [map_3 m hok]; show 1 * 1 + 1 * (j 0).val = 1; omega
  · refine Fin.ext ?_
    show cc0_transform_3 k0_off1_inb numel1_S1 (tbl m) (grid0.coords t) 1 * 1 + 1 * (j 1).val = (ex m hok t).val
    rw [map_3 m hok]; show (ex m hok t).val * 1 + 1 * (j 1).val = (ex m hok t).val; omega
  · refine Fin.ext ?_
    show cc0_transform_3 k0_off1_inb numel1_S1 (tbl m) (grid0.coords t) 2 * 512 + 1 * (j 2).val = (j 2).val
    rw [map_3 m hok]; show 0 * 512 + 1 * (j 2).val = (j 2).val; omega
  · refine Fin.ext ?_
    show cc0_transform_3 k0_off1_inb numel1_S1 (tbl m) (grid0.coords t) 3 * 2048 + 1 * (j 3).val = (j 3).val
    rw [map_3 m hok]; show 0 * 2048 + 1 * (j 3).val = (j 3).val; omega

/-- Two neighbouring points of the same expert stage the same weights. -/
theorem ex_same (t t' : Fin grid0.N) (h : ![1, (ex m hok t).val, 0, 0] = (![1, (ex m hok t').val, 0, 0] : Fin 4 → ℕ)) : ex m hok t = ex m hok t' :=
  Fin.ext (congrFun h 1)

/-- What an input window that is never cut holds at a point is the point's own block, when points that share an index share it. -/
theorem held_eq [∀ e, Nonempty (Elt F e)] (cfg : Pipeline.Cfg sig Λ₀) (c : Dev nD)
    (A : (w : Fin cfg.W) → Buf (Elt F) ((cfg.win w).arr.view.loc (c.tc : Thread nD τ))) (w : Fin cfg.W) (hin : (cfg.win w).isOut = false)
    (hclip : ∀ (i : cfg.grid.Coords) a, (cfg.win w).clip i a = none)
    (V : Fin cfg.N → (cfg.win w).block.Idx → Elt F (cfg.win w).elt)
    (hread : ∀ (t : Fin cfg.N) (j : ((cfg.win w).xblock (cfg.grid.coords t)).Idx),
      ((cfg.win w).blk t).view.read (Elt F) (A w) j = V t ((cfg.win w).xinj (cfg.grid.coords t) j))
    (hkeep : ∀ t t' : Fin cfg.N, (cfg.win w).index t = (cfg.win w).index t' → V t = V t') :
    ∀ (n : ℕ) (h : n < cfg.N), Pipeline.heldIn cfg A w n h = V ⟨n, h⟩ := by
  have hfetch : ∀ t : Fin cfg.N, (cfg.win w).fetch t = true → Pipeline.heldIn cfg A w t.val t.isLt = V t := by
    intro t hf
    rw [Pipeline.heldIn_of_fetch A w t hf]
    funext j
    have hm : (cfg.win w).moved (cfg.grid.coords t) j = true :=
      ((cfg.win w).moved_iff _ j).mpr fun a => by have := (j a).isLt; unfold Pipeline.Window.xsize; rw [hclip]; exact this
    unfold Pipeline.Window.fill
    rw [dif_pos hm, hread]
  intro n
  induction n with
  | zero => exact fun h => hfetch ⟨0, h⟩ (((cfg.win w).fetch_in hin ⟨0, h⟩).mpr (.inl rfl))
  | succ n ih =>
    intro h
    by_cases hf : (cfg.win w).fetch ⟨n + 1, h⟩ = true
    · exact hfetch ⟨n + 1, h⟩ hf
    · rw [Pipeline.heldIn_of_not_fetch A w n h (Bool.eq_false_iff.mpr hf), ih]
      refine hkeep _ _ ?_
      by_contra hne
      exact hf (((cfg.win w).fetch_in hin ⟨n + 1, h⟩).mpr (.inr ⟨Nat.succ_pos n, fun e => hne e.symm⟩))

section Held
variable [∀ e, Nonempty (Elt F e)]

theorem held_0 (c : Dev nD) (n : ℕ) (h : n < grid0.N) :
    Pipeline.heldIn (cfgA m hok) (arrs m hok c) 0 n h = rowsAt m c ⟨n, h⟩ :=
  held_eq (cfgA m hok) c (arrs m hok c) 0 rfl (fun _ _ => rfl) (rowsAt m c)
    (fun t j => congrArg (m ((c : Thread nD τ).loc main_arg2)) (emb_0 m hok t j))
    (fun t t' e => by
      have : t = t' := Fin.ext (congrFun ((index_0 m hok t).symm.trans (e.trans (index_0 m hok t'))) 0)
      rw [this]) n h
theorem held_1 (c : Dev nD) (n : ℕ) (h : n < grid0.N) :
    Pipeline.heldIn (cfgA m hok) (arrs m hok c) 1 n h = gateAt m hok c ⟨n, h⟩ :=
  held_eq (cfgA m hok) c (arrs m hok c) 1 rfl (fun _ _ => rfl) (gateAt m hok c)
    (fun t j => congrArg (m ((c : Thread nD τ).loc main_arg3)) (emb_1 m hok t j))
    (fun t t' e => by
      have := ex_same m hok t t' ((index_1 m hok t).symm.trans (e.trans (index_1 m hok t')))
      unfold gateAt; rw [this]) n h
theorem held_2 (c : Dev nD) (n : ℕ) (h : n < grid0.N) :
    Pipeline.heldIn (cfgA m hok) (arrs m hok c) 2 n h = upAt m hok c ⟨n, h⟩ :=
  held_eq (cfgA m hok) c (arrs m hok c) 2 rfl (fun _ _ => rfl) (upAt m hok c)
    (fun t j => congrArg (m ((c : Thread nD τ).loc main_arg4)) (emb_2 m hok t j))
    (fun t t' e => by
      have := ex_same m hok t t' ((index_2 m hok t).symm.trans (e.trans (index_2 m hok t')))
      unfold upAt; rw [this]) n h
theorem held_3 (c : Dev nD) (n : ℕ) (h : n < grid0.N) :
    Pipeline.heldIn (cfgA m hok) (arrs m hok c) 3 n h = downAt m hok c ⟨n, h⟩ :=
  held_eq (cfgA m hok) c (arrs m hok c) 3 rfl (fun _ _ => rfl) (downAt m hok c)
    (fun t j => congrArg (m ((c : Thread nD τ).loc main_arg5)) (emb_3 m hok t j))
    (fun t t' e => by
      have := ex_same m hok t t' ((index_3 m hok t).symm.trans (e.trans (index_3 m hok t')))
      unfold downAt; rw [this]) n h

end Held

end Cert.ExpertsProof
-- ==== Proof.ExpertsLaunch.lean ====
/- The experts' call run over its 160 grid points: between points the scratch holds the weights of the last used block, the two
   tables are held at half the share, and every weakly fair run from a memory whose words name experts terminates with the
   arguments unchanged, the semaphores at zero and each output block at what its point leaves. For any float values. -/
module

public import proofs.«01_k».proof.Proof.ExpertsBlocks

@[expose] public section

noncomputable section

namespace Cert.ExpertsProof

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation FramePost)

variable {F : FTy → Type} [FloatOps F]

local notation "𝕄" => MT nD τ sig Unit (Elt F) ℕ (UR sig nD τ) ℕ

variable (m : (ℓ : Loc nD τ sig) → Buf (Elt F) ℓ) (ρ : Dev nD → PrngReg) (hok : AllOK m)

/-- Block `t` is used. -/
def Used (t : Fin grid0.N) : Prop := k0_cond2 (grid0.coords t) (cnt m (ix1 0)) = 1#1
instance (t : Fin grid0.N) : Decidable (Used m t) := inferInstanceAs (Decidable (_ = _))

theorem used_iff (t : Fin grid0.N) : Used m t ↔ (t.val : ℤ) < (cnt m (ix1 0)).toInt := by
  unfold Used; rw [cond2_iff, coord_val]

/-- The scratch before point `p`: the weights of the block before, if that block is used. -/
def Kept (c : Dev nD) (p : ℕ) (sg su : Vec F S2048x512 .bf16) (sd : Vec F S512x2048 .bf16) : Prop :=
  ∀ t : Fin grid0.N, t.val + 1 = p → Used m t → sg = k0_pay1 (gateAt m hok c t) ∧ su = k0_pay2 (upAt m hok c t) ∧ sd = k0_pay3 (downAt m hok c t)

/-- The output block of point `t`. -/
def outAt (c : Dev nD) (t : Fin grid0.N) : Vec F S256x2048 .f32 :=
  if Used m t then k0_pay4 (rowsAt m c t) (k0_pay1 (gateAt m hok c t)) (k0_pay2 (upAt m hok c t)) (k0_pay3 (downAt m hok c t)) else k0_pay5

/-- After a used point the scratch holds its own block's weights. -/
theorem kept_step (c : Dev nD) (t : Fin grid0.N) (sg su : Vec F S2048x512 .bf16) (sd : Vec F S512x2048 .bf16)
    (hk : Kept m hok c t.val sg su sd) (hu : Used m t) :
    heldG (grid0.coords t) (cnt m (ix1 0)) (wP (F := F) (c := (0 : Dev nD)) (grid0.coords t) (expt m)) (wH (F := F) (c := (0 : Dev nD)) (grid0.coords t) (expt m)) (gateAt m hok c t) sg
        = k0_pay1 (gateAt m hok c t)
      ∧ heldU (grid0.coords t) (cnt m (ix1 0)) (wP (F := F) (c := (0 : Dev nD)) (grid0.coords t) (expt m)) (wH (F := F) (c := (0 : Dev nD)) (grid0.coords t) (expt m)) (upAt m hok c t) su
        = k0_pay2 (upAt m hok c t)
      ∧ heldD (grid0.coords t) (cnt m (ix1 0)) (wP (F := F) (c := (0 : Dev nD)) (grid0.coords t) (expt m)) (wH (F := F) (c := (0 : Dev nD)) (grid0.coords t) (expt m)) (downAt m hok c t) sd
        = k0_pay3 (downAt m hok c t) := by
  unfold heldG heldU heldD
  by_cases hl : loads (grid0.coords t) (cnt m (ix1 0)) (wP (F := F) (c := (0 : Dev nD)) (grid0.coords t) (expt m)) (wH (F := F) (c := (0 : Dev nD)) (grid0.coords t) (expt m)) = 1#1
  · rw [if_pos hl, if_pos hl, if_pos hl]; exact ⟨rfl, rfl, rfl⟩
  · rw [if_neg hl, if_neg hl, if_neg hl]
    rw [loads_iff, coord_val] at hl
    have hn := not_or.mp fun h => hl ⟨hu, h⟩
    have hp : 0 < t.val := Nat.pos_of_ne_zero hn.1
    have he := not_not.mp hn.2
    rw [wH_eq, wP_eq] at he
    have hu' : Used m ⟨t.val - 1, lt_of_le_of_lt (Nat.sub_le _ _) t.isLt⟩ := by
      rw [used_iff] at hu ⊢
      have : ((t.val - 1 : ℕ) : ℤ) ≤ (t.val : ℤ) := by omega
      exact lt_of_le_of_lt this hu
    have hx : ex m hok ⟨t.val - 1, lt_of_le_of_lt (Nat.sub_le _ _) t.isLt⟩ = ex m hok t := by
      refine Fin.ext ?_
      show (expt m _).toNat = (expt m _).toNat
      exact congrArg BitVec.toNat he.symm
    obtain ⟨e1, e2, e3⟩ := hk ⟨t.val - 1, lt_of_le_of_lt (Nat.sub_le _ _) t.isLt⟩ (Nat.sub_add_cancel hp) hu'
    refine ⟨e1.trans ?_, e2.trans ?_, e3.trans ?_⟩
    · unfold gateAt; rw [hx]
    · unfold upAt; rw [hx]
    · unfold downAt; rw [hx]

/-- The invariant between points. -/
def Phi (c : Dev nD) (p : ℕ) : sProp 𝕄 :=
  iprop(∃ sg : Vec F S2048x512 .bf16, ∃ su : Vec F S2048x512 .bf16, ∃ sd : Vec F S512x2048 .bf16, ⌜Kept m hok c p sg su sd⌝
    ∗ owns (c : Thread nD τ) (Memref.whole cc0_scratch0) fullShare sg ∗ owns (c : Thread nD τ) (Memref.whole cc0_scratch1) fullShare su
    ∗ owns (c : Thread nD τ) (Memref.whole cc0_scratch2) fullShare sd ∗ (∃ r, prngReg c r)
    ∗ tbPt c tbE (m ((c : Thread nD τ).loc main_arg0)) ∗ tbPt c tbN (m ((c : Thread nD τ).loc main_arg1)))

/-- One grid point, the staged blocks owned. -/
theorem point_run (t : Fin grid0.N)
    (arg3 : Memref sig .tc .vmem S256x2048 .f32) (harg3 : arg3.IsWhole)
    (arg4 : Memref sig .tc .vmem S1x1x2048x512 .f32) (harg4 : arg4.IsWhole)
    (arg5 : Memref sig .tc .vmem S1x1x2048x512 .f32) (harg5 : arg5.IsWhole)
    (arg6 : Memref sig .tc .vmem S1x1x512x2048 .f32) (harg6 : arg6.IsWhole)
    (arg7 : Memref sig .tc .vmem S256x2048 .f32) (harg7 : arg7.IsWhole)
    (Q : PUnit → sProp 𝕄) :
    iprop(Phi m hok 0 t.val
        ∗ owns ((0 : Dev nD) : Thread nD τ) arg3 fullShare (rowsAt m 0 t) ∗ owns ((0 : Dev nD) : Thread nD τ) arg4 fullShare (gateAt m hok 0 t)
        ∗ owns ((0 : Dev nD) : Thread nD τ) arg5 fullShare (upAt m hok 0 t) ∗ owns ((0 : Dev nD) : Thread nD τ) arg6 fullShare (downAt m hok 0 t)
        ∗ (∃ y, owns ((0 : Dev nD) : Thread nD τ) arg7 fullShare y)
        ∗ (iprop(Phi m hok 0 (t.val + 1)
            ∗ owns ((0 : Dev nD) : Thread nD τ) arg3 fullShare (rowsAt m 0 t) ∗ owns ((0 : Dev nD) : Thread nD τ) arg4 fullShare (gateAt m hok 0 t)
            ∗ owns ((0 : Dev nD) : Thread nD τ) arg5 fullShare (upAt m hok 0 t) ∗ owns ((0 : Dev nD) : Thread nD τ) arg6 fullShare (downAt m hok 0 t)
            ∗ owns ((0 : Dev nD) : Thread nD τ) arg7 fullShare (outAt m hok 0 t)) -∗ Q ⟨⟩))
      ⊢ wp frame (wpE (defs₀ (F := F)) Variants.none (0 : Dev nD) none) Set.univ
          (cc0_moe_experts (grid0.coords t) tbE (Memref.isWhole_whole _) tbN (Memref.isWhole_whole _) arg3 harg3 arg4 harg4 arg5 harg5 arg6 harg6
            arg7 harg7 (Memref.whole cc0_scratch0) (Memref.isWhole_whole _) (Memref.whole cc0_scratch1) (Memref.isWhole_whole _)
            (Memref.whole cc0_scratch2) (Memref.isWhole_whole _)) Q := by
  unfold Phi
  iintro ⟨⟨%sg, %su, %sd, %hk, H8, H9, H10, Hp, HE, HN⟩, H3, H4, H5, H6, H7, Hk⟩
  by_cases hu : Used m t
  · obtain ⟨e1, e2, e3⟩ := kept_step m hok 0 t sg su sd hk hu
    have hu2 : k0_cond2 (grid0.coords t) (wN (F := F) (c := (0 : Dev nD)) (cnt m)) = 1#1 := by rw [cnt_eq]; exact hu
    iapply (run_used 0 (grid0.coords t) (expt m) (cnt m) arg3 harg3 arg4 harg4 arg5 harg5 arg6 harg6 arg7 harg7
      (Memref.whole cc0_scratch0) (Memref.isWhole_whole _) (Memref.whole cc0_scratch1) (Memref.isWhole_whole _)
      (Memref.whole cc0_scratch2) (Memref.isWhole_whole _) (rowsAt m 0 t) (gateAt m hok 0 t) (upAt m hok 0 t) (downAt m hok 0 t) sg su sd
      hu2 (fun h => (cond3_iff _ _).mp h hu2) Set.univ Q)
    rw [cnt_eq, e1, e2, e3]
    isplitl [HE]; · iexact HE
    isplitl [HN]; · iexact HN
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨HE, HN, H3, H4, H5, H6, H7, H8, H9, H10⟩
    iapply Hk
    isplitl [H8 H9 H10 Hp HE HN]
    · iexists _, _, _
      isplitr
      swap
      · isplitl [H8]; · iexact H8
        isplitl [H9]; · iexact H9
        isplitl [H10]; · iexact H10
        isplitl [Hp]; · iexact Hp
        isplitl [HE]; · iexact HE
        iexact HN
      · ipureintro
        intro t' ht' _
        obtain rfl : t' = t := Fin.ext (Nat.succ.inj ht')
        exact ⟨rfl, rfl, rfl⟩
    isplitl [H3]; · iexact H3
    isplitl [H4]; · iexact H4
    isplitl [H5]; · iexact H5
    isplitl [H6]; · iexact H6
    unfold outAt
    rw [if_pos hu]
    iexact H7
  · have hu2 : ¬k0_cond2 (grid0.coords t) (wN (F := F) (c := (0 : Dev nD)) (cnt m)) = 1#1 := by rw [cnt_eq]; exact hu
    iapply (run_unused 0 (grid0.coords t) (expt m) (cnt m) arg3 harg3 arg4 harg4 arg5 harg5 arg6 harg6 arg7 harg7
      (Memref.whole cc0_scratch0) (Memref.isWhole_whole _) (Memref.whole cc0_scratch1) (Memref.isWhole_whole _)
      (Memref.whole cc0_scratch2) (Memref.isWhole_whole _) (rowsAt m 0 t) (gateAt m hok 0 t) (upAt m hok 0 t) (downAt m hok 0 t) sg su sd
      hu2 ((cond3_iff _ _).mpr hu2) Set.univ Q)
    isplitl [HE]; · iexact HE
    isplitl [HN]; · iexact HN
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨HE, HN, H3, H4, H5, H6, H7, H8, H9, H10⟩
    iapply Hk
    isplitl [H8 H9 H10 Hp HE HN]
    · iexists _, _, _
      isplitr
      swap
      · isplitl [H8]; · iexact H8
        isplitl [H9]; · iexact H9
        isplitl [H10]; · iexact H10
        isplitl [Hp]; · iexact Hp
        isplitl [HE]; · iexact HE
        iexact HN
      · ipureintro
        intro t' ht' hu'
        obtain rfl : t' = t := Fin.ext (Nat.succ.inj ht')
        exact absurd hu' hu
    isplitl [H3]; · iexact H3
    isplitl [H4]; · iexact H4
    isplitl [H5]; · iexact H5
    isplitl [H6]; · iexact H6
    unfold outAt
    rw [if_neg hu]
    iexact H7

/-! ## The proof data -/

section Data
variable [∀ e, Nonempty (Elt F e)]

def dats (_ : Fin 1) (c : Dev nD) : Dat τ (Elt F) Unit ℕ (UR sig nD τ) ℕ (cfgA m hok) c where
  A w := arrs m hok c w
  after w t := match w with
    | ⟨0, _⟩ => rowsAt m c t
    | ⟨1, _⟩ => gateAt m hok c t
    | ⟨2, _⟩ => upAt m hok c t
    | ⟨3, _⟩ => downAt m hok c t
    | ⟨4, _⟩ => outAt m hok c t
  Φ t := Phi m hok c t.val
  q _ := fullShare
  owed _ := 0

theorem before_0 (c : Dev nD) (t : Fin (cfgA m hok).N) (d) : (dats m hok 0 c).before 0 t d = rowsAt m c t :=
  ((dats m hok 0 c).before_eq_heldIn 0 rfl (fun _ => rfl) (fun _ _ => rfl) (fun t => (held_0 m hok c t.val t.isLt).symm) t d).trans
    (held_0 m hok c t.val t.isLt)
theorem before_1 (c : Dev nD) (t : Fin (cfgA m hok).N) (d) : (dats m hok 0 c).before 1 t d = gateAt m hok c t :=
  ((dats m hok 0 c).before_eq_heldIn 1 rfl (fun _ => rfl) (fun _ _ => rfl) (fun t => (held_1 m hok c t.val t.isLt).symm) t d).trans
    (held_1 m hok c t.val t.isLt)
theorem before_2 (c : Dev nD) (t : Fin (cfgA m hok).N) (d) : (dats m hok 0 c).before 2 t d = upAt m hok c t :=
  ((dats m hok 0 c).before_eq_heldIn 2 rfl (fun _ => rfl) (fun _ _ => rfl) (fun t => (held_2 m hok c t.val t.isLt).symm) t d).trans
    (held_2 m hok c t.val t.isLt)
theorem before_3 (c : Dev nD) (t : Fin (cfgA m hok).N) (d) : (dats m hok 0 c).before 3 t d = downAt m hok c t :=
  ((dats m hok 0 c).before_eq_heldIn 3 rfl (fun _ => rfl) (fun _ _ => rfl) (fun t => (held_3 m hok c t.val t.isLt).symm) t d).trans
    (held_3 m hok c t.val t.isLt)

/-- The output block is stored at every point: one of the two conditions holds. -/
theorem idle_4 (i : grid0.Coords) : idle0 (tbl m) 4 i = false := by
  show (!(k0_cond2 i _ == 1#1) && !(k0_cond3 i _ == 1#1)) = false
  by_cases h : k0_cond2 i ((tbl m).atD 1 ![0]) = 1#1
  · rw [h]; rfl
  · rw [(cond3_iff i _).mpr h, Bool.and_eq_false_iff]; exact .inr rfl

set_option maxRecDepth 16384 in
/-- The body obligation. -/
theorem body_obligation (c : Dev nD) : BodyObligation (dats m hok 0 c) (defs₀ (F := F)) Variants.none () Set.univ := fun t => by
  obtain rfl : c = 0 := Subsingleton.elim _ _
  rw [bigSep_W0, bigSep_W0]
  rw [show (dats m hok 0 0).Φ t.castSucc = Phi m hok 0 t.val from rfl, show (dats m hok 0 0).Φ t.succ = Phi m hok 0 (t.val + 1) from rfl]
  unfold Dat.owesAt Pipeline.owesWithin
  rw [show (dats m hok 0 0).owed t.castSucc = 0 from rfl, show (dats m hok 0 0).owed t.succ = 0 from rfl]
  iintro ⟨HΦ, ⟨%W, %hW, HO⟩, ⟨%d0, H0⟩, ⟨%d1, H1⟩, ⟨%d2, H2⟩, ⟨%d3, H3⟩, ⟨%d4, H4⟩⟩
  rw [before_0 m hok 0 t d0, before_1 m hok 0 t d1, before_2 m hok 0 t d2, before_3 m hok 0 t d3]
  iapply (point_run m hok t ((spec0 0).stage ((cfgA m hok).slots t 0)) (hstage0_0 (((cfgA m hok).slots t 0).cast nbuf0_0))
    ((spec0 1).stage ((cfgA m hok).slots t 1)) (hstage0_1 (((cfgA m hok).slots t 1).cast nbuf0_1))
    ((spec0 2).stage ((cfgA m hok).slots t 2)) (hstage0_2 (((cfgA m hok).slots t 2).cast nbuf0_2))
    ((spec0 3).stage ((cfgA m hok).slots t 3)) (hstage0_3 (((cfgA m hok).slots t 3).cast nbuf0_3))
    ((spec0 4).stage ((cfgA m hok).slots t 4)) (hstage0_4 (((cfgA m hok).slots t 4).cast nbuf0_4)))
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, H4⟩
  isplitl [HΦ]; · iexact HΦ
  isplitl [HO]
  · iexists W; isplitr; · ipureintro; exact fun _ _ => Or.inl trivial
    iexact HO
  isplitl [H0]; · iexact H0
  isplitl [H1]; · iexact H1
  isplitl [H2]; · iexact H2
  isplitl [H3]; · iexact H3
  generalize hb : (cfgA m hok).idle 4 _ = b
  obtain rfl : b = false := hb.symm.trans (idle_4 m _)
  iexact H4

/-! ## The run -/

/-- The two tables as the pipeline holds them. -/
theorem tables_eq : (Pipeline.ΦT pre0 (adm m hok).1 (0 : Dev nD) : sProp 𝕄)
    = iprop(tbPt 0 tbE (m (((0 : Dev nD) : Thread nD τ).loc main_arg0)) ∗ tbPt 0 tbN (m (((0 : Dev nD) : Thread nD τ).loc main_arg1))) := by
  unfold Pipeline.ΦT Pipeline.prefHeld
  rw [show (Finset.univ : Finset (Fin 2)) = insert (0 : Fin 2) {(1 : Fin 2)} from by decide, bigSep_insert (by decide), bigSep_singleton]
  rfl

/-- What the launch hands over opens to the invariant before the first point. -/
theorem phi_in (c : Dev nD) : iprop(Pipeline.ΦA spec0 c ∗ Pipeline.ΦT pre0 (adm m hok).1 c) ⊢ (Phi m hok c 0 : sProp 𝕄) := by
  obtain rfl : c = 0 := Subsingleton.elim _ _
  rw [tables_eq]
  unfold Pipeline.ΦA
  rw [scopedRest0_eq]
  unfold Phi owns
  rw [(Memref.isWhole_whole cc0_scratch0).set_eq_univ, (Memref.isWhole_whole cc0_scratch1).set_eq_univ, (Memref.isWhole_whole cc0_scratch2).set_eq_univ]
  iintro ⟨⟨⟨⟨%f0, H0⟩, ⟨%f1, H1⟩, ⟨%f2, H2⟩⟩, Hp⟩, HE, HN⟩
  iexists (f0 : S2048x512.Idx → _); iexists (f1 : S2048x512.Idx → _); iexists (f2 : S512x2048.Idx → _)
  isplitr
  · ipureintro; intro t ht; exact absurd ht (Nat.succ_ne_zero _)
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hp]; · iexact Hp
  isplitl [HE]; · iexact HE
  iexact HN

/-- The invariant after the last point gives back what the launch handed over. -/
theorem phi_out (c : Dev nD) (p : ℕ) : (Phi m hok c p : sProp 𝕄) ⊢ Pipeline.ΦA spec0 c := by
  unfold Pipeline.ΦA
  rw [scopedRest0_eq]
  unfold Phi owns
  rw [(Memref.isWhole_whole cc0_scratch0).set_eq_univ, (Memref.isWhole_whole cc0_scratch1).set_eq_univ, (Memref.isWhole_whole cc0_scratch2).set_eq_univ]
  iintro ⟨%sg, %su, %sd, -, ⟨%f0, -, H0⟩, ⟨%f1, -, H1⟩, ⟨%f2, -, H2⟩, Hp, -, -⟩
  isplitr [Hp]
  · isplitl [H0]; · iexists f0; iexact H0
    isplitl [H1]; · iexists f1; iexact H1
    iexists f2; iexact H2
  iexact Hp

theorem run_quiescent :
    θ_run defs (onTc (τ := τ) (main (F := F))) ⟨m, fun _ => 0, ρ⟩
      (fun r => FramePost (Pipeline.pin pcfgs (adms m hok)) (dats m hok) 0 (fun c b => m ((c : Thread nD τ).loc b)) r ∧ r.2.sem = fun _ => 0) :=
  Pipeline.θ_run_frameP_track pcfgs (adms m hok) (dats m hok) 0 launch0 defs₀ Variants.none m ρ main
    (hbody := fun c => (body_obligation m hok c).loose) (hshare := fun c => (dats m hok 0 c).share_full fun _ => rfl)
    (howed := fun _ _ => rfl) (V := fun c b => m ((c : Thread nD τ).loc b))
    (hmain := Pipeline.hmainP_region pcfgs 0 defs₀ Variants.none m main fun _ => rfl)
    (hA := fun _ _ => rfl) (hpf := fun c k => by obtain rfl : c = 0 := Subsingleton.elim _ _; rfl)
    (hin := fun c => phi_in m hok c) (hout := fun c => phi_out m hok c _) (Q' := _)

/-- The frame, and the result as the write-backs leave it. -/
theorem run_main :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_v0) = (dats m hok 0 c).arrAt 4 (cfgA m hok).N)
      ∧ r.2.sem = fun _ => 0) :=
  (run_quiescent m ρ hok).mono fun r ⟨h, hz⟩ => ⟨fun c => ⟨
    (h c).2 main_arg0 (show main_arg0 ∈ Pipeline.restRefs sig spec0 from by decide), (h c).2 main_arg1 (show main_arg1 ∈ Pipeline.restRefs sig spec0 from by decide),
    ((h c).1 0).trans ((dats m hok 0 c).arrAt_in 0 rfl _), ((h c).1 1).trans ((dats m hok 0 c).arrAt_in 1 rfl _),
    ((h c).1 2).trans ((dats m hok 0 c).arrAt_in 2 rfl _), ((h c).1 3).trans ((dats m hok 0 c).arrAt_in 3 rfl _),
    (h c).1 4⟩, hz⟩

/-! ## The result array -/

/-- Every point writes its output block back: the next point's block is another. -/
theorem flush_4 (t : Fin grid0.N) : ((cfgA m hok).win 4).flush t = true := by
  show Pipeline.Window.flushOf grid0 true cc0_transform_4 t = true
  unfold Pipeline.Window.flushOf
  simp only [Bool.true_and, Bool.or_eq_true, decide_eq_true_eq]
  by_cases h : t.val + 1 = grid0.N
  · exact .inl h
  · refine .inr ⟨by have := t.isLt; omega, fun e => ?_⟩
    have e0 : t.val + 1 = t.val := congrFun ((map_4 _).symm.trans (e.trans (map_4 t))) (0 : Fin 2)
    omega

/-- The point of a row. -/
def pointOf (i : S40960x2048.Idx) : Fin grid0.N :=
  ⟨(i 0).val / 256, by rw [show grid0.N = 160 from rfl]; have : (i 0).val < 40960 := (i 0).isLt; omega⟩
/-- The place of a row in its block. -/
def placeOf (i : S40960x2048.Idx) : S256x2048.Idx := ix2 ⟨(i 0).val % 256, Nat.mod_lt _ (by decide)⟩ (i 1)

/-- The result array: every block what its point leaves. -/
def result (c : Dev nD) : S40960x2048.Idx → Elt F .f32 := fun i => outAt m hok c (pointOf i) (placeOf i)

/-- A point's block of the result is what the point leaves. -/
theorem result_block (c : Dev nD) (t : Fin grid0.N) (j : S256x2048.Idx) :
    outAt m hok c t j = result m hok c ((((cfgA m hok).win 4).blk t).view.emb j) := by
  have h0 : (j 0).val < 256 := (j 0).isLt
  refine Eq.trans ?_ (congrArg (result m hok c) (emb_4 m hok t j)).symm
  show outAt m hok c t j = outAt m hok c (pointOf _) (placeOf _)
  refine congr (congrArg (outAt m hok c) (Fin.ext ?_)) ?_
  · show t.val = (256 * t.val + (j 0).val) / 256; omega
  · funext a
    fin_cases a
    · refine Fin.ext ?_
      show (j 0).val = (256 * t.val + (j 0).val) % 256; omega
    · rfl

/-- A row lies in its point's block. -/
theorem place_emb (i : S40960x2048.Idx) : (((cfgA m hok).win 4).blk (pointOf i)).view.emb (placeOf i) = i := by
  refine (emb_4 m hok (pointOf i) (placeOf i)).trans ?_
  funext a
  fin_cases a
  · refine Fin.ext ?_
    show 256 * ((i 0).val / 256) + (i 0).val % 256 = (i 0).val; omega
  · rfl

theorem mem_blk_4 (i : S40960x2048.Idx) : i ∈ (((cfgA m hok).win 4).blk (pointOf i)).view.set := by
  exact Finset.mem_map.mpr ⟨placeOf i, Finset.mem_univ _, place_emb m hok i⟩

/-- The result array after the run: every block what its point leaves. -/
theorem final_eq (c : Dev nD) : (dats m hok 0 c).arrAt 4 (cfgA m hok).N = result m hok c :=
  (dats m hok 0 c).arrAt_eq_of_cover 4 _ (fun t _ => funext fun j => result_block m hok c t j)
    (fun i => ⟨pointOf i, flush_4 m hok _, mem_blk_4 m hok i⟩)

end Data

end Cert.ExpertsProof
-- ==== Proof.ExpertsSpec.lean ====
/- The experts' result over the extended reals, as one sum per entry (`experted`), and the reference's run read as it. -/
module

public import proofs.«01_k».proof.Proof.DispatchTable
public import proofs.«01_k».proof.Proof.Gen.ExpertsRefIdeal.Run
public import proofs.«01_k».proof.Proof.Gen.Pre_blocks_name_experts
public import Idealize.ShloMosaic.Lib.ValueIdxCore
public import Idealize.ShloMosaic.Lib.StackMember
public import Idealize.ShloMosaic.Lib.IdealHost
public import Idealize.ShloMosaic.Lib.WordCmp

@[expose] public section

noncomputable section

namespace Cert.ExpertsProof

open Idealize.ShloMosaic Idealize.ShloMosaic.TcCoe Idealize.SL.Sem Idealize.ShloMosaic.ValueIdx Idealize.ShloMosaic.StackMember

section Spec

variable (x : FVec Ideal ⟨2, ![40960, 2048]⟩ .f32) (wg wu : FVec Ideal ⟨4, ![4, 32, 2048, 512]⟩ .f32) (wd : FVec Ideal ⟨4, ![4, 32, 512, 2048]⟩ .f32)

/-- Row `i`'s product with column `q` of expert `e`'s weights of the layer. -/
def innerAt (w : FVec Ideal ⟨4, ![4, 32, 2048, 512]⟩ .f32) (e : Fin 32) (i : Fin 40960) (q : Fin 512) : EReal :=
  ∑ k : Fin 2048, x (ix2 i k) * w (ix4 1 e k q)

/-- The gated hidden entry. -/
def hiddenAt (e : Fin 32) (i : Fin 40960) (q : Fin 512) : EReal :=
  (innerAt x wg e i q * Ideal.logistic (innerAt x wg e i q)) * innerAt x wu e i q

/-- Row `i` through expert `e`, at column `n`. -/
def expertAt (e : Fin 32) (i : Fin 40960) (n : Fin 2048) : EReal :=
  ∑ q : Fin 512, hiddenAt x wg wu e i q * wd (ix4 1 e q n)

/-- The row of place `r` in block `t`, and the block of a row. -/
def rowOf (t : Fin 160) (r : Fin 256) : Fin 40960 := ⟨256 * t.val + r.val, by omega⟩
def blockOf (i : Fin 40960) : Fin 160 := ⟨i.val / 256, by omega⟩

theorem blockOf_rowOf (t : Fin 160) (r : Fin 256) : blockOf (rowOf t r) = t := Fin.ext (by show (256 * t.val + r.val) / 256 = t.val; omega)
theorem rowOf_blockOf (i : Fin 40960) : ∃ t r, i = rowOf t r :=
  ⟨blockOf i, ⟨i.val % 256, Nat.mod_lt _ (by decide)⟩, Fin.ext (by show i.val = 256 * (i.val / 256) + i.val % 256; omega)⟩

/-- The experts' result: the rows of the first `n` blocks through their blocks' experts, the others zero. -/
def experted (be : Fin 160 → Fin 32) (n : BitVec 32) : FVec Ideal ⟨2, ![40960, 2048]⟩ .f32 := fun y =>
  if ((blockOf (y 0)).val : ℤ) < n.toInt then expertAt x wg wu wd (be (blockOf (y 0))) (y 0) (y 1) else 0

end Spec

/-! ## The take of matrices from a stack -/

/-- `table[idx]` over a stack of `E` matrices: where `idx` holds at `(p, 0)` a number `e < E`, member `p` of the result is the
    stack's member `e`. -/
theorem gather_member {α : Type} {E A B n : ℕ}
    (wf : GatherDims.WF ⟨3, ![E, A, B]⟩ ⟨2, ![n, 1]⟩ ⟨3, ![n, A, B]⟩ [1, 2] [0] [] [0] [] 1 ![1, A, B])
    (x : (⟨3, ![E, A, B]⟩ : Shape).Idx → α) (idx : IVec ⟨2, ![n, 1]⟩ 32) (p : Fin n) (a : Fin A) (b : Fin B) (e : Fin E)
    (he : idx (ix2 p (0 : Fin 1)) = BitVec.ofNat 32 e.val) (hE : E < 2 ^ 31) :
    Host.gather (⟨[1, 2], [0], [], [], [0], 1, ![1, A, B], wf⟩ : GatherDims _ _ _) x idx (ix3 p a b) = x (ix3 e a b) := by
  unfold Host.gather
  refine congrArg x (funext fun ax => Fin.ext ?_)
  match ax with
  | ⟨0, _⟩ =>
    show GatherDims.start _ _ idx 0 + GatherDims.batchCoord _ _ 0 + GatherDims.offCoord _ _ 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine Eq.trans (congrArg (fun w : BitVec 32 => min w.toInt.toNat (E - 1)) (Eq.trans (congrArg idx ?_) he)) ?_
    · funext ay
      refine Fin.ext ?_
      match ay with
      | ⟨0, _⟩ => rfl
      | ⟨1, _⟩ => rfl
    · have := e.isLt
      rw [StableHlo.Predicate.toInt_ofNat_small _ (by omega)]
      show min ((e.val : ℤ)).toNat (E - 1) = e.val
      omega
  | ⟨1, _⟩ =>
    show GatherDims.start _ _ idx 1 + GatherDims.batchCoord _ _ 1 + GatherDims.offCoord _ _ 1 = a.val
    rw [GatherDims.batchCoord_eq_zero _ _ _ List.not_mem_nil]
    unfold GatherDims.start
    rw [dif_neg (fun h => absurd (List.mem_singleton.mp h) (by simp))]
    simp only [Nat.zero_add]
    rfl
  | ⟨2, _⟩ =>
    show GatherDims.start _ _ idx 2 + GatherDims.batchCoord _ _ 2 + GatherDims.offCoord _ _ 2 = b.val
    rw [GatherDims.batchCoord_eq_zero _ _ _ List.not_mem_nil]
    unfold GatherDims.start
    rw [dif_neg (fun h => absurd (List.mem_singleton.mp h) (by simp))]
    simp only [Nat.zero_add]
    rfl

/-! ## The reference -/

open Cert.ExpertsRefIdeal Cert.ExpertsRefIdeal.Gen

/-- The block words as the reference reads them: in a column, negative words counted from the end. -/
def column (be : IVec S160 32) : IVec S160x1 32 :=
  broadcastInDim S160x1 ![0] bcast_S160_S160x1_0 (select (cmpi .slt be (broadcastInDim S160 ![] bcast_S_S160 (constantI S_ 32 0#32)))
    (addi be (broadcastInDim S160 ![] bcast_S_S160 (constantI S_ 32 32#32))) be)

/-- On words that name experts the column holds the words. -/
theorem column_eq (be : IVec S160 32) (h : ∀ i, (be i).toNat < 32) (t : Fin 160) :
    column be (ix2 t (0 : Fin 1)) = BitVec.ofNat 32 (be (ix1 t)).toNat := by
  have hl := h (ix1 t)
  have e : be (ix1 t) = BitVec.ofNat 32 (be (ix1 t)).toNat := by rw [BitVec.ofNat_toNat, BitVec.setWidth_eq]
  refine (Cert.DispatchProof.column_at bcast_S160_S160x1_0 _ t).trans ((Cert.DispatchProof.wrap_apply be _ _ (ix1 t) rfl ?_).trans e)
  rw [e, StableHlo.Predicate.toInt_ofNat_small _ (by omega)]
  exact Int.natCast_nonneg _

/-- The layer's gate or up weights of block `t`'s expert. -/
def wideOf (w : FVec Ideal S4x32x2048x512 .f32) (be : IVec S160 32) : FVec Ideal S160x2048x512 .f32 :=
  Host.gather gather_S32x2048x512_S160x1_S160x2048x512_12_0_n_n_0_1_12048512 (shapeCast _ (extractStridedSlice S1x32x2048x512 ![1, 0, 0, 0] w
    slices_S4x32x2048x512_S1x32x2048x512_1_0_0_0) shapeCasts_S1x32x2048x512_S32x2048x512) (column be)

/-- The layer's down weights of block `t`'s expert. -/
def tallOf (w : FVec Ideal S4x32x512x2048 .f32) (be : IVec S160 32) : FVec Ideal S160x512x2048 .f32 :=
  Host.gather gather_S32x512x2048_S160x1_S160x512x2048_12_0_n_n_0_1_15122048 (shapeCast _ (extractStridedSlice S1x32x512x2048 ![1, 0, 0, 0] w
    slices_S4x32x512x2048_S1x32x512x2048_1_0_0_0) shapeCasts_S1x32x512x2048_S32x512x2048) (column be)

theorem wideOf_apply (w : FVec Ideal S4x32x2048x512 .f32) (be : IVec S160 32) (h : ∀ i, (be i).toNat < 32) (t : Fin 160) (k : Fin 2048) (q : Fin 512) :
    wideOf w be (ix3 t k q) = w (ix4 1 ⟨(be (ix1 t)).toNat, h _⟩ k q) := by
  refine (gather_member gather_S32x2048x512_S160x1_S160x2048x512_12_0_n_n_0_1_12048512.wf _ (column be) t k q ⟨(be (ix1 t)).toNat, h _⟩ (column_eq be h t) (by decide)).trans ?_
  refine (shapeCast_apply _ _ _ (ix4 (0 : Fin 1) (⟨(be (ix1 t)).toNat, h _⟩ : Fin 32) k q : S1x32x2048x512.Idx) ?_).trans
    (extractStridedSlice_apply _ _ _ _ (ix4 (1 : Fin 4) (⟨(be (ix1 t)).toNat, h _⟩ : Fin 32) k q : S4x32x2048x512.Idx) ?_)
  · refine (Shape.rowMajor_val_four (d := ![1, 32, 2048, 512]) _).trans ((?_ : _ = _).trans (Shape.rowMajor_val_three (d := ![32, 2048, 512]) _).symm)
    show ((0 * 32 + (be (ix1 t)).toNat) * 2048 + k.val) * 512 + q.val = ((be (ix1 t)).toNat * 2048 + k.val) * 512 + q.val
    omega
  · intro a
    match a with
    | ⟨0, _⟩ => rfl
    | ⟨1, _⟩ => exact (Nat.zero_add _).symm
    | ⟨2, _⟩ => exact (Nat.zero_add _).symm
    | ⟨3, _⟩ => exact (Nat.zero_add _).symm

theorem tallOf_apply (w : FVec Ideal S4x32x512x2048 .f32) (be : IVec S160 32) (h : ∀ i, (be i).toNat < 32) (t : Fin 160) (q : Fin 512) (n : Fin 2048) :
    tallOf w be (ix3 t q n) = w (ix4 1 ⟨(be (ix1 t)).toNat, h _⟩ q n) := by
  refine (gather_member gather_S32x512x2048_S160x1_S160x512x2048_12_0_n_n_0_1_15122048.wf _ (column be) t q n ⟨(be (ix1 t)).toNat, h _⟩ (column_eq be h t) (by decide)).trans ?_
  refine (shapeCast_apply _ _ _ (ix4 (0 : Fin 1) (⟨(be (ix1 t)).toNat, h _⟩ : Fin 32) q n : S1x32x512x2048.Idx) ?_).trans
    (extractStridedSlice_apply _ _ _ _ (ix4 (1 : Fin 4) (⟨(be (ix1 t)).toNat, h _⟩ : Fin 32) q n : S4x32x512x2048.Idx) ?_)
  · refine (Shape.rowMajor_val_four (d := ![1, 32, 512, 2048]) _).trans ((?_ : _ = _).trans (Shape.rowMajor_val_three (d := ![32, 512, 2048]) _).symm)
    show ((0 * 32 + (be (ix1 t)).toNat) * 512 + q.val) * 2048 + n.val = ((be (ix1 t)).toNat * 512 + q.val) * 2048 + n.val
    omega
  · intro a
    match a with
    | ⟨0, _⟩ => rfl
    | ⟨1, _⟩ => exact (Nat.zero_add _).symm
    | ⟨2, _⟩ => exact (Nat.zero_add _).symm
    | ⟨3, _⟩ => exact (Nat.zero_add _).symm

variable (be : IVec S160 32) (nu : IVec S1 32) (x : FVec Ideal S40960x2048 .f32) (wg wu : FVec Ideal S4x32x2048x512 .f32) (wd : FVec Ideal S4x32x512x2048 .f32)

/-- The rows in blocks. -/
def blocked : FVec Ideal S160x256x2048 .f32 := shapeCast _ x shapeCasts_S40960x2048_S160x256x2048

theorem blocked_apply (t : Fin 160) (r : Fin 256) (k : Fin 2048) : blocked x (ix3 t r k) = x (ix2 (rowOf t r) k) := by
  refine shapeCast_apply _ _ _ (ix2 (rowOf t r) k : S40960x2048.Idx) ?_
  refine (Shape.rowMajor_val_two (d := ![40960, 2048]) _).trans ((?_ : _ = _).trans (Shape.rowMajor_val_three (d := ![160, 256, 2048]) _).symm)
  show (256 * t.val + r.val) * 2048 + k.val = (t.val * 256 + r.val) * 2048 + k.val
  omega

/-- The blocks' products with their experts' gate or up weights. -/
def innerVec (w : FVec Ideal S4x32x2048x512 .f32) : FVec Ideal S160x256x512 .f32 :=
  Host.dotGeneral dot_S160x256x2048_S160x2048x512_S160x256x512_2_1_1_2_0_0 none (blocked x) (wideOf w be)

theorem innerVec_apply (w : FVec Ideal S4x32x2048x512 .f32) (h : ∀ i, (be i).toNat < 32) (t : Fin 160) (r : Fin 256) (q : Fin 512) :
    innerVec be x w (ix3 t r q) = innerAt x w ⟨(be (ix1 t)).toNat, h _⟩ (rowOf t r) q :=
  (dotGeneral_stack_apply dot_S160x256x2048_S160x2048x512_S160x256x512_2_1_1_2_0_0.wf none (blocked x) (wideOf w be) t r q).trans
    (Finset.sum_congr rfl fun k _ => congrArg₂ (fun a b : EReal => a * b) (blocked_apply x t r k) (wideOf_apply w be h t k q))

/-- The constant one the reference's logistic divides. -/
def oneVec : FVec Ideal S160x256x512 .f32 := broadcastInDim S160x256x512 ![] bcast_S_S160x256x512 (constant S_ .f32 0x3F800000#32)

theorem oneVec_apply (y : S160x256x512.Idx) : oneVec y = (1 : EReal) := (broadcastInDim_scalar_apply _ _ _).trans Ideal.ofBits_one_f32

/-- The gated hidden blocks. -/
def hiddenVec : FVec Ideal S160x256x512 .f32 :=
  mulf (mulf (innerVec be x wg) (Host.divf oneVec (addf oneVec (Host.exp (Host.negf (innerVec be x wg)))))) (innerVec be x wu)

theorem hiddenVec_apply (h : ∀ i, (be i).toNat < 32) (t : Fin 160) (r : Fin 256) (q : Fin 512) :
    hiddenVec be x wg wu (ix3 t r q) = hiddenAt x wg wu ⟨(be (ix1 t)).toNat, h _⟩ (rowOf t r) q := by
  have e1 := innerVec_apply be x wg h t r q
  have e2 := innerVec_apply be x wu h t r q
  have e3 := oneVec_apply (ix3 t r q)
  show (innerVec be x wg (ix3 t r q) * Ideal.div (oneVec (ix3 t r q)) (oneVec (ix3 t r q) + Ideal.exp (-(innerVec be x wg (ix3 t r q)))))
    * innerVec be x wu (ix3 t r q) = _
  rw [e1, e2, e3]
  rfl

/-- The blocks through their experts. -/
def outVec : FVec Ideal S160x256x2048 .f32 :=
  Host.dotGeneral dot_S160x256x512_S160x512x2048_S160x256x2048_2_1_1_2_0_0 none (hiddenVec be x wg wu) (tallOf wd be)

theorem outVec_apply (h : ∀ i, (be i).toNat < 32) (t : Fin 160) (r : Fin 256) (n : Fin 2048) :
    outVec be x wg wu wd (ix3 t r n) = expertAt x wg wu wd ⟨(be (ix1 t)).toNat, h _⟩ (rowOf t r) n :=
  (dotGeneral_stack_apply dot_S160x256x512_S160x512x2048_S160x256x2048_2_1_1_2_0_0.wf none (hiddenVec be x wg wu) (tallOf wd be) t r n).trans
    (Finset.sum_congr rfl fun q _ => congrArg₂ (fun a b : EReal => a * b) (hiddenVec_apply be x wg wu h t r q) (tallOf_apply wd be h t q n))

/-- Which blocks are used, spread over their entries. -/
def usedVec : IVec S160x256x2048 1 :=
  broadcastInDim S160x256x2048 ![0, 1, 2] bcast_S160x1x1_S160x256x2048_0_1_2 (broadcastInDim S160x1x1 ![0] bcast_S160_S160x1x1_0
    (cmpi .slt (iotaInDim S160 32 0) (broadcastInDim S160 ![] bcast_S_S160 (shapeCast _ nu shapeCasts_S1_S_))))

theorem usedVec_apply (t : Fin 160) (r : Fin 256) (n : Fin 2048) :
    usedVec nu (ix3 t r n) = BitVec.ofBool (decide ((t.val : ℤ) < (nu (ix1 0)).toInt)) := by
  have e1 := broadcastInDim_apply ![0, 1, 2] bcast_S160x1x1_S160x256x2048_0_1_2 (broadcastInDim S160x1x1 ![0] bcast_S160_S160x1x1_0
    (cmpi .slt (iotaInDim S160 32 0) (broadcastInDim S160 ![] bcast_S_S160 (shapeCast S_ nu shapeCasts_S1_S_)))) (ix3 t r n) (ix3 t (0 : Fin 1) (0 : Fin 1)) (by
      intro a
      match a with
      | ⟨0, _⟩ => rfl
      | ⟨1, _⟩ => rfl
      | ⟨2, _⟩ => rfl)
  have e2 := broadcastInDim_apply ![0] bcast_S160_S160x1x1_0
    (cmpi .slt (iotaInDim S160 32 0) (broadcastInDim S160 ![] bcast_S_S160 (shapeCast S_ nu shapeCasts_S1_S_))) (ix3 t (0 : Fin 1) (0 : Fin 1)) (ix1 t) (by
      intro a
      match a with
      | ⟨0, _⟩ => rfl)
  have e3 : broadcastInDim S160 ![] bcast_S_S160 (shapeCast S_ nu shapeCasts_S1_S_) (ix1 t) = nu (ix1 0) :=
    congrArg nu (funext fun a => by obtain rfl : a = 0 := Subsingleton.elim _ _; exact Subsingleton.elim (α := Fin 1) _ _)
  refine e1.trans (e2.trans ?_)
  show BitVec.ofBool (BitVec.slt (BitVec.ofNat 32 t.val) (broadcastInDim S160 ![] bcast_S_S160 (shapeCast S_ nu shapeCasts_S1_S_) (ix1 t))) = _
  rw [e3, BitVec.slt, StableHlo.Predicate.toInt_ofNat_small _ (by omega)]

/-- The reference's result of its arguments. -/
def refOf : FVec Ideal S40960x2048 .f32 :=
  shapeCast _ (select (usedVec nu) (outVec be x wg wu wd) (broadcastInDim S160x256x2048 ![] bcast_S_S160x256x2048 (id (constant S_ .f32 0x00000000#32))))
    shapeCasts_S160x256x2048_S40960x2048

/-- On words that name experts the reference's result is the rows through their experts. -/
theorem refOf_eq (h : ∀ i, (be i).toNat < 32) :
    refOf be nu x wg wu wd = experted x wg wu wd (fun t => ⟨(be (ix1 t)).toNat, h _⟩) (nu (ix1 0)) := by
  funext y
  obtain ⟨i, n, rfl⟩ : ∃ (i : Fin 40960) (n : Fin 2048), y = ix2 i n := ⟨_, _, eq_ix2 y⟩
  obtain ⟨t, r, rfl⟩ := rowOf_blockOf i
  have hz : broadcastInDim S160x256x2048 ![] bcast_S_S160x256x2048 (constant (F := Ideal) S_ .f32 0x00000000#32) (ix3 t r n) = (0 : EReal) :=
    (broadcastInDim_scalar_apply _ _ _).trans Ideal.ofBits_zero_f32
  have e : refOf be nu x wg wu wd (ix2 (rowOf t r) n) = Scalar.select (usedVec nu (ix3 t r n)) (outVec be x wg wu wd (ix3 t r n))
      (broadcastInDim S160x256x2048 ![] bcast_S_S160x256x2048 (constant (F := Ideal) S_ .f32 0x00000000#32) (ix3 t r n)) := by
    refine shapeCast_apply _ _ _ (ix3 t r n : S160x256x2048.Idx) ?_
    refine (Shape.rowMajor_val_three (d := ![160, 256, 2048]) _).trans ((?_ : _ = _).trans (Shape.rowMajor_val_two (d := ![40960, 2048]) _).symm)
    show (t.val * 256 + r.val) * 2048 + n.val = (256 * t.val + r.val) * 2048 + n.val
    omega
  rw [e, hz, usedVec_apply, outVec_apply be x wg wu wd h]
  show _ = if ((blockOf (rowOf t r)).val : ℤ) < _ then expertAt x wg wu wd ⟨(be (ix1 (blockOf (rowOf t r)))).toNat, h _⟩ (rowOf t r) n else 0
  rw [blockOf_rowOf]
  by_cases hu : (t.val : ℤ) < (nu (ix1 0)).toInt
  · rw [if_pos hu, decide_eq_true hu]; rfl
  · rw [if_neg hu, decide_eq_false hu]; rfl

/-! ## The precondition -/

/-- The precondition: every word names an expert. -/
theorem blocks_ok {F : FTy → Type} [FloatOps F] (be : IVec S160 32) (nu : IVec S1 32) (x : FVec F S40960x2048 .f32)
    (wg wu : FVec F S4x32x2048x512 .f32) (wd : FVec F S4x32x512x2048 .f32)
    (h : Cert.Pre_blocks_name_experts.fn (F := F) be nu x wg wu wd = fun _ => 1#1) (i : S160.Idx) : (be i).toNat < 32 := by
  have hi : IntOp.andi (IntOp.cmpi .sge (be i) 0#32) (IntOp.cmpi .slt (be i) (BitVec.ofNat 32 32)) = 1#1 := congrFun h i
  rw [WordCmp.andi_sge_zero_slt_ofNat (by decide)] at hi
  exact of_decide_eq_true (Cert.DispatchProof.of_bool_one hi)

end Cert.ExpertsProof
-- ==== Proof.ExpertsValue.lean ====
/- What the experts' run leaves in the result array, over the extended reals: the rows of the used blocks through their
   blocks' experts. -/
module

public import proofs.«01_k».proof.Proof.ExpertsLaunch
public import proofs.«01_k».proof.Proof.ExpertsSpec
public import Idealize.ShloMosaic.Lib.MatmulPlain

@[expose] public section

noncomputable section

namespace Cert.ExpertsProof

open Cert.ExpertsIdeal Cert.ExpertsIdeal.Gen
open Idealize.ShloMosaic Idealize.ShloMosaic.TcCoe Idealize.ShloMosaic.ValueIdx

variable (m : (ℓ : Loc nD τ sig) → Buf (Elt Ideal) ℓ) (hok : AllOK m)

/-- A weight block as the kernel keeps it is the block. -/
theorem pay1_apply (w : FVec Ideal S1x1x2048x512 .f32) (k : Fin 2048) (q : Fin 512) : k0_pay1 (F := Ideal) w (ix2 k q) = w (ix4 0 0 k q) := by
  refine (shapeCast_apply (truncf .bf16 (shapeCast S2048x512 w shapeCasts_S1x1x2048x512_S2048x512) bitsLt_bf16_f32)
    shapeCasts_S2048x512_S2048x512 _ (ix2 k q : S2048x512.Idx) rfl).trans
    (shapeCast_apply w shapeCasts_S1x1x2048x512_S2048x512 _ (ix4 (0 : Fin 1) (0 : Fin 1) k q : S1x1x2048x512.Idx) ?_)
  refine (Shape.rowMajor_val_four (d := ![1, 1, 2048, 512]) _).trans ((?_ : _ = _).trans (Shape.rowMajor_val_two (d := ![2048, 512]) _).symm)
  show ((0 * 1 + 0) * 2048 + k.val) * 512 + q.val = k.val * 512 + q.val
  omega

theorem pay3_apply (w : FVec Ideal S1x1x512x2048 .f32) (q : Fin 512) (n : Fin 2048) : k0_pay3 (F := Ideal) w (ix2 q n) = w (ix4 0 0 q n) := by
  refine (shapeCast_apply (truncf .bf16 (shapeCast S512x2048 w shapeCasts_S1x1x512x2048_S512x2048) bitsLt_bf16_f32)
    shapeCasts_S512x2048_S512x2048 _ (ix2 q n : S512x2048.Idx) rfl).trans
    (shapeCast_apply w shapeCasts_S1x1x512x2048_S512x2048 _ (ix4 (0 : Fin 1) (0 : Fin 1) q n : S1x1x512x2048.Idx) ?_)
  refine (Shape.rowMajor_val_four (d := ![1, 1, 512, 2048]) _).trans ((?_ : _ = _).trans (Shape.rowMajor_val_two (d := ![512, 2048]) _).symm)
  show ((0 * 1 + 0) * 512 + q.val) * 2048 + n.val = q.val * 2048 + n.val
  omega

/-- A block's rows times a table of gate or up weights. -/
def tileVec (x : FVec Ideal S256x2048 .f32) (w : FVec Ideal S2048x512 .bf16) : FVec Ideal S256x512 .f32 :=
  matmul dot_S256x2048_S2048x512_S256x512_1_0_0_1_n_n none (truncf .bf16 x bitsLt_bf16_f32) w (constant S256x512 .f32 0x00000000#32)

theorem tileVec_apply (x : FVec Ideal S256x2048 .f32) (w : FVec Ideal S2048x512 .bf16) (r : Fin 256) (q : Fin 512) :
    tileVec x w (ix2 r q) = ∑ k : Fin 2048, x (ix2 r k) * w (ix2 k q) := by
  have e := Ideal.matmul_plain_apply (M := 256) (K := 2048) (N := 512) none (truncf .bf16 x bitsLt_bf16_f32) w (constant S256x512 .f32 0x00000000#32) r q
  have ez : (constant (F := Ideal) S256x512 .f32 0x00000000#32) (ix2 r q) = (0 : EReal) := Ideal.ofBits_zero_f32
  refine e.trans ?_
  rw [ez, zero_add]
  rfl

/-- A used block's output: each entry the sum over the hidden entries. -/
theorem pay4_apply (x : FVec Ideal S256x2048 .f32) (g u : FVec Ideal S2048x512 .bf16) (d : FVec Ideal S512x2048 .bf16) (r : Fin 256) (n : Fin 2048) :
    k0_pay4 (F := Ideal) x g u d (ix2 r n)
      = ∑ q : Fin 512, ((tileVec x g (ix2 r q) * Ideal.logistic (tileVec x g (ix2 r q))) * tileVec x u (ix2 r q)) * d (ix2 q n) := by
  have e := Ideal.matmul_plain_apply (M := 256) (K := 512) (N := 2048) none
    (truncf .bf16 (mulf (mulf (tileVec x g) (logistic (tileVec x g))) (tileVec x u)) bitsLt_bf16_f32) d (constant S256x2048 .f32 0x00000000#32) r n
  have ez : (constant (F := Ideal) S256x2048 .f32 0x00000000#32) (ix2 r n) = (0 : EReal) := Ideal.ofBits_zero_f32
  refine Eq.trans (show k0_pay4 (F := Ideal) x g u d (ix2 r n) = _ from rfl) (e.trans ?_)
  rw [ez, zero_add]
  rfl

/-- Block `t`'s rows times its expert's gate or up weights. -/
theorem tile_inner (c : Dev nD) (t : Fin grid0.N) (w : FVec Ideal ⟨4, ![4, 32, 2048, 512]⟩ .f32) (b : FVec Ideal S1x1x2048x512 .f32)
    (hb : ∀ k q, b (ix4 0 0 k q) = w (ix4 1 (ex m hok t) k q)) (r : Fin 256) (q : Fin 512) :
    tileVec (rowsAt m c t) (k0_pay1 (F := Ideal) b) (ix2 r q)
      = innerAt (m ((c : Thread nD τ).loc main_arg2)) w (ex m hok t) (rowOf ⟨t.val, lt160 t⟩ r) q :=
  (tileVec_apply _ _ r q).trans (Finset.sum_congr rfl fun k _ => congrArg₂ (fun a b : EReal => a * b) rfl ((pay1_apply b k q).trans (hb k q)))

/-- The output block of a point. -/
theorem outAt_apply (c : Dev nD) (t : Fin grid0.N) (r : Fin 256) (n : Fin 2048) :
    outAt m hok c t (ix2 r n) = if (t.val : ℤ) < (cnt m (ix1 0)).toInt then
      expertAt (m ((c : Thread nD τ).loc main_arg2)) (m ((c : Thread nD τ).loc main_arg3)) (m ((c : Thread nD τ).loc main_arg4))
        (m ((c : Thread nD τ).loc main_arg5)) (ex m hok t) (rowOf ⟨t.val, lt160 t⟩ r) n else 0 := by
  unfold outAt
  by_cases hu : Used m t
  · rw [if_pos hu, if_pos ((used_iff m t).mp hu)]
    refine (pay4_apply _ _ _ _ r n).trans (Finset.sum_congr rfl fun q _ => ?_)
    have e1 := tile_inner m hok c t (m ((c : Thread nD τ).loc main_arg3)) (gateAt m hok c t) (fun _ _ => rfl) r q
    have e2 := tile_inner m hok c t (m ((c : Thread nD τ).loc main_arg4)) (upAt m hok c t) (fun _ _ => rfl) r q
    have e3 := pay3_apply (downAt m hok c t) q n
    refine congrArg₂ (fun a b : EReal => a * b) (congrArg₂ (fun a b : EReal => a * b) (congrArg₂ (fun a b : EReal => a * b) e1 (congrArg Ideal.logistic e1)) e2) e3
  · rw [if_neg hu, if_neg fun h => hu ((used_iff m t).mpr h)]
    exact Ideal.ofBits_zero_f32

/-- The result array is the rows through their blocks' experts. -/
theorem result_experted (c : Dev nD) :
    result m hok c = experted (m ((c : Thread nD τ).loc main_arg2)) (m ((c : Thread nD τ).loc main_arg3)) (m ((c : Thread nD τ).loc main_arg4))
      (m ((c : Thread nD τ).loc main_arg5)) (fun t => ⟨(expt m (ix1 t)).toNat, hok _⟩) (cnt m (ix1 0)) := by
  funext y
  obtain ⟨i, n, rfl⟩ : ∃ (i : Fin 40960) (n : Fin 2048), y = ix2 i n := ⟨_, _, eq_ix2 y⟩
  refine (outAt_apply m hok c (pointOf (ix2 i n)) ⟨i.val % 256, Nat.mod_lt _ (by decide)⟩ n).trans ?_
  have e : rowOf ⟨(pointOf (ix2 i n)).val, lt160 _⟩ ⟨i.val % 256, Nat.mod_lt _ (by decide)⟩ = i :=
    Fin.ext (by show 256 * (i.val / 256) + i.val % 256 = i.val; omega)
  rw [e]
  rfl

end Cert.ExpertsProof
-- ==== Proof.AdaValue.lean ====
/- The adaLN table: the kernel's result array and the reference's are one table (`tabled`), an entry of which is the inner
   product of the gated condition with a column of the layer's weights, plus that column's bias. -/
module

public import proofs.«01_k».proof.Proof.Gen.AdaIdeal.Value
public import proofs.«01_k».proof.Proof.Gen.AdaRefIdeal.Run
public import proofs.«01_k».proof.Proof.ProjectSpec
public import proofs.«01_k».proof.Proof.MergePoint
public import Idealize.ShloMosaic.Lib.Pointwise.Contract

@[expose] public section

noncomputable section

namespace Cert.AdaProof

open Idealize.ShloMosaic hiding ix1 ix2 ix3 eq_ix2 eq_ix3
open Idealize.ShloMosaic.TcCoe Idealize.SL.Sem Idealize.ShloMosaic.ValueIdx

/-- An entry of the gated condition. -/
def gatedAt (x : FVec Ideal ⟨2, ![1, 2048]⟩ .f32) (k : Fin 2048) : EReal := x (ix2 0 k) * Ideal.logistic (x (ix2 0 k))

/-- The table's entry for layer `l` and column `n`. -/
def tableAt (x : FVec Ideal ⟨2, ![1, 2048]⟩ .f32) (w : FVec Ideal ⟨3, ![4, 2048, 12288]⟩ .f32) (b : FVec Ideal ⟨2, ![4, 12288]⟩ .f32)
    (l : Fin 4) (n : Fin 12288) : EReal :=
  (∑ k : Fin 2048, gatedAt x k * w (ix3 l k n)) + b (ix2 l n)

/-- The table, each layer's row eight times. -/
def tabled (x : FVec Ideal ⟨2, ![1, 2048]⟩ .f32) (w : FVec Ideal ⟨3, ![4, 2048, 12288]⟩ .f32) (b : FVec Ideal ⟨2, ![4, 12288]⟩ .f32) :
    FVec Ideal ⟨3, ![4, 8, 12288]⟩ .f32 := fun y => tableAt x w b (y 0) (y 2)

section Reference

open Cert.AdaRefIdeal Cert.AdaRefIdeal.Gen

variable (x : FVec Ideal S1x2048 .f32) (w : FVec Ideal S4x2048x12288 .f32) (b : FVec Ideal S4x12288 .f32)

/-- The reference's gated condition. -/
def gatedVec : FVec Ideal S1x2048 .f32 :=
  mulf x (Host.divf (broadcastInDim S1x2048 ![] bcast_S_S1x2048 (constant S_ .f32 0x3F800000#32))
    (addf (broadcastInDim S1x2048 ![] bcast_S_S1x2048 (constant S_ .f32 0x3F800000#32)) (Host.exp (Host.negf x))))

theorem gatedVec_apply (k : Fin 2048) : gatedVec x (ix2 0 k) = gatedAt x k := by
  have e : broadcastInDim S1x2048 ![] bcast_S_S1x2048 (constant (F := Ideal) S_ .f32 0x3F800000#32) (ix2 0 k) = (1 : EReal) :=
    (broadcastInDim_scalar_apply _ _ _).trans Ideal.ofBits_one_f32
  show (x (ix2 0 k) * Ideal.div (broadcastInDim S1x2048 ![] bcast_S_S1x2048 (constant (F := Ideal) S_ .f32 0x3F800000#32) (ix2 0 k))
    (broadcastInDim S1x2048 ![] bcast_S_S1x2048 (constant (F := Ideal) S_ .f32 0x3F800000#32) (ix2 0 k) + Ideal.exp (-(x (ix2 0 k)))) : EReal) = _
  rw [e]
  rfl

/-- The reference's products: each column's inner product with the gated condition. -/
def productVec : FVec Ideal S4x12288x1 .f32 := Host.dotGeneral dot_S4x2048x12288_S1x2048_S4x12288x1_1_1_02_0_n_n none w (gatedVec x)

theorem productVec_apply (l : Fin 4) (n : Fin 12288) : productVec x w (ix3 l n 0) = ∑ k : Fin 2048, gatedAt x k * w (ix3 l k n) := by
  show FloatOps.dotGeneral _ none _ w (gatedVec x) (ix3 l n 0) = _
  rw [Ideal.dotGeneral_apply, ← Equiv.sum_comp (contrEquiv1 dot_S4x2048x12288_S1x2048_S4x12288x1_1_1_02_0_n_n 2048 rfl rfl).symm]
  refine Finset.sum_congr rfl fun k _ => ?_
  have hk := contrEquiv1_symm_val dot_S4x2048x12288_S1x2048_S4x12288x1_1_1_02_0_n_n 2048 rfl rfl k
  have hl : dot_S4x2048x12288_S1x2048_S4x12288x1_1_1_02_0_n_n.lhsIdx (ix3 l n (0 : Fin 1)) ((contrEquiv1 _ 2048 rfl rfl).symm k) = ix3 l k n := by
    funext a
    refine Fin.ext ?_
    match a with
    | ⟨0, _⟩ => rfl
    | ⟨1, _⟩ => exact hk
    | ⟨2, _⟩ => rfl
  have hr : dot_S4x2048x12288_S1x2048_S4x12288x1_1_1_02_0_n_n.rhsIdx (ix3 l n (0 : Fin 1)) ((contrEquiv1 _ 2048 rfl rfl).symm k) = ix2 0 k := by
    funext a
    refine Fin.ext ?_
    match a with
    | ⟨0, _⟩ => rfl
    | ⟨1, _⟩ => exact hk
  rw [hl, hr, gatedVec_apply x k]
  exact mul_comm (w (ix3 l k n) : EReal) _

/-- The reference's result is the table. -/
theorem ref_tabled :
    broadcastInDim S4x8x12288 ![0, 1, 2] bcast_S4x1x12288_S4x8x12288_0_1_2 (addf (transpose S4x1x12288 [0, 2, 1] (productVec x w)
      transposes_S4x12288x1_S4x1x12288_0_2_1) (broadcastInDim S4x1x12288 ![0, 2] bcast_S4x12288_S4x1x12288_0_2 b)) = tabled x w b := by
  funext y
  obtain ⟨l, r, n, rfl⟩ : ∃ (l : Fin 4) (r : Fin 8) (n : Fin 12288), y = ix3 l r n := ⟨_, _, _, eq_ix3 y⟩
  refine (broadcastInDim_apply _ _ _ (ix3 l r n) (ix3 l (0 : Fin 1) n : S4x1x12288.Idx) fun a => match a with
    | ⟨0, _⟩ => rfl | ⟨1, _⟩ => rfl | ⟨2, _⟩ => rfl).trans ?_
  refine congrArg₂ (fun u v : EReal => u + v) ((transpose_apply _ _ _ _ (ix3 l n (0 : Fin 1) : S4x12288x1.Idx) ?_).trans (productVec_apply x w l n)) ?_
  · intro a
    match a with
    | ⟨0, _⟩ => rfl
    | ⟨1, _⟩ => rfl
    | ⟨2, _⟩ => rfl
  · exact broadcastInDim_apply _ _ b _ (ix2 l n : S4x12288.Idx) fun a => match a with | ⟨0, _⟩ => rfl | ⟨1, _⟩ => rfl

end Reference

open Cert.AdaIdeal Cert.AdaIdeal.Gen Cert.AdaIdeal.Value

/-! ## The body -/

/-- What the body stores, at an entry, from the blocks it reads. -/
theorem body_apply (x : FVec Ideal S8x2048 .f32) (w : FVec Ideal S1x2048x1024 .f32) (b : FVec Ideal S1x1x1024 .f32) (r : Fin 8) (q : Fin 1024) :
    k0_pay1 x w b (ix3 0 r q)
      = ((∑ k : Fin 2048, (x (ix2 r k) * Ideal.logistic (x (ix2 r k))) * w (ix3 0 k q)) + b (ix3 0 0 q) : EReal) := by
  unfold k0_pay1
  refine (shapeCast_apply _ shapeCasts_S8x1024_S1x8x1024 (ix3 0 r q) (ix2 r q : S8x1024.Idx) ?_).trans ?_
  · refine (Shape.rowMajor_val_two (d := ![8, 1024]) _).trans ((?_ : _ = _).trans (Shape.rowMajor_val_three (d := ![1, 8, 1024]) _).symm)
    show r.val * 1024 + q.val = (0 * 8 + r.val) * 1024 + q.val
    omega
  refine congrArg₂ (fun u v : EReal => u + v) ?_ ?_
  · refine (Ideal.matmul_plain_apply (M := 8) (K := 2048) (N := 1024) (some .fp32)
      (mulf (shapeCast S8x2048 x shapeCasts_S8x2048_S8x2048) (logistic (shapeCast S8x2048 x shapeCasts_S8x2048_S8x2048)))
      (shapeCast S2048x1024 w shapeCasts_S1x2048x1024_S2048x1024) (constant S8x1024 .f32 0x00000000#32) r q).trans ?_
    have ez : (constant (F := Ideal) S8x1024 .f32 0x00000000#32) (ix2 r q) = (0 : EReal) := Ideal.ofBits_zero_f32
    rw [ez, zero_add]
    refine Finset.sum_congr rfl fun k _ => congrArg₂ (fun u v : EReal => u * v) ?_ ?_
    · have e : shapeCast S8x2048 x shapeCasts_S8x2048_S8x2048 (ix2 r k) = x (ix2 r k) := shapeCast_apply x _ _ (ix2 r k) rfl
      exact congrArg (fun u : EReal => u * Ideal.logistic u) e
    · refine shapeCast_apply w _ _ (ix3 (0 : Fin 1) k q : S1x2048x1024.Idx) ?_
      refine (Shape.rowMajor_val_three (d := ![1, 2048, 1024]) _).trans ((?_ : _ = _).trans (Shape.rowMajor_val_two (d := ![2048, 1024]) _).symm)
      show (0 * 2048 + k.val) * 1024 + q.val = k.val * 1024 + q.val
      omega
  · refine (broadcastTo_1b_ab_apply _ _ r q).trans (shapeCast_apply b _ _ (ix3 (0 : Fin 1) (0 : Fin 1) q : S1x1x1024.Idx) ?_)
    refine (Shape.rowMajor_val_three (d := ![1, 1, 1024]) _).trans ((?_ : _ = _).trans (Shape.rowMajor_val_two (d := ![1, 1024]) _).symm)
    show (0 * 1 + 0) * 1024 + q.val = 0 * 1024 + q.val
    omega

variable (m : (ℓ : Loc nD τ sig) → Buf (Elt Ideal) ℓ)

/-! ## What the call is given -/

/-- The condition the call is given is the argument's row, eight times. -/
theorem condition_given (c : Dev nD) (r : Fin 8) (k : Fin 2048) : V m c main_v0 (ix2 r k) = m ((c : Thread nD τ).loc main_arg0) (ix2 0 k) := by
  unfold V; after_results
  exact broadcastInDim_apply _ _ (m ((c : Thread nD τ).loc main_arg0)) _ (ix2 (0 : Fin 1) k : S1x2048.Idx) fun a => match a with | ⟨0, _⟩ => rfl | ⟨1, _⟩ => rfl

theorem bias_given (c : Dev nD) (l : Fin 4) (n : Fin 12288) : V m c main_v1 (ix3 l 0 n) = m ((c : Thread nD τ).loc main_arg2) (ix2 l n) := by
  unfold V; after_results
  refine shapeCast_apply (m ((c : Thread nD τ).loc main_arg2)) _ _ (ix2 l n : S4x12288.Idx) ?_
  refine (Shape.rowMajor_val_two (d := ![4, 12288]) _).trans ((?_ : _ = _).trans (Shape.rowMajor_val_three (d := ![4, 1, 12288]) _).symm)
  show l.val * 12288 + n.val = (l.val * 1 + 0) * 12288 + n.val
  omega

/-! ## Column tiles -/

/-- Point `t` takes a layer's column tile: the layer is `t / 12` and the tile `t % 12`. -/
theorem index_facts : ∀ t : Fin grid0.N, t.val < 48 ∧ win0_0.index t (0 : Fin 2) = 0 ∧ win0_0.index t (1 : Fin 2) = 0
    ∧ win0_1.index t (0 : Fin 3) = t.val / 12 ∧ win0_1.index t (1 : Fin 3) = 0 ∧ win0_1.index t (2 : Fin 3) = t.val % 12
    ∧ win0_2.index t (0 : Fin 3) = t.val / 12 ∧ win0_2.index t (1 : Fin 3) = 0 ∧ win0_2.index t (2 : Fin 3) = t.val % 12
    ∧ win0_3.index t (0 : Fin 3) = t.val / 12 ∧ win0_3.index t (1 : Fin 3) = 0 ∧ win0_3.index t (2 : Fin 3) = t.val % 12 := by
  decide +kernel

/-- The layer of point `t`. -/
def layerOf (t : Fin grid0.N) : Fin 4 := ⟨t.val / 12, by have := (index_facts t).1; omega⟩

/-- Column `q` of point `t`'s tile. -/
def colOf (t : Fin grid0.N) (q : Fin 1024) : Fin 12288 := ⟨1024 * (t.val % 12) + q.val, by omega⟩

/-- An index in the block of point `t`, by its coordinates. -/
theorem point_index {A : ℕ} (t : Fin grid0.N) (k : Fin A) (q : Fin 1024) {u v s : ℕ} (hu : u = t.val / 12) (hv : v = 0) (hs : s = t.val % 12)
    (y : (⟨3, ![4, A, 12288]⟩ : Shape).Idx) (h0 : (y 0).val = u * 1 + 1 * 0) (h1 : (y 1).val = v * A + 1 * k.val)
    (h2 : (y 2).val = s * 1024 + 1 * q.val) : y = ix3 (layerOf t) k (colOf t q) := by
  subst hu hv hs
  funext a
  refine Fin.ext ?_
  match a with
  | ⟨0, _⟩ => exact h0.trans (by show t.val / 12 * 1 + 1 * 0 = t.val / 12; omega)
  | ⟨1, _⟩ => exact h1.trans (by show 0 * A + 1 * k.val = k.val; omega)
  | ⟨2, _⟩ => exact h2.trans (by show t.val % 12 * 1024 + 1 * q.val = 1024 * (t.val % 12) + q.val; omega)

theorem condition_apply (c : Dev nD) (t : Fin cfg0.N) (r : Fin 8) (k : Fin 2048) :
    iblk m c 0 t (ix2 r k) = m ((c : Thread nD τ).loc main_arg0) (ix2 0 k) :=
  (congrArg (V m c main_v0) (Cert.ProjectProof.whole_index r k (index_facts t).2.1 (index_facts t).2.2.1 _ rfl rfl)).trans (condition_given m c r k)

theorem weights_apply (c : Dev nD) (t : Fin cfg0.N) (k : Fin 2048) (q : Fin 1024) :
    iblk m c 1 t (ix3 0 k q) = m ((c : Thread nD τ).loc main_arg1) (ix3 (layerOf t) k (colOf t q)) :=
  (congrArg (V m c main_arg1) (point_index t k q (index_facts t).2.2.2.1 (index_facts t).2.2.2.2.1 (index_facts t).2.2.2.2.2.1 _ rfl rfl rfl)).trans
    (congrFun (V_main_arg1 m c) _)

theorem bias_apply (c : Dev nD) (t : Fin cfg0.N) (q : Fin 1024) :
    iblk m c 2 t (ix3 0 0 q) = m ((c : Thread nD τ).loc main_arg2) (ix2 (layerOf t) (colOf t q)) :=
  (congrArg (V m c main_v1) (point_index t (0 : Fin 1) q (index_facts t).2.2.2.2.2.2.1 (index_facts t).2.2.2.2.2.2.2.1 (index_facts t).2.2.2.2.2.2.2.2.1 _ rfl rfl rfl)).trans
    (bias_given m c _ _)

/-- The table of the call's arguments. -/
abbrev tabledOf (c : Dev nD) : S4x8x12288.Idx → Elt Ideal .f32 :=
  tabled (m ((c : Thread nD τ).loc main_arg0)) (m ((c : Thread nD τ).loc main_arg1)) (m ((c : Thread nD τ).loc main_arg2))

/-- What a point writes back is its block of the table. -/
theorem flushed_tabled (c : Dev nD) (t : Fin cfg0.N) :
    (dats m 0 c).flushed 3 t = ((cfg0.win 3).blk t).view.read (Elt Ideal) (tabledOf m c) := by
  rw [flushed3]
  unfold out0_3
  rw [View.canon_unit_zero Cert.MergeProof.zero3, View.ld_unit_zero (S := S8x2048) Cert.ProjectProof.zero2, View.ld_unit_zero (S := S1x2048x1024) Cert.MergeProof.zero3,
    View.ld_unit_zero (S := S1x1x1024) Cert.MergeProof.zero3]
  funext y
  obtain ⟨z, r, q, rfl⟩ : ∃ (z : Fin 1) (r : Fin 8) (q : Fin 1024), y = ix3 z r q := ⟨_, _, _, eq_ix3 y⟩
  obtain rfl : z = 0 := Subsingleton.elim _ _
  refine (body_apply (iblk m c 0 t) (iblk m c 1 t) (iblk m c 2 t) r q).trans (Eq.trans ?_ (congrArg (tabledOf m c)
    (point_index t r q (index_facts t).2.2.2.2.2.2.2.2.2.1 (index_facts t).2.2.2.2.2.2.2.2.2.2.1 (index_facts t).2.2.2.2.2.2.2.2.2.2.2 _ rfl rfl rfl)).symm)
  refine congrArg₂ (fun u v : EReal => u + v) (Finset.sum_congr rfl fun k _ => congrArg₂ (fun u v : EReal => u * v)
    (congrArg (fun u : EReal => u * Ideal.logistic u) (condition_apply m c t r k)) (weights_apply m c t k q)) (bias_apply m c t q)

/-- Every entry of the array is in some point's block. -/
theorem covered (i : S4x8x12288.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 12288 := (i 2).isLt
  let t : Fin cfg0.N := ⟨12 * (i 0).val + (i 2).val / 1024, by rw [show cfg0.N = 48 from N_0]; omega⟩
  refine ⟨t, flush0_3 t, ?_⟩
  show i ∈ ((View.whole main_v2).slice (win0_3.rect t)).set
  rw [View.set_slice_whole, Rect.mem_set_unit]
  have e0 : win0_3.index t (0 : Fin 3) = (12 * (i 0).val + (i 2).val / 1024) / 12 := (index_facts t).2.2.2.2.2.2.2.2.2.1
  have e1 : win0_3.index t (1 : Fin 3) = 0 := (index_facts t).2.2.2.2.2.2.2.2.2.2.1
  have e2 : win0_3.index t (2 : Fin 3) = (12 * (i 0).val + (i 2).val / 1024) % 12 := (index_facts t).2.2.2.2.2.2.2.2.2.2.2
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 8 ≤ (i 1).val ∧ (i 1).val < win0_3.index t (1 : Fin 3) * 8 + 8; rw [e1]; omega
  | ⟨2, _⟩ => show win0_3.index t (2 : Fin 3) * 1024 ≤ (i 2).val ∧ (i 2).val < win0_3.index t (2 : Fin 3) * 1024 + 1024; rw [e2]; omega

/-- The result array after the run is the table. -/
theorem final_tabled (c : Dev nD) : (dats m 0 c).arrAt 3 cfg0.N = tabledOf m c :=
  (dats m 0 c).arrAt_eq_of_cover 3 _ (fun t _ => flushed_tabled m c t) covered

end Cert.AdaProof

end
-- ==== Proof.lean ====
module

public import proofs.«01_k».proof.Defs
public import proofs.«01_k».proof.Proof.Gen.Dispatch
public import proofs.«01_k».proof.Proof.Gen.Dispatch.Skeleton
public import proofs.«01_k».proof.Proof.Gen.Dispatch.Loops
public import proofs.«01_k».proof.Proof.Gen.Dispatch.Launch
public import proofs.«01_k».proof.Proof.Gen.Dispatch.Points
public import proofs.«01_k».proof.Proof.Gen.Dispatch.Frame
public import proofs.«01_k».proof.Proof.Gen.DispatchIdeal
public import proofs.«01_k».proof.Proof.Gen.DispatchIdeal.Skeleton
public import proofs.«01_k».proof.Proof.Gen.DispatchIdeal.Loops
public import proofs.«01_k».proof.Proof.Gen.DispatchIdeal.Launch
public import proofs.«01_k».proof.Proof.Gen.DispatchIdeal.Points
public import proofs.«01_k».proof.Proof.Gen.DispatchIdeal.Frame
public import proofs.«01_k».proof.Proof.Gen.DispatchRefIdeal
public import proofs.«01_k».proof.Proof.Gen.DispatchRefIdeal.Run
public import proofs.«01_k».proof.Proof.Gen.DispatchRef
public import proofs.«01_k».proof.Proof.Gen.DispatchRef.Run
public import proofs.«01_k».proof.Proof.Gen.Pre_dest_names_distinct_slots
public import proofs.«01_k».proof.Proof.DispatchTable
public import proofs.«01_k».proof.Proof.MergeValue
public import proofs.«01_k».proof.Proof.Gen.MergeIdeal.Value
public import proofs.«01_k».proof.Proof.Gen.MergeRefIdeal.Run
public import proofs.«01_k».proof.Proof.Gen.Merge.Frame
public import proofs.«01_k».proof.Proof.Gen.MergeIdeal.Frame
public import proofs.«01_k».proof.Proof.Gen.ProjectA.Frame
public import proofs.«01_k».proof.Proof.Gen.ProjectAIdeal.Frame
public import proofs.«01_k».proof.Proof.Gen.ProjectAIdeal.Value
public import proofs.«01_k».proof.Proof.Gen.ProjectARefIdeal.Run
public import proofs.«01_k».proof.Proof.Gen.ProjectB.Frame
public import proofs.«01_k».proof.Proof.Gen.ProjectBIdeal.Frame
public import proofs.«01_k».proof.Proof.Gen.ProjectBIdeal.Value
public import proofs.«01_k».proof.Proof.Gen.ProjectBRefIdeal.Run
public import proofs.«01_k».proof.Proof.Gen.ProjectC.Frame
public import proofs.«01_k».proof.Proof.Gen.ProjectCIdeal.Frame
public import proofs.«01_k».proof.Proof.Gen.ProjectCIdeal.Value
public import proofs.«01_k».proof.Proof.Gen.ProjectCRefIdeal.Run
public import proofs.«01_k».proof.Proof.Gen.ProjectD.Frame
public import proofs.«01_k».proof.Proof.Gen.ProjectDIdeal.Frame
public import proofs.«01_k».proof.Proof.Gen.ProjectDIdeal.Value
public import proofs.«01_k».proof.Proof.Gen.ProjectDRefIdeal.Run
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.ProjectAValue
public import proofs.«01_k».proof.Proof.ProjectBValue
public import proofs.«01_k».proof.Proof.ProjectCValue
public import proofs.«01_k».proof.Proof.ProjectDValue
public import proofs.«01_k».proof.Proof.OutValue
public import proofs.«01_k».proof.Proof.Gen.Experts
public import proofs.«01_k».proof.Proof.Gen.ExpertsIdeal
public import proofs.«01_k».proof.Proof.Gen.ExpertsRefIdeal
public import proofs.«01_k».proof.Proof.Gen.ExpertsIdeal.Launch
public import proofs.«01_k».proof.Proof.Gen.ExpertsIdeal.Skeleton
public import proofs.«01_k».proof.Proof.Gen.ExpertsIdeal.Flash
public import proofs.«01_k».proof.Proof.Gen.ExpertsRefIdeal.Run
public import proofs.«01_k».proof.Proof.Gen.Pre_blocks_name_experts
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.ExpertsLaunch
public import proofs.«01_k».proof.Proof.ExpertsValue
public import proofs.«01_k».proof.Proof.AdaValue
public import Idealize.ShloMosaic.Adequacy
public import Idealize.ShloMosaic.Init

@[expose] public section

noncomputable section

namespace Cert.Proof

open Idealize.ShloMosaic Idealize.SL.Sem Cert.DispatchProof

/-! ## The dispatch -/

/-- The two prints of the dispatch have the same bodies. -/
theorem bodies_same : Cert.Dispatch.defs₀ (F := Bits) = Cert.DispatchIdeal.defs₀ (F := Bits) := by
  unfold Cert.Dispatch.defs₀ Cert.DispatchIdeal.defs₀
  congr 1
  funext l a
  match l, a with
  | ⟨0, _⟩, (t, s) => rfl

theorem defs_same : Cert.Dispatch.defs (F := Bits) = Cert.DispatchIdeal.defs (F := Bits) :=
  congrArg (Pipeline.defs (Cert.DispatchIdeal.pcfgs (F := Bits))) bodies_same

theorem main_same : Cert.Dispatch.main (F := Bits) = Cert.DispatchIdeal.main (F := Bits) := rfl

/-- The run over any float values, of the first print at the machine's. -/
theorem run_bits (m : (ℓ : Loc Cert.Dispatch.nD Cert.Dispatch.τ Cert.Dispatch.sig) → Buf (Elt Bits) ℓ)
    (ρ : Dev Cert.Dispatch.nD → PrngReg) (hok : AllOK (F := Bits) m) :
    θ_run (Cert.Dispatch.defs (F := Bits)) (onTc (τ := Cert.Dispatch.τ) (Cert.Dispatch.main (F := Bits)))
      ⟨m, fun _ => 0, ρ⟩ (fun r => (∀ c : Dev Cert.Dispatch.nD,
        r.2.mem ((c.tc : Thread Cert.Dispatch.nD Cert.Dispatch.τ).loc Cert.Dispatch.main_arg0) = m ((c.tc : Thread Cert.Dispatch.nD Cert.Dispatch.τ).loc Cert.Dispatch.main_arg0)
        ∧ r.2.mem ((c.tc : Thread Cert.Dispatch.nD Cert.Dispatch.τ).loc Cert.Dispatch.main_arg1) = m ((c.tc : Thread Cert.Dispatch.nD Cert.Dispatch.τ).loc Cert.Dispatch.main_arg1)
        ∧ r.2.mem ((c.tc : Thread Cert.Dispatch.nD Cert.Dispatch.τ).loc Cert.Dispatch.main_v0) = sofar (F := Bits) m c 32)
        ∧ r.2.sem = fun _ => 0) := by
  rw [defs_same, main_same]
  exact run_main (F := Bits) m ρ hok

theorem frame_dispatch : Cert.quiescent_Dispatch := fun m ρ hpre =>
  (θ_run (Cert.Dispatch.defs (F := Bits)) _ _).mono (fun _ h => ⟨fun c => ⟨(h.1 c).1, (h.1 c).2.1⟩, h.2⟩)
    (run_bits m ρ fun c => table_ok _ _ (hpre c))

theorem frame_dispatchIdeal : Cert.quiescent_DispatchIdeal := fun m ρ hpre =>
  (θ_run Cert.DispatchIdeal.defs _ _).mono (fun _ h => ⟨fun c => ⟨(h.1 c).1, (h.1 c).2.1⟩, h.2⟩)
    (run_main (F := Ideal) m ρ fun c => table_ok _ _ (hpre c))

theorem frame_dispatchRefIdeal : Cert.quiescent_DispatchRefIdeal := fun m ρ _ =>
  (θ_run Cert.DispatchRefIdeal.defs _ _).mono (fun r h => ⟨fun c => ⟨(h c).2.1, (h c).2.2⟩, sem_eq_zero_of_no_sems (by decide) r.2⟩)
    (Cert.DispatchRefIdeal.Value.run (F := Ideal) m ρ)

theorem frame_dispatchRef : Cert.quiescent_DispatchRef := fun m ρ _ =>
  (θ_run Cert.DispatchRef.defs _ _).mono (fun r h => ⟨fun c => ⟨(h c).2.1, (h c).2.2⟩, sem_eq_zero_of_no_sems (by decide) r.2⟩)
    (Cert.DispatchRef.Value.run (F := Bits) m ρ)

theorem bitexact_dispatch : Cert.bitexact_Dispatch_DispatchRef := fun m ρ m' ρ' hpre hargs =>
  ⟨fun c => sofar (F := Bits) m c 32,
    (θ_run (Cert.Dispatch.defs (F := Bits)) _ _).mono (fun _ h c => ⟨(h.1 c).2.2, (h.1 c).1, (h.1 c).2.1⟩)
      (run_bits m ρ fun c => table_ok _ _ (hpre c)),
    (θ_run Cert.DispatchRef.defs _ _).mono (fun _ h c => ⟨((h c).1.trans (by
        rw [(hargs c).1, (hargs c).2]
        exact refOf_eq (table_ok _ _ (hpre c)) _)), (h c).2.1, (h c).2.2⟩)
      (Cert.DispatchRef.Value.run (F := Bits) m' ρ')⟩

theorem algebraic_dispatch : Cert.algebraic_DispatchIdeal_DispatchRefIdeal := fun m ρ m' ρ' hpre hargs =>
  ⟨fun c => sofar (F := Ideal) m c 32,
    (θ_run Cert.DispatchIdeal.defs _ _).mono (fun _ h c => ⟨(h.1 c).2.2, (h.1 c).1, (h.1 c).2.1⟩)
      (run_main (F := Ideal) m ρ fun c => table_ok _ _ (hpre c)),
    (θ_run Cert.DispatchRefIdeal.defs _ _).mono (fun _ h c => ⟨((h c).1.trans (by
        rw [(hargs c).1, (hargs c).2]
        exact refOf_eq (table_ok _ _ (hpre c)) _)), (h c).2.1, (h c).2.2⟩)
      (Cert.DispatchRefIdeal.Value.run (F := Ideal) m' ρ')⟩

/-! ## The merge -/

theorem frame_merge : Cert.quiescent_Merge := fun m ρ _ => Cert.Merge.Gen.frame (F := Bits) m ρ

theorem frame_mergeIdeal : Cert.quiescent_MergeIdeal := fun m ρ _ => Cert.MergeIdeal.Gen.frame (F := Ideal) m ρ

theorem frame_mergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic_merge : Cert.algebraic_MergeIdeal_MergeRefIdeal := fun m ρ m' ρ' _ hargs =>
  ⟨fun c => Cert.MergeProof.mergedOf m c,
    (θ_run Cert.MergeIdeal.defs _ _).mono (fun _ h c => ⟨(h c).1.trans (Cert.MergeProof.final_merged m c), (h c).2⟩)
      (Cert.MergeIdeal.Value.run_blocks (F := Ideal) m ρ),
    (θ_run Cert.MergeRefIdeal.defs _ _).mono (fun _ h c => ⟨(h c).1.trans (by
        obtain ⟨e0, e1, e2, e3, e4, e5, e6, e7⟩ := hargs c
        rw [Cert.MergeProof.ref_merged, e0, e1, e2, e3, e4, e5, e6, e7]), (h c).2⟩)
      (Cert.MergeRefIdeal.Value.run (F := Ideal) m' ρ')⟩

/-! ## The input projections -/

theorem frame_projectA : Cert.quiescent_ProjectA := fun m ρ _ => Cert.ProjectA.Gen.frame (F := Bits) m ρ

theorem frame_projectAIdeal : Cert.quiescent_ProjectAIdeal := fun m ρ _ => Cert.ProjectAIdeal.Gen.frame (F := Ideal) m ρ

theorem frame_projectARefIdeal : Cert.quiescent_ProjectARefIdeal := fun m ρ _ =>
  (θ_run Cert.ProjectARefIdeal.defs _ _).mono (fun r h => ⟨fun c => (h c).2, sem_eq_zero_of_no_sems (by decide) r.2⟩)
    (Cert.ProjectARefIdeal.Value.run (F := Ideal) m ρ)

theorem algebraic_projectA : Cert.algebraic_ProjectAIdeal_ProjectARefIdeal := fun m ρ m' ρ' _ hargs =>
  ⟨fun c => Cert.ProjectProof.A.projectedOf m c,
    (θ_run Cert.ProjectAIdeal.defs _ _).mono (fun _ h c => ⟨(h c).1.trans (Cert.ProjectProof.A.final_projected m c), (h c).2⟩)
      (Cert.ProjectAIdeal.Value.run_blocks (F := Ideal) m ρ),
    (θ_run Cert.ProjectARefIdeal.defs _ _).mono (fun _ h c => ⟨(h c).1.trans (by
        obtain ⟨e0, e1⟩ := hargs c
        rw [e0, e1]
        exact Cert.ProjectProof.A.ref_projected _ _), (h c).2⟩)
      (Cert.ProjectARefIdeal.Value.run (F := Ideal) m' ρ')⟩

theorem frame_projectB : Cert.quiescent_ProjectB := fun m ρ _ => Cert.ProjectB.Gen.frame (F := Bits) m ρ

theorem frame_projectBIdeal : Cert.quiescent_ProjectBIdeal := fun m ρ _ => Cert.ProjectBIdeal.Gen.frame (F := Ideal) m ρ

theorem frame_projectBRefIdeal : Cert.quiescent_ProjectBRefIdeal := fun m ρ _ =>
  (θ_run Cert.ProjectBRefIdeal.defs _ _).mono (fun r h => ⟨fun c => (h c).2, sem_eq_zero_of_no_sems (by decide) r.2⟩)
    (Cert.ProjectBRefIdeal.Value.run (F := Ideal) m ρ)

theorem algebraic_projectB : Cert.algebraic_ProjectBIdeal_ProjectBRefIdeal := fun m ρ m' ρ' _ hargs =>
  ⟨fun c => Cert.ProjectProof.B.projectedOf m c,
    (θ_run Cert.ProjectBIdeal.defs _ _).mono (fun _ h c => ⟨(h c).1.trans (Cert.ProjectProof.B.final_projected m c), (h c).2⟩)
      (Cert.ProjectBIdeal.Value.run_blocks (F := Ideal) m ρ),
    (θ_run Cert.ProjectBRefIdeal.defs _ _).mono (fun _ h c => ⟨(h c).1.trans (by
        obtain ⟨e0, e1⟩ := hargs c
        rw [e0, e1]
        exact Cert.ProjectProof.B.ref_projected _ _ _ (Cert.ProjectProof.ref_product_eq _ _ _ _ _)), (h c).2⟩)
      (Cert.ProjectBRefIdeal.Value.run (F := Ideal) m' ρ')⟩

theorem frame_projectC : Cert.quiescent_ProjectC := fun m ρ _ => Cert.ProjectC.Gen.frame (F := Bits) m ρ

theorem frame_projectCIdeal : Cert.quiescent_ProjectCIdeal := fun m ρ _ => Cert.ProjectCIdeal.Gen.frame (F := Ideal) m ρ

theorem frame_projectCRefIdeal : Cert.quiescent_ProjectCRefIdeal := fun m ρ _ =>
  (θ_run Cert.ProjectCRefIdeal.defs _ _).mono (fun r h => ⟨fun c => (h c).2, sem_eq_zero_of_no_sems (by decide) r.2⟩)
    (Cert.ProjectCRefIdeal.Value.run (F := Ideal) m ρ)

theorem algebraic_projectC : Cert.algebraic_ProjectCIdeal_ProjectCRefIdeal := fun m ρ m' ρ' _ hargs =>
  ⟨fun c => Cert.ProjectProof.C.projectedOf m c,
    (θ_run Cert.ProjectCIdeal.defs _ _).mono (fun _ h c => ⟨(h c).1.trans (Cert.ProjectProof.C.final_projected m c), (h c).2⟩)
      (Cert.ProjectCIdeal.Value.run_blocks (F := Ideal) m ρ),
    (θ_run Cert.ProjectCRefIdeal.defs _ _).mono (fun _ h c => ⟨(h c).1.trans (by
        obtain ⟨e0, e1⟩ := hargs c
        rw [e0, e1]
        exact Cert.ProjectProof.C.ref_projected _ _ _ (Cert.ProjectProof.ref_product_eq _ _ _ _ _)), (h c).2⟩)
      (Cert.ProjectCRefIdeal.Value.run (F := Ideal) m' ρ')⟩

theorem frame_projectD : Cert.quiescent_ProjectD := fun m ρ _ => Cert.ProjectD.Gen.frame (F := Bits) m ρ

theorem frame_projectDIdeal : Cert.quiescent_ProjectDIdeal := fun m ρ _ => Cert.ProjectDIdeal.Gen.frame (F := Ideal) m ρ

theorem frame_projectDRefIdeal : Cert.quiescent_ProjectDRefIdeal := fun m ρ _ =>
  (θ_run Cert.ProjectDRefIdeal.defs _ _).mono (fun r h => ⟨fun c => (h c).2, sem_eq_zero_of_no_sems (by decide) r.2⟩)
    (Cert.ProjectDRefIdeal.Value.run (F := Ideal) m ρ)

theorem algebraic_projectD : Cert.algebraic_ProjectDIdeal_ProjectDRefIdeal := fun m ρ m' ρ' _ hargs =>
  ⟨fun c => Cert.ProjectProof.D.projectedOf m c,
    (θ_run Cert.ProjectDIdeal.defs _ _).mono (fun _ h c => ⟨(h c).1.trans (Cert.ProjectProof.D.final_projected m c), (h c).2⟩)
      (Cert.ProjectDIdeal.Value.run_blocks (F := Ideal) m ρ),
    (θ_run Cert.ProjectDRefIdeal.defs _ _).mono (fun _ h c => ⟨(h c).1.trans (by
        obtain ⟨e0, e1⟩ := hargs c
        rw [e0, e1]
        exact Cert.ProjectProof.D.ref_projected _ _), (h c).2⟩)
      (Cert.ProjectDRefIdeal.Value.run (F := Ideal) m' ρ')⟩

/-! ## The output call -/

theorem frame_out : Cert.quiescent_Out := fun m ρ _ => Cert.Out.Gen.frame (F := Bits) m ρ

theorem frame_outIdeal : Cert.quiescent_OutIdeal := fun m ρ _ => Cert.OutIdeal.Gen.frame (F := Ideal) m ρ

theorem frame_outRefIdeal : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem algebraic_out : Cert.algebraic_OutIdeal_OutRefIdeal := fun m ρ m' ρ' _ hargs =>
  ⟨fun c => Cert.OutProof.normedOf m c, fun c => Cert.OutProof.modulatedOf m c,
    (θ_run Cert.OutIdeal.defs _ _).mono
      (fun _ h c => ⟨(h c).1.trans (Cert.OutProof.final_normed m c), (h c).2.1.trans (Cert.OutProof.final_modulated m c), (h c).2.2⟩)
      (Cert.OutIdeal.Value.run_blocks (F := Ideal) m ρ),
    (θ_run Cert.OutRefIdeal.defs _ _).mono (fun _ h c => by
        obtain ⟨e0, e1, e2, e3, e4, e5⟩ := hargs c
        exact ⟨(h c).1.trans ((Cert.OutProof.ref_normed m' c).trans (by rw [e0, e1, e2, e3, e4, e5])),
          (h c).2.1.trans ((Cert.OutProof.ref_modulated m' c).trans (by rw [e0, e1, e2, e3, e4, e5])), (h c).2.2⟩)
      (Cert.OutRefIdeal.Value.run (F := Ideal) m' ρ')⟩

/-! ## The experts' call -/

/-- The two prints of the experts' call have the same bodies. -/
theorem experts_bodies_same : Cert.Experts.defs₀ (F := Bits) = Cert.ExpertsIdeal.defs₀ (F := Bits) := by
  unfold Cert.Experts.defs₀ Cert.ExpertsIdeal.defs₀
  congr 1
  funext l a
  match l, a with
  | ⟨0, _⟩, (t, s) => rfl

theorem experts_defs_same : Cert.Experts.defs (F := Bits) = Cert.ExpertsIdeal.defs (F := Bits) :=
  congrArg (Pipeline.defs (Cert.ExpertsIdeal.pcfgs (F := Bits))) experts_bodies_same

theorem experts_main_same : Cert.Experts.main (F := Bits) = Cert.ExpertsIdeal.main (F := Bits) := rfl

/-- The run over any float values, of the first print at the machine's. -/
theorem run_experts (m : (ℓ : Loc Cert.Experts.nD Cert.Experts.τ Cert.Experts.sig) → Buf (Elt Bits) ℓ)
    (ρ : Dev Cert.Experts.nD → PrngReg) (hok : Cert.ExpertsProof.AllOK (F := Bits) m) :
    θ_run (Cert.Experts.defs (F := Bits)) (onTc (τ := Cert.Experts.τ) (Cert.Experts.main (F := Bits)))
      ⟨m, fun _ => 0, ρ⟩ (fun r => (∀ c : Dev Cert.Experts.nD,
        r.2.mem ((c.tc : Thread Cert.Experts.nD Cert.Experts.τ).loc Cert.Experts.main_arg0) = m ((c.tc : Thread Cert.Experts.nD Cert.Experts.τ).loc Cert.Experts.main_arg0)
        ∧ r.2.mem ((c.tc : Thread Cert.Experts.nD Cert.Experts.τ).loc Cert.Experts.main_arg1) = m ((c.tc : Thread Cert.Experts.nD Cert.Experts.τ).loc Cert.Experts.main_arg1)
        ∧ r.2.mem ((c.tc : Thread Cert.Experts.nD Cert.Experts.τ).loc Cert.Experts.main_arg2) = m ((c.tc : Thread Cert.Experts.nD Cert.Experts.τ).loc Cert.Experts.main_arg2)
        ∧ r.2.mem ((c.tc : Thread Cert.Experts.nD Cert.Experts.τ).loc Cert.Experts.main_arg3) = m ((c.tc : Thread Cert.Experts.nD Cert.Experts.τ).loc Cert.Experts.main_arg3)
        ∧ r.2.mem ((c.tc : Thread Cert.Experts.nD Cert.Experts.τ).loc Cert.Experts.main_arg4) = m ((c.tc : Thread Cert.Experts.nD Cert.Experts.τ).loc Cert.Experts.main_arg4)
        ∧ r.2.mem ((c.tc : Thread Cert.Experts.nD Cert.Experts.τ).loc Cert.Experts.main_arg5) = m ((c.tc : Thread Cert.Experts.nD Cert.Experts.τ).loc Cert.Experts.main_arg5))
        ∧ r.2.sem = fun _ => 0) := by
  rw [experts_defs_same, experts_main_same]
  exact (θ_run _ _ _).mono (fun r h => ⟨fun c => ⟨(h.1 c).1, (h.1 c).2.1, (h.1 c).2.2.1, (h.1 c).2.2.2.1, (h.1 c).2.2.2.2.1, (h.1 c).2.2.2.2.2.1⟩, h.2⟩)
    (Cert.ExpertsProof.run_main (F := Bits) m ρ hok)

theorem frame_experts : Cert.quiescent_Experts := fun m ρ hpre =>
  run_experts m ρ (Cert.ExpertsProof.blocks_ok _ _ _ _ _ _ (hpre 0))

theorem frame_expertsIdeal : Cert.quiescent_ExpertsIdeal := fun m ρ hpre =>
  (θ_run Cert.ExpertsIdeal.defs _ _).mono
    (fun r h => ⟨fun c => ⟨(h.1 c).1, (h.1 c).2.1, (h.1 c).2.2.1, (h.1 c).2.2.2.1, (h.1 c).2.2.2.2.1, (h.1 c).2.2.2.2.2.1⟩, h.2⟩)
    (Cert.ExpertsProof.run_main (F := Ideal) m ρ (Cert.ExpertsProof.blocks_ok _ _ _ _ _ _ (hpre 0)))

theorem frame_expertsRefIdeal : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The reference's result, of arrays that are the kernel's. -/
theorem experts_ref (m : (ℓ : Loc Cert.ExpertsIdeal.nD Cert.ExpertsIdeal.τ Cert.ExpertsIdeal.sig) → Buf (Elt Ideal) ℓ)
    (hok : Cert.ExpertsProof.AllOK (F := Ideal) m) (c : Dev Cert.ExpertsIdeal.nD) :
    Cert.ExpertsProof.refOf (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4))
      (m ((c.tc : Thread Cert.ExpertsIdeal.nD Cert.ExpertsIdeal.τ).loc Cert.ExpertsIdeal.main_arg5))
      = Cert.ExpertsProof.result m hok c := by
  obtain rfl : c = 0 := Subsingleton.elim _ _
  exact (Cert.ExpertsProof.refOf_eq _ _ _ _ _ _ hok).trans (Cert.ExpertsProof.result_experted m hok 0).symm

theorem algebraic_experts : Cert.algebraic_ExpertsIdeal_ExpertsRefIdeal := fun m ρ m' ρ' hpre hargs =>
  have hok : Cert.ExpertsProof.AllOK (F := Ideal) m := Cert.ExpertsProof.blocks_ok _ _ _ _ _ _ (hpre 0)
  ⟨fun c => Cert.ExpertsProof.result m hok c,
    (θ_run Cert.ExpertsIdeal.defs _ _).mono
      (fun r h c => ⟨(h.1 c).2.2.2.2.2.2.trans (Cert.ExpertsProof.final_eq m hok c),
        (h.1 c).1, (h.1 c).2.1, (h.1 c).2.2.1, (h.1 c).2.2.2.1, (h.1 c).2.2.2.2.1, (h.1 c).2.2.2.2.2.1⟩)
      (Cert.ExpertsProof.run_main (F := Ideal) m ρ hok),
    (θ_run Cert.ExpertsRefIdeal.defs _ _).mono (fun _ h c => ⟨(h c).1.trans (by
        obtain ⟨e0, e1, e2, e3, e4, e5⟩ := hargs c
        rw [e0, e1, e2, e3, e4, e5]
        exact experts_ref m hok c), (h c).2⟩)
      (Cert.ExpertsRefIdeal.Value.run (F := Ideal) m' ρ')⟩

/-! ## The adaLN table -/

theorem frame_ada : Cert.quiescent_Ada := fun m ρ _ => Cert.Ada.Gen.frame (F := Bits) m ρ

theorem frame_adaIdeal : Cert.quiescent_AdaIdeal := fun m ρ _ => Cert.AdaIdeal.Gen.frame (F := Ideal) m ρ

theorem frame_adaRefIdeal : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem algebraic_ada : Cert.algebraic_AdaIdeal_AdaRefIdeal := fun m ρ m' ρ' _ hargs =>
  ⟨fun c => Cert.AdaProof.tabledOf m c,
    (θ_run Cert.AdaIdeal.defs _ _).mono (fun _ h c => ⟨(h c).1.trans (Cert.AdaProof.final_tabled m c), (h c).2⟩)
      (Cert.AdaIdeal.Value.run_blocks (F := Ideal) m ρ),
    (θ_run Cert.AdaRefIdeal.defs _ _).mono (fun _ h c => ⟨(h c).1.trans (by
        obtain ⟨e0, e1, e2⟩ := hargs c
        rw [e0, e1, e2]
        exact Cert.AdaProof.ref_tabled _ _ _), (h c).2⟩)
      (Cert.AdaRefIdeal.Value.run (F := Ideal) m' ρ')⟩

theorem claim : Cert.Claim := ⟨Cert.Dispatch.Gen.facts, Cert.DispatchIdeal.Gen.facts, Cert.DispatchRefIdeal.Gen.facts,
  Cert.DispatchRef.Gen.facts, Cert.Merge.Gen.facts, Cert.MergeIdeal.Gen.facts, Cert.MergeRefIdeal.Gen.facts,
  Cert.ProjectA.Gen.facts, Cert.ProjectAIdeal.Gen.facts, Cert.ProjectARefIdeal.Gen.facts,
  Cert.ProjectB.Gen.facts, Cert.ProjectBIdeal.Gen.facts, Cert.ProjectBRefIdeal.Gen.facts,
  Cert.ProjectC.Gen.facts, Cert.ProjectCIdeal.Gen.facts, Cert.ProjectCRefIdeal.Gen.facts,
  Cert.ProjectD.Gen.facts, Cert.ProjectDIdeal.Gen.facts, Cert.ProjectDRefIdeal.Gen.facts,
  Cert.Out.Gen.facts, Cert.OutIdeal.Gen.facts, Cert.OutRefIdeal.Gen.facts,
  Cert.Experts.Gen.facts, Cert.ExpertsIdeal.Gen.facts, Cert.ExpertsRefIdeal.Gen.facts,
  Cert.Ada.Gen.facts, Cert.AdaIdeal.Gen.facts, Cert.AdaRefIdeal.Gen.facts,
  Cert.Pre_dest_names_distinct_slots.Gen.facts, Cert.Pre_blocks_name_experts.Gen.facts,
  frame_dispatch, frame_dispatchIdeal, frame_dispatchRefIdeal, fun m ρ _ => frame_dispatchRefIdeal m ρ trivial, frame_dispatchRef,
  frame_merge, frame_mergeIdeal, frame_mergeRefIdeal,
  frame_projectA, frame_projectAIdeal, frame_projectARefIdeal,
  frame_projectB, frame_projectBIdeal, frame_projectBRefIdeal,
  frame_projectC, frame_projectCIdeal, frame_projectCRefIdeal,
  frame_projectD, frame_projectDIdeal, frame_projectDRefIdeal,
  frame_out, frame_outIdeal, frame_outRefIdeal,
  frame_experts, frame_expertsIdeal, frame_expertsRefIdeal, fun m ρ _ => frame_expertsRefIdeal m ρ trivial,
  frame_ada, frame_adaIdeal, frame_adaRefIdeal,
  trivial, bitexact_dispatch, algebraic_dispatch, trivial, algebraic_merge,
  trivial, algebraic_projectA, trivial, algebraic_projectB, trivial, algebraic_projectC, trivial, algebraic_projectD, trivial, algebraic_out,
  trivial, algebraic_experts, trivial, algebraic_ada⟩

end Cert.Proof

end
